-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_KernelIdeal [hPre_routed_KernelIdeal : Cert.Pre_routed_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_ReferenceIdeal [hPre_routed_ReferenceIdeal : Cert.Pre_routed_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_KernelIdeal [hKernelIdeal : Cert.KernelIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_ReferenceIdeal [hReferenceIdeal : Cert.ReferenceIdeal.Facts] [hPre_routed_ReferenceIdeal : Cert.Pre_routed_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_KernelIdeal [hKernelIdeal : Cert.KernelIdeal.Facts] [hReferenceIdeal : Cert.ReferenceIdeal.Facts] [hPre_routed_KernelIdeal : Cert.Pre_routed_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_KernelIdeal : Cert.Pre_routed_KernelIdeal.Facts) (hPre_routed_ReferenceIdeal : Cert.Pre_routed_ReferenceIdeal.Facts),
    quiescent_Kernel (hKernel := hKernel)
    ∧ quiescent_KernelIdeal (hKernelIdeal := hKernelIdeal)
    ∧ quiescent_KernelIdeal_pre_routed_KernelIdeal (hKernelIdeal := hKernelIdeal) (hPre_routed_KernelIdeal := hPre_routed_KernelIdeal)
    ∧ quiescent_ReferenceIdeal (hReferenceIdeal := hReferenceIdeal)
    ∧ quiescent_ReferenceIdeal_pre_routed_ReferenceIdeal (hReferenceIdeal := hReferenceIdeal) (hPre_routed_ReferenceIdeal := hPre_routed_ReferenceIdeal)
    ∧ preserves_Kernel_KernelIdeal
    ∧ algebraic_KernelIdeal_ReferenceIdeal_pre_routed_KernelIdeal (hKernelIdeal := hKernelIdeal) (hReferenceIdeal := hReferenceIdeal) (hPre_routed_KernelIdeal := hPre_routed_KernelIdeal)
-- ==== Pre_routed_KernelIdeal.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S_ : Shape := ⟨0, ![]⟩
abbrev S16 : Shape := ⟨1, ![16]⟩
abbrev S1x16 : Shape := ⟨2, ![1, 16]⟩
abbrev S1024x1 : Shape := ⟨2, ![1024, 1]⟩
abbrev S1024x16 : Shape := ⟨2, ![1024, 16]⟩
abbrev S4x256x16 : Shape := ⟨3, ![4, 256, 16]⟩
abbrev S4x16 : Shape := ⟨2, ![4, 16]⟩

class Facts : Prop where
  bcast_S_S1024x2 : S_.BroadcastsInDim S1024x2 (![] : Fin 0 → Fin S1024x2.rank)
  bcast_S16_S1x16_1 : S16.BroadcastsInDim S1x16 (![1] : Fin 1 → Fin S1x16.rank)
  bcast_S_S1x16 : S_.BroadcastsInDim S1x16 (![] : Fin 0 → Fin S1x16.rank)
  slices_S1024x2_S1024x1_0_0 : S1024x2.Slices ![0, 0] S1024x1
  slices_S1024x2_S1024x1_0_1 : S1024x2.Slices ![0, 1] S1024x1
  bcast_S1x16_S1024x16_0_1 : S1x16.BroadcastsInDim S1024x16 (![0, 1] : Fin 2 → Fin S1024x16.rank)
  bcast_S1024x1_S1024x16_0_1 : S1024x1.BroadcastsInDim S1024x16 (![0, 1] : Fin 2 → Fin S1024x16.rank)
  natLt_1_32 : 1 < 32
  shapeCasts_S1024x16_S4x256x16 : S1024x16.ShapeCasts S4x256x16
  reducesTo_S4x256x16_S4x16_d1 : S4x256x16.ReducesTo [1] S4x16
  h_S_ : 0 < S_.numel
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  bcast_S_S512x64 : S_.BroadcastsInDim S512x64 (![] : Fin 0 → Fin S512x64.rank)
  reducesTo_S512x64_S_d0_1 : S512x64.ReducesTo [0, 1] S_
  reducesTo_S1024x2_S_d0_1 : S1024x2.ReducesTo [0, 1] S_
  bcast_S_S4x16 : S_.BroadcastsInDim S4x16 (![] : Fin 0 → Fin S4x16.rank)
  reducesTo_S4x16_S_d0_1 : S4x16.ReducesTo [0, 1] S_

variable [Facts]

def fn_part2 {F : FTy → Type} [FloatOps F] (main_v4 : IVec S1024x2 1) (main_v32 : IVec S4x16 32) (main_v37 : IVec S_ 1) (main_v39 : FVec F S512x64 .f32) : IVec S_ 1 :=
  let main_cst_6 : FVec F S_ .f32 := constant S_ .f32 0x7F800000#32
  let main_v40 : FVec F S512x64 .f32 := broadcastInDim S512x64 ![] bcast_S_S512x64 main_cst_6
  let main_v41 : IVec S512x64 1 := cmpf .olt main_v39 main_v40
  let main_c_7 : IVec S_ 1 := constantI S_ 1 1#1
  let main_v42 : IVec S_ 1 := (fun x v => Host.reduce IntOp.andi x v reducesTo_S512x64_S_d0_1 h_S_) main_v41 main_c_7
  let main_v43 : IVec S_ 1 := andi main_v37 main_v42
  let main_c_8 : IVec S_ 1 := constantI S_ 1 1#1
  let main_v44 : IVec S_ 1 := (fun x v => Host.reduce IntOp.andi x v reducesTo_S1024x2_S_d0_1 h_S_) main_v4 main_c_8
  let main_c_9 : IVec S_ 32 := constantI S_ 32 64#32
  let main_v45 : IVec S4x16 32 := broadcastInDim S4x16 ![] bcast_S_S4x16 main_c_9
  let main_v46 : IVec S4x16 1 := cmpi .sle main_v32 main_v45
  let main_c_10 : IVec S_ 1 := constantI S_ 1 1#1
  let main_v47 : IVec S_ 1 := (fun x v => Host.reduce IntOp.andi x v reducesTo_S4x16_S_d0_1 h_S_) main_v46 main_c_10
  let main_v48 : IVec S_ 1 := andi main_v44 main_v47
  let main_v49 : IVec S_ 1 := andi main_v48 main_v43
  main_v49

def fn_part1 {F : FTy → Type} [FloatOps F] (main_arg0 : FVec F S1024x512 .bf16) (main_arg1 : FVec F S512x64 .bf16) (main_v4 : IVec S1024x2 1) (main_v8 : IVec S1x16 32) (main_v10 : IVec S1024x1 32) (main_v19 : IVec S1024x16 1) : IVec S_ 1 :=
  let main_v20 : IVec S1024x16 32 := broadcastInDim S1024x16 ![0, 1] bcast_S1x16_S1024x16_0_1 main_v8
  let main_v21 : IVec S1024x16 32 := broadcastInDim S1024x16 ![0, 1] bcast_S1024x1_S1024x16_0_1 main_v10
  let main_v22 : IVec S1024x16 1 := cmpi .sle main_v20 main_v21
  let main_c_3 : IVec S_ 32 := constantI S_ 32 4#32
  let main_v23 : IVec S1x16 32 := broadcastInDim S1x16 ![] bcast_S_S1x16 main_c_3
  let main_v24 : IVec S1x16 32 := addi main_v8 main_v23
  let main_v25 : IVec S1024x16 32 := broadcastInDim S1024x16 ![0, 1] bcast_S1024x1_S1024x16_0_1 main_v10
  let main_v26 : IVec S1024x16 32 := broadcastInDim S1024x16 ![0, 1] bcast_S1x16_S1024x16_0_1 main_v24
  let main_v27 : IVec S1024x16 1 := cmpi .slt main_v25 main_v26
  let main_v28 : IVec S1024x16 1 := andi main_v22 main_v27
  let main_v29 : IVec S1024x16 1 := ori main_v19 main_v28
  let main_v30 : IVec S1024x16 32 := (extui 32 · natLt_1_32) main_v29
  let main_v31 : IVec S4x256x16 32 := shapeCast S4x256x16 main_v30 shapeCasts_S1024x16_S4x256x16
  let main_c_4 : IVec S_ 32 := constantI S_ 32 0#32
  let main_v32 : IVec S4x16 32 := (fun x v => Host.reduce IntOp.addi x v reducesTo_S4x256x16_S4x16_d1 h_S_) main_v31 main_c_4
  let main_v33 : FVec F S1024x512 .f32 := (extf .f32 · bitsLt_bf16_f32) main_arg0
  let main_v34 : FVec F S1024x512 .f32 := Host.absf main_v33
  let main_cst : FVec F S_ .f32 := constant S_ .f32 0x7F800000#32
  let main_v35 : FVec F S1024x512 .f32 := broadcastInDim S1024x512 ![] bcast_S_S1024x512 main_cst
  let main_v36 : IVec S1024x512 1 := cmpf .olt main_v34 main_v35
  let main_c_5 : IVec S_ 1 := constantI S_ 1 1#1
  let main_v37 : IVec S_ 1 := (fun x v => Host.reduce IntOp.andi x v reducesTo_S1024x512_S_d0_1 h_S_) main_v36 main_c_5
  let main_v38 : FVec F S512x64 .f32 := (extf .f32 · bitsLt_bf16_f32) main_arg1
  let main_v39 : FVec F S512x64 .f32 := Host.absf main_v38
  fn_part2 (F := F) main_v4 main_v32 main_v37 main_v39

def fn {F : FTy → Type} [FloatOps F] (main_arg0 : FVec F S1024x512 .bf16) (main_arg1 : FVec F S512x64 .bf16) (main_arg2 : IVec S1024x2 32) (main_arg3 : FVec F S4x512x1024 .bf16) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 64#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_v5 : IVec S16 32 := iotaInDim S16 32 0
  let main_v6 : IVec S1x16 32 := broadcastInDim S1x16 ![1] bcast_S16_S1x16_1 main_v5
  let main_c_1 : IVec S_ 32 := constantI S_ 32 4#32
  let main_v7 : IVec S1x16 32 := broadcastInDim S1x16 ![] bcast_S_S1x16 main_c_1
  let main_v8 : IVec S1x16 32 := muli main_v7 main_v6
  let main_v9 : IVec S1024x1 32 := (extractStridedSlice S1024x1 ![0, 0] · slices_S1024x2_S1024x1_0_0) main_arg2
  let main_v10 : IVec S1024x1 32 := (extractStridedSlice S1024x1 ![0, 1] · slices_S1024x2_S1024x1_0_1) main_arg2
  let main_v11 : IVec S1024x16 32 := broadcastInDim S1024x16 ![0, 1] bcast_S1x16_S1024x16_0_1 main_v8
  let main_v12 : IVec S1024x16 32 := broadcastInDim S1024x16 ![0, 1] bcast_S1024x1_S1024x16_0_1 main_v9
  let main_v13 : IVec S1024x16 1 := cmpi .sle main_v11 main_v12
  let main_c_2 : IVec S_ 32 := constantI S_ 32 4#32
  let main_v14 : IVec S1x16 32 := broadcastInDim S1x16 ![] bcast_S_S1x16 main_c_2
  let main_v15 : IVec S1x16 32 := addi main_v8 main_v14
  let main_v16 : IVec S1024x16 32 := broadcastInDim S1024x16 ![0, 1] bcast_S1024x1_S1024x16_0_1 main_v9
  let main_v17 : IVec S1024x16 32 := broadcastInDim S1024x16 ![0, 1] bcast_S1x16_S1024x16_0_1 main_v15
  let main_v18 : IVec S1024x16 1 := cmpi .slt main_v16 main_v17
  let main_v19 : IVec S1024x16 1 := andi main_v13 main_v18
  fn_part1 (F := F) main_arg0 main_arg1 main_v4 main_v8 main_v10 main_v19
-- ==== Pre_routed_ReferenceIdeal.lean ====
abbrev S1024x512 : Shape := ⟨2, ![1024, 512]⟩
abbrev S512x64 : Shape := ⟨2, ![512, 64]⟩
abbrev S1024x2 : Shape := ⟨2, ![1024, 2]⟩
abbrev S64x512x1024 : Shape := ⟨3, ![64, 512, 1024]⟩
abbrev S_ : Shape := ⟨0, ![]⟩
abbrev S16 : Shape := ⟨1, ![16]⟩
abbrev S1x16 : Shape := ⟨2, ![1, 16]⟩
abbrev S1024x1 : Shape := ⟨2, ![1024, 1]⟩
abbrev S1024x16 : Shape := ⟨2, ![1024, 16]⟩
abbrev S4x256x16 : Shape := ⟨3, ![4, 256, 16]⟩
abbrev S4x16 : Shape := ⟨2, ![4, 16]⟩

class Facts : Prop where
  bcast_S_S1024x2 : S_.BroadcastsInDim S1024x2 (![] : Fin 0 → Fin S1024x2.rank)
  bcast_S16_S1x16_1 : S16.BroadcastsInDim S1x16 (![1] : Fin 1 → Fin S1x16.rank)
  bcast_S_S1x16 : S_.BroadcastsInDim S1x16 (![] : Fin 0 → Fin S1x16.rank)
  slices_S1024x2_S1024x1_0_0 : S1024x2.Slices ![0, 0] S1024x1
  slices_S1024x2_S1024x1_0_1 : S1024x2.Slices ![0, 1] S1024x1
  bcast_S1x16_S1024x16_0_1 : S1x16.BroadcastsInDim S1024x16 (![0, 1] : Fin 2 → Fin S1024x16.rank)
  bcast_S1024x1_S1024x16_0_1 : S1024x1.BroadcastsInDim S1024x16 (![0, 1] : Fin 2 → Fin S1024x16.rank)
  natLt_1_32 : 1 < 32
  shapeCasts_S1024x16_S4x256x16 : S1024x16.ShapeCasts S4x256x16
  reducesTo_S4x256x16_S4x16_d1 : S4x256x16.ReducesTo [1] S4x16
  h_S_ : 0 < S_.numel
  bitsLt_bf16_f32 : FTy.bits .bf16 < FTy.bits .f32
  bcast_S_S1024x512 : S_.BroadcastsInDim S1024x512 (![] : Fin 0 → Fin S1024x512.rank)
  reducesTo_S1024x512_S_d0_1 : S1024x512.ReducesTo [0, 1] S_
  bcast_S_S512x64 : S_.BroadcastsInDim S512x64 (![] : Fin 0 → Fin S512x64.rank)
  reducesTo_S512x64_S_d0_1 : S512x64.ReducesTo [0, 1] S_
  reducesTo_S1024x2_S_d0_1 : S1024x2.ReducesTo [0, 1] S_
  bcast_S_S4x16 : S_.BroadcastsInDim S4x16 (![] : Fin 0 → Fin S4x16.rank)
  reducesTo_S4x16_S_d0_1 : S4x16.ReducesTo [0, 1] S_

variable [Facts]

def fn_part2 {F : FTy → Type} [FloatOps F] (main_v4 : IVec S1024x2 1) (main_v32 : IVec S4x16 32) (main_v37 : IVec S_ 1) (main_v39 : FVec F S512x64 .f32) : IVec S_ 1 :=
  let main_cst_6 : FVec F S_ .f32 := constant S_ .f32 0x7F800000#32
  let main_v40 : FVec F S512x64 .f32 := broadcastInDim S512x64 ![] bcast_S_S512x64 main_cst_6
  let main_v41 : IVec S512x64 1 := cmpf .olt main_v39 main_v40
  let main_c_7 : IVec S_ 1 := constantI S_ 1 1#1
  let main_v42 : IVec S_ 1 := (fun x v => Host.reduce IntOp.andi x v reducesTo_S512x64_S_d0_1 h_S_) main_v41 main_c_7
  let main_v43 : IVec S_ 1 := andi main_v37 main_v42
  let main_c_8 : IVec S_ 1 := constantI S_ 1 1#1
  let main_v44 : IVec S_ 1 := (fun x v => Host.reduce IntOp.andi x v reducesTo_S1024x2_S_d0_1 h_S_) main_v4 main_c_8
  let main_c_9 : IVec S_ 32 := constantI S_ 32 64#32
  let main_v45 : IVec S4x16 32 := broadcastInDim S4x16 ![] bcast_S_S4x16 main_c_9
  let main_v46 : IVec S4x16 1 := cmpi .sle main_v32 main_v45
  let main_c_10 : IVec S_ 1 := constantI S_ 1 1#1
  let main_v47 : IVec S_ 1 := (fun x v => Host.reduce IntOp.andi x v reducesTo_S4x16_S_d0_1 h_S_) main_v46 main_c_10
  let main_v48 : IVec S_ 1 := andi main_v44 main_v47
  let main_v49 : IVec S_ 1 := andi main_v48 main_v43
  main_v49

def fn_part1 {F : FTy → Type} [FloatOps F] (main_arg0 : FVec F S1024x512 .bf16) (main_arg1 : FVec F S512x64 .bf16) (main_v4 : IVec S1024x2 1) (main_v8 : IVec S1x16 32) (main_v10 : IVec S1024x1 32) (main_v19 : IVec S1024x16 1) : IVec S_ 1 :=
  let main_v20 : IVec S1024x16 32 := broadcastInDim S1024x16 ![0, 1] bcast_S1x16_S1024x16_0_1 main_v8
  let main_v21 : IVec S1024x16 32 := broadcastInDim S1024x16 ![0, 1] bcast_S1024x1_S1024x16_0_1 main_v10
  let main_v22 : IVec S1024x16 1 := cmpi .sle main_v20 main_v21
  let main_c_3 : IVec S_ 32 := constantI S_ 32 4#32
  let main_v23 : IVec S1x16 32 := broadcastInDim S1x16 ![] bcast_S_S1x16 main_c_3
  let main_v24 : IVec S1x16 32 := addi main_v8 main_v23
  let main_v25 : IVec S1024x16 32 := broadcastInDim S1024x16 ![0, 1] bcast_S1024x1_S1024x16_0_1 main_v10
  let main_v26 : IVec S1024x16 32 := broadcastInDim S1024x16 ![0, 1] bcast_S1x16_S1024x16_0_1 main_v24
  let main_v27 : IVec S1024x16 1 := cmpi .slt main_v25 main_v26
  let main_v28 : IVec S1024x16 1 := andi main_v22 main_v27
  let main_v29 : IVec S1024x16 1 := ori main_v19 main_v28
  let main_v30 : IVec S1024x16 32 := (extui 32 · natLt_1_32) main_v29
  let main_v31 : IVec S4x256x16 32 := shapeCast S4x256x16 main_v30 shapeCasts_S1024x16_S4x256x16
  let main_c_4 : IVec S_ 32 := constantI S_ 32 0#32
  let main_v32 : IVec S4x16 32 := (fun x v => Host.reduce IntOp.addi x v reducesTo_S4x256x16_S4x16_d1 h_S_) main_v31 main_c_4
  let main_v33 : FVec F S1024x512 .f32 := (extf .f32 · bitsLt_bf16_f32) main_arg0
  let main_v34 : FVec F S1024x512 .f32 := Host.absf main_v33
  let main_cst : FVec F S_ .f32 := constant S_ .f32 0x7F800000#32
  let main_v35 : FVec F S1024x512 .f32 := broadcastInDim S1024x512 ![] bcast_S_S1024x512 main_cst
  let main_v36 : IVec S1024x512 1 := cmpf .olt main_v34 main_v35
  let main_c_5 : IVec S_ 1 := constantI S_ 1 1#1
  let main_v37 : IVec S_ 1 := (fun x v => Host.reduce IntOp.andi x v reducesTo_S1024x512_S_d0_1 h_S_) main_v36 main_c_5
  let main_v38 : FVec F S512x64 .f32 := (extf .f32 · bitsLt_bf16_f32) main_arg1
  let main_v39 : FVec F S512x64 .f32 := Host.absf main_v38
  fn_part2 (F := F) main_v4 main_v32 main_v37 main_v39

def fn {F : FTy → Type} [FloatOps F] (main_arg0 : FVec F S1024x512 .bf16) (main_arg1 : FVec F S512x64 .bf16) (main_arg2 : IVec S1024x2 32) (main_arg3 : FVec F S64x512x1024 .bf16) : IVec S_ 1 :=
  let main_c : IVec S_ 32 := constantI S_ 32 0#32
  let main_v0 : IVec S1024x2 32 := broadcastInDim S1024x2 ![] bcast_S_S1024x2 main_c
  let main_v1 : IVec S1024x2 1 := cmpi .sge main_arg2 main_v0
  let main_c_0 : IVec S_ 32 := constantI S_ 32 64#32
  let main_v2 : IVec S1024x2 32 := broadcastInDim S1024x2 ![] bcast_S_S1024x2 main_c_0
  let main_v3 : IVec S1024x2 1 := cmpi .slt main_arg2 main_v2
  let main_v4 : IVec S1024x2 1 := andi main_v1 main_v3
  let main_v5 : IVec S16 32 := iotaInDim S16 32 0
  let main_v6 : IVec S1x16 32 := broadcastInDim S1x16 ![1] bcast_S16_S1x16_1 main_v5
  let main_c_1 : IVec S_ 32 := constantI S_ 32 4#32
  let main_v7 : IVec S1x16 32 := broadcastInDim S1x16 ![] bcast_S_S1x16 main_c_1
  let main_v8 : IVec S1x16 32 := muli main_v7 main_v6
  let main_v9 : IVec S1024x1 32 := (extractStridedSlice S1024x1 ![0, 0] · slices_S1024x2_S1024x1_0_0) main_arg2
  let main_v10 : IVec S1024x1 32 := (extractStridedSlice S1024x1 ![0, 1] · slices_S1024x2_S1024x1_0_1) main_arg2
  let main_v11 : IVec S1024x16 32 := broadcastInDim S1024x16 ![0, 1] bcast_S1x16_S1024x16_0_1 main_v8
  let main_v12 : IVec S1024x16 32 := broadcastInDim S1024x16 ![0, 1] bcast_S1024x1_S1024x16_0_1 main_v9
  let main_v13 : IVec S1024x16 1 := cmpi .sle main_v11 main_v12
  let main_c_2 : IVec S_ 32 := constantI S_ 32 4#32
  let main_v14 : IVec S1x16 32 := broadcastInDim S1x16 ![] bcast_S_S1x16 main_c_2
  let main_v15 : IVec S1x16 32 := addi main_v8 main_v14
  let main_v16 : IVec S1024x16 32 := broadcastInDim S1024x16 ![0, 1] bcast_S1024x1_S1024x16_0_1 main_v9
  let main_v17 : IVec S1024x16 32 := broadcastInDim S1024x16 ![0, 1] bcast_S1x16_S1024x16_0_1 main_v15
  let main_v18 : IVec S1024x16 1 := cmpi .slt main_v16 main_v17
  let main_v19 : IVec S1024x16 1 := andi main_v13 main_v18
  fn_part1 (F := F) main_arg0 main_arg1 main_v4 main_v8 main_v10 main_v19
-- ==== Kernel.lean ====
abbrev S1024x512 : Shape := ⟨2, ![1024, 512]⟩
abbrev S512x64 : Shape := ⟨2, ![512, 64]⟩
abbrev S1024x2 : Shape := ⟨2, ![1024, 2]⟩
abbrev S4x512x1024 : Shape := ⟨3, ![4, 512, 1024]⟩
abbrev S1024x1024 : Shape := ⟨2, ![1024, 1024]⟩
abbrev S1024x1 : Shape := ⟨2, ![1024, 1]⟩
abbrev S256x1 : Shape := ⟨2, ![256, 1]⟩
abbrev S3x80x1024 : Shape := ⟨3, ![3, 80, 1024]⟩
abbrev S256x1024 : Shape := ⟨2, ![256, 1024]⟩
abbrev S3x64x1024 : Shape := ⟨3, ![3, 64, 1024]⟩
abbrev S4x4x64x1024 : Shape := ⟨4, ![4, 4, 64, 1024]⟩
abbrev S12 : Shape := ⟨1, ![12]⟩
abbrev S3 : Shape := ⟨1, ![3]⟩
abbrev S_ : Shape := ⟨0, ![]⟩
abbrev S1024x64 : Shape := ⟨2, ![1024, 64]⟩
abbrev S1024 : Shape := ⟨1, ![1024]⟩
abbrev S1x512x1024 : Shape := ⟨3, ![1, 512, 1024]⟩
abbrev S512x1024 : Shape := ⟨2, ![512, 1024]⟩
abbrev S256x256 : Shape := ⟨2, ![256, 256]⟩
abbrev S256x64 : Shape := ⟨2, ![256, 64]⟩
abbrev S1x256 : Shape := ⟨2, ![1, 256]⟩
abbrev S256x512 : Shape := ⟨2, ![256, 512]⟩
abbrev S64x512 : Shape := ⟨2, ![64, 512]⟩
abbrev S64x1 : Shape := ⟨2, ![64, 1]⟩
abbrev S64x1024 : Shape := ⟨2, ![64, 1024]⟩
abbrev S1x64 : Shape := ⟨2, ![1, 64]⟩
abbrev S1x64x1024 : Shape := ⟨3, ![1, 64, 1024]⟩
abbrev S1x128 : Shape := ⟨2, ![1, 128]⟩
abbrev S1x1x128 : Shape := ⟨3, ![1, 1, 128]⟩
abbrev S1x2x128 : Shape := ⟨3, ![1, 2, 128]⟩
abbrev S1 : Shape := ⟨1, ![1]⟩
abbrev S1x80x1024 : Shape := ⟨3, ![1, 80, 1024]⟩
abbrev S80x1024 : Shape := ⟨2, ![80, 1024]⟩
abbrev S64x64 : Shape := ⟨2, ![64, 64]⟩
abbrev S1x1x64 : Shape := ⟨3, ![1, 1, 64]⟩
abbrev S1x1x64x1024 : Shape := ⟨4, ![1, 1, 64, 1024]⟩
abbrev S1x4x64x1024 : Shape := ⟨4, ![1, 4, 64, 1024]⟩
abbrev S4x64x1024 : Shape := ⟨3, ![4, 64, 1024]⟩

abbrev nBuf : Space → Nat
  | .hbm => 5
  | .vmem => 14
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x2, .i32⟩
  | .hbm, ⟨3, _⟩ => ⟨S4x512x1024, .bf16⟩
  | .hbm, ⟨4, _⟩ => ⟨S1024x1024, .f32⟩
  | .local _ .vmem, ⟨0, _⟩ => ⟨S1024x512, .bf16⟩
  | .local _ .vmem, ⟨1, _⟩ => ⟨S512x64, .bf16⟩
  | .local _ .vmem, ⟨2, _⟩ => ⟨S1024x2, .i32⟩
  | .local _ .vmem, ⟨3, _⟩ => ⟨S4x512x1024, .bf16⟩
  | .local _ .vmem, ⟨4, _⟩ => ⟨S1024x1024, .f32⟩
  | .local _ .vmem, ⟨5, _⟩ => ⟨S1024x1, .f32⟩
  | .local _ .vmem, ⟨6, _⟩ => ⟨S1024x1, .f32⟩
  | .local _ .vmem, ⟨7, _⟩ => ⟨S256x1, .f32⟩
  | .local _ .vmem, ⟨8, _⟩ => ⟨S4x512x1024, .bf16⟩
  | .local _ .vmem, ⟨9, _⟩ => ⟨S3x80x1024, .bf16⟩
  | .local _ .vmem, ⟨10, _⟩ => ⟨S3x80x1024, .bf16⟩
  | .local _ .vmem, ⟨11, _⟩ => ⟨S256x1024, .bf16⟩
  | .local _ .vmem, ⟨12, _⟩ => ⟨S3x64x1024, .bf16⟩
  | .local _ .vmem, ⟨13, _⟩ => ⟨S4x4x64x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  (ofTc nBuf bufTy 1 59 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_10 : BitVec 32 := 4#32
  let v26 : BitVec 32 := Scalar.muli v19 c4_i32_10
  let c4_i32_5 : BitVec 32 := 4#32
  let v20 : BitVec 32 := Scalar.remsi v2 c4_i32_5
  let c1_i32_11 : BitVec 32 := 1#32
  let v27 : BitVec 32 := Scalar.addi v20 c1_i32_11
  let c4_i32_12 : BitVec 32 := 4#32
  let v28 : BitVec 32 := Scalar.remsi v27 c4_i32_12
  let v29 : BitVec 32 := Scalar.addi v26 v28
  let c1_i32_27 : BitVec 32 := 1#32
  let v50 : BitVec 32 := Scalar.muli v29 c1_i32_27
  let v51 : BitVec 32 := Scalar.addi c0_i32_28 v50
  v51.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_13 : BitVec 32 := 4#32
  let v30 : BitVec 32 := Scalar.muli v19 c4_i32_13
  let c4_i32_5 : BitVec 32 := 4#32
  let v20 : BitVec 32 := Scalar.remsi v2 c4_i32_5
  let c2_i32 : BitVec 32 := 2#32
  let v31 : BitVec 32 := Scalar.addi v20 c2_i32
  let c4_i32_14 : BitVec 32 := 4#32
  let v32 : BitVec 32 := Scalar.remsi v31 c4_i32_14
  let v33 : BitVec 32 := Scalar.addi v30 v32
  let c1_i32_30 : BitVec 32 := 1#32
  let v52 : BitVec 32 := Scalar.muli v33 c1_i32_30
  let v53 : BitVec 32 := Scalar.addi c0_i32_31 v52
  v53.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_15 : BitVec 32 := 4#32
  let v34 : BitVec 32 := Scalar.muli v19 c4_i32_15
  let c4_i32_5 : BitVec 32 := 4#32
  let v20 : BitVec 32 := Scalar.remsi v2 c4_i32_5
  let c3_i32 : BitVec 32 := 3#32
  let v35 : BitVec 32 := Scalar.addi v20 c3_i32
  let c4_i32_16 : BitVec 32 := 4#32
  let v36 : BitVec 32 := Scalar.remsi v35 c4_i32_16
  let v37 : BitVec 32 := Scalar.addi v34 v36
  let c1_i32_33 : BitVec 32 := 1#32
  let v54 : BitVec 32 := Scalar.muli v37 c1_i32_33
  let v55 : BitVec 32 := Scalar.addi c0_i32_34 v54
  v55.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_17 : BitVec 32 := 1#32
  let v38 : BitVec 32 := Scalar.addi v19 c1_i32_17
  let c4_i32_18 : BitVec 32 := 4#32
  let v39 : BitVec 32 := Scalar.remsi v38 c4_i32_18
  let c4_i32_19 : BitVec 32 := 4#32
  let v40 : BitVec 32 := Scalar.muli v39 c4_i32_19
  let c4_i32_5 : BitVec 32 := 4#32
  let v20 : BitVec 32 := Scalar.remsi v2 c4_i32_5
  let v41 : BitVec 32 := Scalar.addi v40 v20
  let c1_i32_36 : BitVec 32 := 1#32
  let v56 : BitVec 32 := Scalar.muli v41 c1_i32_36
  let v57 : BitVec 32 := Scalar.addi c0_i32_37 v56
  v57.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_20 : BitVec 32 := 2#32
  let v42 : BitVec 32 := Scalar.addi v19 c2_i32_20
  let c4_i32_21 : BitVec 32 := 4#32
  let v43 : BitVec 32 := Scalar.remsi v42 c4_i32_21
  let c4_i32_22 : BitVec 32 := 4#32
  let v44 : BitVec 32 := Scalar.muli v43 c4_i32_22
  let c4_i32_5 : BitVec 32 := 4#32
  let v20 : BitVec 32 := Scalar.remsi v2 c4_i32_5
  let v45 : BitVec 32 := Scalar.addi v44 v20
  let c1_i32_39 : BitVec 32 := 1#32
  let v58 : BitVec 32 := Scalar.muli v45 c1_i32_39
  let v59 : BitVec 32 := Scalar.addi c0_i32_40 v58
  v59.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_23 : BitVec 32 := 3#32
  let v46 : BitVec 32 := Scalar.addi v19 c3_i32_23
  let c4_i32_24 : BitVec 32 := 4#32
  let v47 : BitVec 32 := Scalar.remsi v46 c4_i32_24
  let c4_i32_25 : BitVec 32 := 4#32
  let v48 : BitVec 32 := Scalar.muli v47 c4_i32_25
  let c4_i32_5 : BitVec 32 := 4#32
  let v20 : BitVec 32 := Scalar.remsi v2 c4_i32_5
  let v49 : BitVec 32 := Scalar.addi v48 v20
  let c1_i32_42 : BitVec 32 := 1#32
  let v60 : BitVec 32 := Scalar.muli v49 c1_i32_42
  let v61 : BitVec 32 := Scalar.addi c0_i32_43 v60
  v61.toNat
def k0_off1 (d0 : Dev nD) (c2_i32_83 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v130 : BitVec 32 := Scalar.addi v20 c2_i32_83
  let c1_i32_84 : BitVec 32 := 1#32
  let v131 : BitVec 32 := Scalar.addi v130 c1_i32_84
  let c4_i32_85 : BitVec 32 := 4#32
  let v132 : BitVec 32 := Scalar.remsi v131 c4_i32_85
  let c256_i32 : BitVec 32 := 256#32
  let v133 : BitVec 32 := Scalar.muli v132 c256_i32
  let v134 : Index := Scalar.indexCast v133
  let c0_86 : Index := 0#32
  ![v134.toNat, 0]
def k0_off2 (d0 : Dev nD) (c2_i32_83 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v130 : BitVec 32 := Scalar.addi v20 c2_i32_83
  let c1_i32_84 : BitVec 32 := 1#32
  let v131 : BitVec 32 := Scalar.addi v130 c1_i32_84
  let c4_i32_85 : BitVec 32 := 4#32
  let v132 : BitVec 32 := Scalar.remsi v131 c4_i32_85
  let c256_i32 : BitVec 32 := 256#32
  let v133 : BitVec 32 := Scalar.muli v132 c256_i32
  let v137 : Index := Scalar.indexCast v133
  let c1_87 : Index := 1#32
  ![v137.toNat, 1]
def k0_off3 (d0 : Dev nD) (c2_i32_83 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v130 : BitVec 32 := Scalar.addi v20 c2_i32_83
  let c1_i32_84 : BitVec 32 := 1#32
  let v131 : BitVec 32 := Scalar.addi v130 c1_i32_84
  let c4_i32_85 : BitVec 32 := 4#32
  let v132 : BitVec 32 := Scalar.remsi v131 c4_i32_85
  let c256_i32 : BitVec 32 := 256#32
  let v133 : BitVec 32 := Scalar.muli v132 c256_i32
  let v140 : Index := Scalar.indexCast v133
  let c0_88 : Index := 0#32
  ![v140.toNat, 0]
def k0_off4 (d0 : Dev nD) (c2_i32_83 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v130 : BitVec 32 := Scalar.addi v20 c2_i32_83
  let c1_i32_84 : BitVec 32 := 1#32
  let v131 : BitVec 32 := Scalar.addi v130 c1_i32_84
  let c4_i32_85 : BitVec 32 := 4#32
  let v132 : BitVec 32 := Scalar.remsi v131 c4_i32_85
  let c256_i32 : BitVec 32 := 256#32
  let v133 : BitVec 32 := Scalar.muli v132 c256_i32
  let v211 : Index := Scalar.indexCast v133
  let c0_110 : Index := 0#32
  ![v211.toNat, 0]
def k0_dev7 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_155 : BitVec 32 := 4#32
  let v301 : BitVec 32 := Scalar.muli v19 c4_i32_155
  let c4_i32_5 : BitVec 32 := 4#32
  let v20 : BitVec 32 := Scalar.remsi v2 c4_i32_5
  let c2_i32_156 : BitVec 32 := 2#32
  let v302 : BitVec 32 := Scalar.addi v20 c2_i32_156
  let c4_i32_157 : BitVec 32 := 4#32
  let v303 : BitVec 32 := Scalar.remsi v302 c4_i32_157
  let v304 : BitVec 32 := Scalar.addi v301 v303
  let c1_i32_162 : BitVec 32 := 1#32
  let v305 : BitVec 32 := Scalar.muli v304 c1_i32_162
  let v306 : BitVec 32 := Scalar.addi c0_i32_163 v305
  v306.toNat
def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_242 : BitVec 32 := 4#32
  let v486 : BitVec 32 := Scalar.muli v19 c4_i32_242
  let c4_i32_5 : BitVec 32 := 4#32
  let v20 : BitVec 32 := Scalar.remsi v2 c4_i32_5
  let c1_i32_243 : BitVec 32 := 1#32
  let v487 : BitVec 32 := Scalar.addi v20 c1_i32_243
  let c4_i32_244 : BitVec 32 := 4#32
  let v488 : BitVec 32 := Scalar.remsi v487 c4_i32_244
  let v489 : BitVec 32 := Scalar.addi v486 v488
  let c1_i32_249 : BitVec 32 := 1#32
  let v490 : BitVec 32 := Scalar.muli v489 c1_i32_249
  let v491 : BitVec 32 := Scalar.addi c0_i32_250 v490
  v491.toNat
def k0_dev9 (d0 : Dev nD) : Nat :=
  let c0_i32_337 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_329 : BitVec 32 := 4#32
  let v671 : BitVec 32 := Scalar.muli v19 c4_i32_329
  let c4_i32_5 : BitVec 32 := 4#32
  let v20 : BitVec 32 := Scalar.remsi v2 c4_i32_5
  let c3_i32_330 : BitVec 32 := 3#32
  let v672 : BitVec 32 := Scalar.addi v20 c3_i32_330
  let c4_i32_331 : BitVec 32 := 4#32
  let v673 : BitVec 32 := Scalar.remsi v672 c4_i32_331
  let v674 : BitVec 32 := Scalar.addi v671 v673
  let c1_i32_336 : BitVec 32 := 1#32
  let v675 : BitVec 32 := Scalar.muli v674 c1_i32_336
  let v676 : BitVec 32 := Scalar.addi c0_i32_337 v675
  v676.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_342 : BitVec 32 := 256#32
  let v685 : BitVec 32 := Scalar.muli v22 c256_i32_342
  let v686 : Index := Scalar.indexCast v685
  let c0_343 : Index := 0#32
  ![v686.toNat, 0]
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_342 : BitVec 32 := 256#32
  let v685 : BitVec 32 := Scalar.muli v22 c256_i32_342
  let v689 : Index := Scalar.indexCast v685
  let c1_344 : Index := 1#32
  ![v689.toNat, 1]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_342 : BitVec 32 := 256#32
  let v685 : BitVec 32 := Scalar.muli v22 c256_i32_342
  let v692 : Index := Scalar.indexCast v685
  let c0_345 : Index := 0#32
  ![v692.toNat, 0]
def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_342 : BitVec 32 := 256#32
  let v685 : BitVec 32 := Scalar.muli v22 c256_i32_342
  let v763 : Index := Scalar.indexCast v685
  let c0_367 : Index := 0#32
  ![v763.toNat, 0]
def k0_off9 (d0 : Dev nD) (c2_i32_464 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_467 : BitVec 32 := 256#32
  let v894 : BitVec 32 := Scalar.muli v22 c256_i32_467
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v890 : BitVec 32 := Scalar.addi v19 c2_i32_464
  let c1_i32_465 : BitVec 32 := 1#32
  let v891 : BitVec 32 := Scalar.addi v890 c1_i32_465
  let c4_i32_466 : BitVec 32 := 4#32
  let v892 : BitVec 32 := Scalar.remsi v891 c4_i32_466
  let c64_i32 : BitVec 32 := 64#32
  let v893 : BitVec 32 := Scalar.muli v892 c64_i32
  let v895 : BitVec 32 := Scalar.addi v894 v893
  let v896 : Index := Scalar.indexCast v895
  let c0_468 : Index := 0#32
  ![v896.toNat, 0]
def k0_off10 (d0 : Dev nD) (c2_i32_464 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_467 : BitVec 32 := 256#32
  let v894 : BitVec 32 := Scalar.muli v22 c256_i32_467
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v890 : BitVec 32 := Scalar.addi v19 c2_i32_464
  let c1_i32_465 : BitVec 32 := 1#32
  let v891 : BitVec 32 := Scalar.addi v890 c1_i32_465
  let c4_i32_466 : BitVec 32 := 4#32
  let v892 : BitVec 32 := Scalar.remsi v891 c4_i32_466
  let c64_i32 : BitVec 32 := 64#32
  let v893 : BitVec 32 := Scalar.muli v892 c64_i32
  let v895 : BitVec 32 := Scalar.addi v894 v893
  let v899 : Index := Scalar.indexCast v895
  let c1_469 : Index := 1#32
  ![v899.toNat, 1]
def k0_off11 (d0 : Dev nD) (c2_i32_464 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v890 : BitVec 32 := Scalar.addi v19 c2_i32_464
  let c1_i32_465 : BitVec 32 := 1#32
  let v891 : BitVec 32 := Scalar.addi v890 c1_i32_465
  let c4_i32_466 : BitVec 32 := 4#32
  let v892 : BitVec 32 := Scalar.remsi v891 c4_i32_466
  let c64_i32 : BitVec 32 := 64#32
  let v893 : BitVec 32 := Scalar.muli v892 c64_i32
  let v955 : Index := Scalar.indexCast v893
  let c0_484 : Index := 0#32
  ![v955.toNat, 0]
def k0_off12 (d0 : Dev nD) (c2_i32_464 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v890 : BitVec 32 := Scalar.addi v19 c2_i32_464
  let c1_i32_465 : BitVec 32 := 1#32
  let v891 : BitVec 32 := Scalar.addi v890 c1_i32_465
  let c4_i32_466 : BitVec 32 := 4#32
  let v892 : BitVec 32 := Scalar.remsi v891 c4_i32_466
  let c64_i32_519 : BitVec 32 := 64#32
  let v1021 : BitVec 32 := Scalar.muli v892 c64_i32_519
  let v1022 : Index := Scalar.indexCast v1021
  let c0_520 : Index := 0#32
  ![v1022.toNat, 0]
def k0_off13 (d0 : Dev nD) (c2_i32_464 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v890 : BitVec 32 := Scalar.addi v19 c2_i32_464
  let c1_i32_465 : BitVec 32 := 1#32
  let v891 : BitVec 32 := Scalar.addi v890 c1_i32_465
  let c4_i32_466 : BitVec 32 := 4#32
  let v892 : BitVec 32 := Scalar.remsi v891 c4_i32_466
  let c64_i32_521 : BitVec 32 := 64#32
  let v1026 : BitVec 32 := Scalar.muli v892 c64_i32_521
  let c0_i32_532 : BitVec 32 := 0#32
  ![v1026.toNat, 0]
def k0_dev10 (d0 : Dev nD) : Nat :=
  let c0_i32_529 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_522 : BitVec 32 := 2#32
  let v1027 : BitVec 32 := Scalar.addi v19 c2_i32_522
  let c4_i32_523 : BitVec 32 := 4#32
  let v1028 : BitVec 32 := Scalar.remsi v1027 c4_i32_523
  let c4_i32_524 : BitVec 32 := 4#32
  let v1029 : BitVec 32 := Scalar.muli v1028 c4_i32_524
  let c4_i32_5 : BitVec 32 := 4#32
  let v20 : BitVec 32 := Scalar.remsi v2 c4_i32_5
  let v1030 : BitVec 32 := Scalar.addi v1029 v20
  let c1_i32_528 : BitVec 32 := 1#32
  let v1031 : BitVec 32 := Scalar.muli v1030 c1_i32_528
  let v1032 : BitVec 32 := Scalar.addi c0_i32_529 v1031
  v1032.toNat
def k0_dev11 (d0 : Dev nD) : Nat :=
  let c0_i32_598 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_592 : BitVec 32 := 1#32
  let v1177 : BitVec 32 := Scalar.addi v19 c1_i32_592
  let c4_i32_593 : BitVec 32 := 4#32
  let v1178 : BitVec 32 := Scalar.remsi v1177 c4_i32_593
  let c4_i32_594 : BitVec 32 := 4#32
  let v1179 : BitVec 32 := Scalar.muli v1178 c4_i32_594
  let c4_i32_5 : BitVec 32 := 4#32
  let v20 : BitVec 32 := Scalar.remsi v2 c4_i32_5
  let v1180 : BitVec 32 := Scalar.addi v1179 v20
  let c1_i32_597 : BitVec 32 := 1#32
  let v1181 : BitVec 32 := Scalar.muli v1180 c1_i32_597
  let v1182 : BitVec 32 := Scalar.addi c0_i32_598 v1181
  v1182.toNat
def k0_dev12 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_661 : BitVec 32 := 3#32
  let v1327 : BitVec 32 := Scalar.addi v19 c3_i32_661
  let c4_i32_662 : BitVec 32 := 4#32
  let v1328 : BitVec 32 := Scalar.remsi v1327 c4_i32_662
  let c4_i32_663 : BitVec 32 := 4#32
  let v1329 : BitVec 32 := Scalar.muli v1328 c4_i32_663
  let c4_i32_5 : BitVec 32 := 4#32
  let v20 : BitVec 32 := Scalar.remsi v2 c4_i32_5
  let v1330 : BitVec 32 := Scalar.addi v1329 v20
  let c1_i32_667 : BitVec 32 := 1#32
  let v1331 : BitVec 32 := Scalar.muli v1330 c1_i32_667
  let v1332 : BitVec 32 := Scalar.addi c0_i32_668 v1331
  v1332.toNat
def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_673 : BitVec 32 := 256#32
  let v1341 : BitVec 32 := Scalar.muli v22 c256_i32_673
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_8 : BitVec 32 := 1#32
  let v23 : BitVec 32 := Scalar.addi v19 c1_i32_8
  let c4_i32_9 : BitVec 32 := 4#32
  let v24 : BitVec 32 := Scalar.remsi v23 c4_i32_9
  let c64_i32_672 : BitVec 32 := 64#32
  let v1340 : BitVec 32 := Scalar.muli v24 c64_i32_672
  let v1342 : BitVec 32 := Scalar.addi v1341 v1340
  let v1343 : Index := Scalar.indexCast v1342
  let c0_674 : Index := 0#32
  ![v1343.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_673 : BitVec 32 := 256#32
  let v1341 : BitVec 32 := Scalar.muli v22 c256_i32_673
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_8 : BitVec 32 := 1#32
  let v23 : BitVec 32 := Scalar.addi v19 c1_i32_8
  let c4_i32_9 : BitVec 32 := 4#32
  let v24 : BitVec 32 := Scalar.remsi v23 c4_i32_9
  let c64_i32_672 : BitVec 32 := 64#32
  let v1340 : BitVec 32 := Scalar.muli v24 c64_i32_672
  let v1342 : BitVec 32 := Scalar.addi v1341 v1340
  let v1346 : Index := Scalar.indexCast v1342
  let c1_675 : Index := 1#32
  ![v1346.toNat, 1]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_8 : BitVec 32 := 1#32
  let v23 : BitVec 32 := Scalar.addi v19 c1_i32_8
  let c4_i32_9 : BitVec 32 := 4#32
  let v24 : BitVec 32 := Scalar.remsi v23 c4_i32_9
  let c64_i32_672 : BitVec 32 := 64#32
  let v1340 : BitVec 32 := Scalar.muli v24 c64_i32_672
  let v1402 : Index := Scalar.indexCast v1340
  let c0_690 : Index := 0#32
  ![v1402.toNat, 0]
def k0_off17 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let v1516 : Index := Scalar.indexCast v22
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_8 : BitVec 32 := 1#32
  let v23 : BitVec 32 := Scalar.addi v19 c1_i32_8
  let c4_i32_9 : BitVec 32 := 4#32
  let v24 : BitVec 32 := Scalar.remsi v23 c4_i32_9
  let v1517 : Index := Scalar.indexCast v24
  let c0_779 : Index := 0#32
  let c0_780 : Index := 0#32
  ![v1516.toNat, v1517.toNat, 0, 0]
def k0_off18 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_8 : BitVec 32 := 1#32
  let v23 : BitVec 32 := Scalar.addi v19 c1_i32_8
  let c4_i32_9 : BitVec 32 := 4#32
  let v24 : BitVec 32 := Scalar.remsi v23 c4_i32_9
  let c0_i32_794 : BitVec 32 := 0#32
  let c0_i32_795 : BitVec 32 := 0#32
  ![v22.toNat, v24.toNat, 0, 0]
def k0_dev13 (d0 : Dev nD) : Nat :=
  let c0_i32_793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32_784 : BitVec 32 := 2#32
  let v1525 : BitVec 32 := Scalar.addi v19 c2_i32_784
  let c4_i32_785 : BitVec 32 := 4#32
  let v1526 : BitVec 32 := Scalar.remsi v1525 c4_i32_785
  let c4_i32_786 : BitVec 32 := 4#32
  let v1527 : BitVec 32 := Scalar.muli v1526 c4_i32_786
  let c4_i32_5 : BitVec 32 := 4#32
  let v20 : BitVec 32 := Scalar.remsi v2 c4_i32_5
  let v1528 : BitVec 32 := Scalar.addi v1527 v20
  let c1_i32_792 : BitVec 32 := 1#32
  let v1533 : BitVec 32 := Scalar.muli v1528 c1_i32_792
  let v1534 : BitVec 32 := Scalar.addi c0_i32_793 v1533
  v1534.toNat
def k0_dev14 (d0 : Dev nD) : Nat :=
  let c0_i32_801 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c1_i32_781 : BitVec 32 := 1#32
  let v1521 : BitVec 32 := Scalar.addi v19 c1_i32_781
  let c4_i32_782 : BitVec 32 := 4#32
  let v1522 : BitVec 32 := Scalar.remsi v1521 c4_i32_782
  let c4_i32_783 : BitVec 32 := 4#32
  let v1523 : BitVec 32 := Scalar.muli v1522 c4_i32_783
  let c4_i32_5 : BitVec 32 := 4#32
  let v20 : BitVec 32 := Scalar.remsi v2 c4_i32_5
  let v1524 : BitVec 32 := Scalar.addi v1523 v20
  let c1_i32_800 : BitVec 32 := 1#32
  let v1543 : BitVec 32 := Scalar.muli v1524 c1_i32_800
  let v1544 : BitVec 32 := Scalar.addi c0_i32_801 v1543
  v1544.toNat
def k0_dev15 (d0 : Dev nD) : Nat :=
  let c0_i32_809 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c3_i32_787 : BitVec 32 := 3#32
  let v1529 : BitVec 32 := Scalar.addi v19 c3_i32_787
  let c4_i32_788 : BitVec 32 := 4#32
  let v1530 : BitVec 32 := Scalar.remsi v1529 c4_i32_788
  let c4_i32_789 : BitVec 32 := 4#32
  let v1531 : BitVec 32 := Scalar.muli v1530 c4_i32_789
  let c4_i32_5 : BitVec 32 := 4#32
  let v20 : BitVec 32 := Scalar.remsi v2 c4_i32_5
  let v1532 : BitVec 32 := Scalar.addi v1531 v20
  let c1_i32_808 : BitVec 32 := 1#32
  let v1553 : BitVec 32 := Scalar.muli v1532 c1_i32_808
  let v1554 : BitVec 32 := Scalar.addi c0_i32_809 v1553
  v1554.toNat
def k0_dev16 (d0 : Dev nD) : Nat :=
  let c0_i32_826 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_814 : BitVec 32 := 4#32
  let v1563 : BitVec 32 := Scalar.muli v19 c4_i32_814
  let c4_i32_5 : BitVec 32 := 4#32
  let v20 : BitVec 32 := Scalar.remsi v2 c4_i32_5
  let c1_i32_815 : BitVec 32 := 1#32
  let v1564 : BitVec 32 := Scalar.addi v20 c1_i32_815
  let c4_i32_816 : BitVec 32 := 4#32
  let v1565 : BitVec 32 := Scalar.remsi v1564 c4_i32_816
  let v1566 : BitVec 32 := Scalar.addi v1563 v1565
  let c1_i32_825 : BitVec 32 := 1#32
  let v1575 : BitVec 32 := Scalar.muli v1566 c1_i32_825
  let v1576 : BitVec 32 := Scalar.addi c0_i32_826 v1575
  v1576.toNat
def k0_dev17 (d0 : Dev nD) : Nat :=
  let c0_i32_834 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_817 : BitVec 32 := 4#32
  let v1567 : BitVec 32 := Scalar.muli v19 c4_i32_817
  let c4_i32_5 : BitVec 32 := 4#32
  let v20 : BitVec 32 := Scalar.remsi v2 c4_i32_5
  let c2_i32_818 : BitVec 32 := 2#32
  let v1568 : BitVec 32 := Scalar.addi v20 c2_i32_818
  let c4_i32_819 : BitVec 32 := 4#32
  let v1569 : BitVec 32 := Scalar.remsi v1568 c4_i32_819
  let v1570 : BitVec 32 := Scalar.addi v1567 v1569
  let c1_i32_833 : BitVec 32 := 1#32
  let v1585 : BitVec 32 := Scalar.muli v1570 c1_i32_833
  let v1586 : BitVec 32 := Scalar.addi c0_i32_834 v1585
  v1586.toNat
def k0_dev18 (d0 : Dev nD) : Nat :=
  let c0_i32_841 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_820 : BitVec 32 := 4#32
  let v1571 : BitVec 32 := Scalar.muli v19 c4_i32_820
  let c4_i32_5 : BitVec 32 := 4#32
  let v20 : BitVec 32 := Scalar.remsi v2 c4_i32_5
  let c3_i32_821 : BitVec 32 := 3#32
  let v1572 : BitVec 32 := Scalar.addi v20 c3_i32_821
  let c4_i32_822 : BitVec 32 := 4#32
  let v1573 : BitVec 32 := Scalar.remsi v1572 c4_i32_822
  let v1574 : BitVec 32 := Scalar.addi v1571 v1573
  let c1_i32_840 : BitVec 32 := 1#32
  let v1595 : BitVec 32 := Scalar.muli v1574 c1_i32_840
  let v1596 : BitVec 32 := Scalar.addi c0_i32_841 v1595
  v1596.toNat
def k0_off19 (d0 : Dev nD) (c1_i32_854 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1613 : BitVec 32 := Scalar.addi v19 c1_i32_854
  let c1_i32_855 : BitVec 32 := 1#32
  let v1614 : BitVec 32 := Scalar.addi v1613 c1_i32_855
  let c4_i32_856 : BitVec 32 := 4#32
  let v1615 : BitVec 32 := Scalar.remsi v1614 c4_i32_856
  let c0_i32_864 : BitVec 32 := 0#32
  let c0_i32_865 : BitVec 32 := 0#32
  ![v22.toNat, v1615.toNat, 0, 0]
def k0_dev19 (d0 : Dev nD) : Nat :=
  let c0_i32_863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_857 : BitVec 32 := 4#32
  let v1616 : BitVec 32 := Scalar.muli v19 c4_i32_857
  let c4_i32_5 : BitVec 32 := 4#32
  let v20 : BitVec 32 := Scalar.remsi v2 c4_i32_5
  let c1_i32_858 : BitVec 32 := 1#32
  let v1617 : BitVec 32 := Scalar.addi v20 c1_i32_858
  let c4_i32_859 : BitVec 32 := 4#32
  let v1618 : BitVec 32 := Scalar.remsi v1617 c4_i32_859
  let v1619 : BitVec 32 := Scalar.addi v1616 v1618
  let c1_i32_862 : BitVec 32 := 1#32
  let v1620 : BitVec 32 := Scalar.muli v1619 c1_i32_862
  let v1621 : BitVec 32 := Scalar.addi c0_i32_863 v1620
  v1621.toNat
def k0_dev20 (d0 : Dev nD) : Nat :=
  let c0_i32_874 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_868 : BitVec 32 := 4#32
  let v1630 : BitVec 32 := Scalar.muli v19 c4_i32_868
  let c4_i32_5 : BitVec 32 := 4#32
  let v20 : BitVec 32 := Scalar.remsi v2 c4_i32_5
  let c2_i32_869 : BitVec 32 := 2#32
  let v1631 : BitVec 32 := Scalar.addi v20 c2_i32_869
  let c4_i32_870 : BitVec 32 := 4#32
  let v1632 : BitVec 32 := Scalar.remsi v1631 c4_i32_870
  let v1633 : BitVec 32 := Scalar.addi v1630 v1632
  let c1_i32_873 : BitVec 32 := 1#32
  let v1634 : BitVec 32 := Scalar.muli v1633 c1_i32_873
  let v1635 : BitVec 32 := Scalar.addi c0_i32_874 v1634
  v1635.toNat
def k0_dev21 (d0 : Dev nD) : Nat :=
  let c0_i32_884 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_879 : BitVec 32 := 4#32
  let v1644 : BitVec 32 := Scalar.muli v19 c4_i32_879
  let c4_i32_5 : BitVec 32 := 4#32
  let v20 : BitVec 32 := Scalar.remsi v2 c4_i32_5
  let c3_i32_880 : BitVec 32 := 3#32
  let v1645 : BitVec 32 := Scalar.addi v20 c3_i32_880
  let c4_i32_881 : BitVec 32 := 4#32
  let v1646 : BitVec 32 := Scalar.remsi v1645 c4_i32_881
  let v1647 : BitVec 32 := Scalar.addi v1644 v1646
  let c1_i32_883 : BitVec 32 := 1#32
  let v1648 : BitVec 32 := Scalar.muli v1647 c1_i32_883
  let v1649 : BitVec 32 := Scalar.addi c0_i32_884 v1648
  v1649.toNat
def k0_dev22 (d0 : Dev nD) : Nat :=
  let c0_i32_906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_900 : BitVec 32 := 4#32
  let v1669 : BitVec 32 := Scalar.muli v19 c4_i32_900
  let c4_i32_5 : BitVec 32 := 4#32
  let v20 : BitVec 32 := Scalar.remsi v2 c4_i32_5
  let c1_i32_901 : BitVec 32 := 1#32
  let v1670 : BitVec 32 := Scalar.addi v20 c1_i32_901
  let c4_i32_902 : BitVec 32 := 4#32
  let v1671 : BitVec 32 := Scalar.remsi v1670 c4_i32_902
  let v1672 : BitVec 32 := Scalar.addi v1669 v1671
  let c1_i32_905 : BitVec 32 := 1#32
  let v1673 : BitVec 32 := Scalar.muli v1672 c1_i32_905
  let v1674 : BitVec 32 := Scalar.addi c0_i32_906 v1673
  v1674.toNat
def k0_dev23 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_911 : BitVec 32 := 4#32
  let v1683 : BitVec 32 := Scalar.muli v19 c4_i32_911
  let c4_i32_5 : BitVec 32 := 4#32
  let v20 : BitVec 32 := Scalar.remsi v2 c4_i32_5
  let c2_i32_912 : BitVec 32 := 2#32
  let v1684 : BitVec 32 := Scalar.addi v20 c2_i32_912
  let c4_i32_913 : BitVec 32 := 4#32
  let v1685 : BitVec 32 := Scalar.remsi v1684 c4_i32_913
  let v1686 : BitVec 32 := Scalar.addi v1683 v1685
  let c1_i32_915 : BitVec 32 := 1#32
  let v1687 : BitVec 32 := Scalar.muli v1686 c1_i32_915
  let v1688 : BitVec 32 := Scalar.addi c0_i32_916 v1687
  v1688.toNat
def k0_dev24 (d0 : Dev nD) : Nat :=
  let c0_i32_926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_921 : BitVec 32 := 4#32
  let v1697 : BitVec 32 := Scalar.muli v19 c4_i32_921
  let c4_i32_5 : BitVec 32 := 4#32
  let v20 : BitVec 32 := Scalar.remsi v2 c4_i32_5
  let c3_i32_922 : BitVec 32 := 3#32
  let v1698 : BitVec 32 := Scalar.addi v20 c3_i32_922
  let c4_i32_923 : BitVec 32 := 4#32
  let v1699 : BitVec 32 := Scalar.remsi v1698 c4_i32_923
  let v1700 : BitVec 32 := Scalar.addi v1697 v1699
  let c1_i32_925 : BitVec 32 := 1#32
  let v1701 : BitVec 32 := Scalar.muli v1700 c1_i32_925
  let v1702 : BitVec 32 := Scalar.addi c0_i32_926 v1701
  v1702.toNat
def k0_dev25 (d0 : Dev nD) : Nat :=
  let c0_i32_948 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_942 : BitVec 32 := 4#32
  let v1722 : BitVec 32 := Scalar.muli v19 c4_i32_942
  let c4_i32_5 : BitVec 32 := 4#32
  let v20 : BitVec 32 := Scalar.remsi v2 c4_i32_5
  let c1_i32_943 : BitVec 32 := 1#32
  let v1723 : BitVec 32 := Scalar.addi v20 c1_i32_943
  let c4_i32_944 : BitVec 32 := 4#32
  let v1724 : BitVec 32 := Scalar.remsi v1723 c4_i32_944
  let v1725 : BitVec 32 := Scalar.addi v1722 v1724
  let c1_i32_947 : BitVec 32 := 1#32
  let v1726 : BitVec 32 := Scalar.muli v1725 c1_i32_947
  let v1727 : BitVec 32 := Scalar.addi c0_i32_948 v1726
  v1727.toNat
def k0_dev26 (d0 : Dev nD) : Nat :=
  let c0_i32_959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_953 : BitVec 32 := 4#32
  let v1736 : BitVec 32 := Scalar.muli v19 c4_i32_953
  let c4_i32_5 : BitVec 32 := 4#32
  let v20 : BitVec 32 := Scalar.remsi v2 c4_i32_5
  let c2_i32_954 : BitVec 32 := 2#32
  let v1737 : BitVec 32 := Scalar.addi v20 c2_i32_954
  let c4_i32_955 : BitVec 32 := 4#32
  let v1738 : BitVec 32 := Scalar.remsi v1737 c4_i32_955
  let v1739 : BitVec 32 := Scalar.addi v1736 v1738
  let c1_i32_958 : BitVec 32 := 1#32
  let v1740 : BitVec 32 := Scalar.muli v1739 c1_i32_958
  let v1741 : BitVec 32 := Scalar.addi c0_i32_959 v1740
  v1741.toNat
def k0_dev27 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c4_i32_964 : BitVec 32 := 4#32
  let v1750 : BitVec 32 := Scalar.muli v19 c4_i32_964
  let c4_i32_5 : BitVec 32 := 4#32
  let v20 : BitVec 32 := Scalar.remsi v2 c4_i32_5
  let c3_i32_965 : BitVec 32 := 3#32
  let v1751 : BitVec 32 := Scalar.addi v20 c3_i32_965
  let c4_i32_966 : BitVec 32 := 4#32
  let v1752 : BitVec 32 := Scalar.remsi v1751 c4_i32_966
  let v1753 : BitVec 32 := Scalar.addi v1750 v1752
  let c1_i32_968 : BitVec 32 := 1#32
  let v1754 : BitVec 32 := Scalar.muli v1753 c1_i32_968
  let v1755 : BitVec 32 := Scalar.addi c0_i32_969 v1754
  v1755.toNat
def k0_off20 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let v1764 : Index := Scalar.indexCast v22
  let c0_974 : Index := 0#32
  let c0_975 : Index := 0#32
  let c0_976 : Index := 0#32
  ![v1764.toNat, 0, 0, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_6 : BitVec 32 := 1#32
  let v21 : BitVec 32 := Scalar.addi v20 c1_i32_6
  let c4_i32_7 : BitVec 32 := 4#32
  let v22 : BitVec 32 := Scalar.remsi v21 c4_i32_7
  let c256_i32_977 : BitVec 32 := 256#32
  let v1769 : BitVec 32 := Scalar.muli v22 c256_i32_977
  let v1770 : Index := Scalar.indexCast v1769
  let c0_978 : Index := 0#32
  ![v1770.toNat, 0]
def k0_off22 (d0 : Dev nD) (c1_i32_998 : BitVec 32) (c0_i32_979 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c5_i32_997 : BitVec 32 := 5#32
  let v1787 : BitVec 32 := Scalar.addi v20 c5_i32_997
  let v1788 : BitVec 32 := Scalar.subi v1787 c1_i32_998
  let c4_i32_999 : BitVec 32 := 4#32
  let v1789 : BitVec 32 := Scalar.remsi v1788 c4_i32_999
  let v1790 : Index := Scalar.indexCast v1789
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1772 : BitVec 32 := Scalar.addi v19 c0_i32_979
  let c1_i32_980 : BitVec 32 := 1#32
  let v1773 : BitVec 32 := Scalar.addi v1772 c1_i32_980
  let c4_i32_981 : BitVec 32 := 4#32
  let v1774 : BitVec 32 := Scalar.remsi v1773 c4_i32_981
  let v1791 : Index := Scalar.indexCast v1774
  let c0_1000 : Index := 0#32
  let c0_1001 : Index := 0#32
  ![v1790.toNat, v1791.toNat, 0, 0]
def k0_off23 (d0 : Dev nD) (c1_i32_998 : BitVec 32) (c0_i32_979 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c5_i32_997 : BitVec 32 := 5#32
  let v1787 : BitVec 32 := Scalar.addi v20 c5_i32_997
  let v1788 : BitVec 32 := Scalar.subi v1787 c1_i32_998
  let c4_i32_999 : BitVec 32 := 4#32
  let v1789 : BitVec 32 := Scalar.remsi v1788 c4_i32_999
  let c256_i32_1002 : BitVec 32 := 256#32
  let v1795 : BitVec 32 := Scalar.muli v1789 c256_i32_1002
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let v1772 : BitVec 32 := Scalar.addi v19 c0_i32_979
  let c1_i32_980 : BitVec 32 := 1#32
  let v1773 : BitVec 32 := Scalar.addi v1772 c1_i32_980
  let c4_i32_981 : BitVec 32 := 4#32
  let v1774 : BitVec 32 := Scalar.remsi v1773 c4_i32_981
  let c64_i32_1003 : BitVec 32 := 64#32
  let v1796 : BitVec 32 := Scalar.muli v1774 c64_i32_1003
  let v1797 : BitVec 32 := Scalar.addi v1795 v1796
  let v1798 : Index := Scalar.indexCast v1797
  let c0_1004 : Index := 0#32
  ![v1798.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x2 : Shape := ⟨2, ![1024, 2]⟩
abbrev S64x512x1024 : Shape := ⟨3, ![64, 512, 1024]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1024x2x1 : Shape := ⟨3, ![1024, 2, 1]⟩
abbrev S1024x512x1024 : Shape := ⟨3, ![1024, 512, 1024]⟩
abbrev S1024x1024 : Shape := ⟨2, ![1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x2, .i32⟩
  | .hbm, ⟨3, _⟩ => ⟨S64x512x1024, .bf16⟩
  | .hbm, ⟨4, _⟩ => ⟨S1024x64, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S1024x64, .f32⟩
  | .hbm, ⟨9, _⟩ => ⟨S1024x64, .f32⟩
  | .hbm, ⟨10, _⟩ => ⟨S1024x64, .f32⟩
  | .hbm, ⟨11, _⟩ => ⟨S_, .f32⟩
  | .hbm, ⟨12, _⟩ => ⟨S1024, .f32⟩
  | .hbm, ⟨13, _⟩ => ⟨S1024x1, .f32⟩
  | .hbm, ⟨14, _⟩ => ⟨S1024x64, .f32⟩
  | .hbm, ⟨15, _⟩ => ⟨S1024x64, .f32⟩
  | .hbm, ⟨16, _⟩ => ⟨S_, .i32⟩
  | .hbm, ⟨17, _⟩ => ⟨S1024x2, .i32⟩
  | .hbm, ⟨18, _⟩ => ⟨S1024x2, .i1⟩
  | .hbm, ⟨19, _⟩ => ⟨S_, .i32⟩
  | .hbm, ⟨20, _⟩ => ⟨S1024x2, .i32⟩
  | .hbm, ⟨21, _⟩ => ⟨S1024x2, .i32⟩
  | .hbm, ⟨22, _⟩ => ⟨S1024x2, .i32⟩
  | .hbm, ⟨23, _⟩ => ⟨S1024x2x1, .i32⟩
  | .hbm, ⟨24, _⟩ => ⟨S1024x2, .f32⟩
  | .hbm, ⟨25, _⟩ => ⟨S1024x1, .f32⟩
  | .hbm, ⟨26, _⟩ => ⟨S1024x1, .f32⟩
  | .hbm, ⟨27, _⟩ => ⟨S1024x1, .f32⟩
  | .hbm, ⟨28, _⟩ => ⟨S1024x1, .i32⟩
  | .hbm, ⟨29, _⟩ => ⟨S1024, .i32⟩
  | .hbm, ⟨30, _⟩ => ⟨S1024x1, .i32⟩
  | .hbm, ⟨31, _⟩ => ⟨S1024x512x1024, .bf16⟩
  | .hbm, ⟨32, _⟩ => ⟨S1024x1, .i32⟩
  | .hbm, ⟨33, _⟩ => ⟨S1024, .i32⟩
  | .hbm, ⟨34, _⟩ => ⟨S1024x1, .i32⟩
  | .hbm, ⟨35, _⟩ => ⟨S1024x512x1024, .bf16⟩
  | .hbm, ⟨36, _⟩ => ⟨S1024x1024, .f32⟩
  | .hbm, ⟨37, _⟩ => ⟨S1024x1024, .f32⟩
  | .hbm, ⟨38, _⟩ => ⟨S1024x1, .f32⟩
  | .hbm, ⟨39, _⟩ => ⟨S1024x1024, .f32⟩
  | .hbm, ⟨40, _⟩ => ⟨S1024x1024, .f32⟩
  | .hbm, ⟨41, _⟩ => ⟨S1024x1, .f32⟩
  | .hbm, ⟨42, _⟩ => ⟨S1024x1024, .f32⟩
  | .hbm, ⟨43, _⟩ => ⟨S1024x1024, .f32⟩
  | .hbm, ⟨44, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call2_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== Proof.Stretches.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame

/-!
# The kernel body, stretch by stretch

The body moves one quarter of the tokens per stretch of text, and the four quarters (and the four partial sums
after them) are the same text at other offsets. Here each repeated stretch is written once, over its offsets,
and `body_stretches` says the printed body is the sequence of them.
-/

@[expose] public section

set_option maxRecDepth 16384

noncomputable section

namespace Cert.Moe

open Cert.KernelIdeal Cert.KernelIdeal.Gen
open Idealize.ShloMosaic Idealize.ShloMosaic.TcCoe
open Idealize.SL Idealize.SL.Sem

variable {F : FTy → Type} [FloatOps F]

/-- A program text of this kernel over the float values `F`. -/
abbrev PR (F : FTy → Type) [FloatOps F] (α : Type) := Prog (TpuEff nD τ sig (Elt F) Λ₀ .tc) α

/-- Two texts with equal first operations and equal continuations are equal. -/
theorem op_congr {E : Type → Type} {X A : Type} {e e' : E X} {k k' : X → Prog E A} (h : e = e') (hk : ∀ x, k x = k' x) :
    Prog.op e k = Prog.op e' k' := by
  subst h; exact congrArg _ (funext hk)

/-! ## The buffers -/

abbrev xM : Memref sig .tc .vmem S1024x512 .bf16 := Memref.whole cc0_stg0_0
abbrev rwM : Memref sig .tc .vmem S512x64 .bf16 := Memref.whole cc0_stg1_0
abbrev idxM : Memref sig .tc .vmem S1024x2 .i32 := Memref.whole cc0_stg2_0
abbrev ewM : Memref sig .tc .vmem S4x512x1024 .bf16 := Memref.whole cc0_stg3_0
abbrev outM : Memref sig .tc .vmem S1024x1024 .f32 := Memref.whole cc0_stg4_0
abbrev g0M : Memref sig .tc .vmem S1024x1 .f32 := Memref.whole cc0_scratch0
abbrev g1M : Memref sig .tc .vmem S1024x1 .f32 := Memref.whole cc0_scratch1
abbrev posM : Memref sig .tc .vmem S256x1 .f32 := Memref.whole cc0_scratch2
abbrev ewbM : Memref sig .tc .vmem S4x512x1024 .bf16 := Memref.whole cc0_scratch3
abbrev saM : Memref sig .tc .vmem S3x80x1024 .bf16 := Memref.whole cc0_scratch4
abbrev raM : Memref sig .tc .vmem S3x80x1024 .bf16 := Memref.whole cc0_scratch5
abbrev qbM : Memref sig .tc .vmem S256x1024 .bf16 := Memref.whole cc0_scratch6
abbrev rbM : Memref sig .tc .vmem S3x64x1024 .bf16 := Memref.whole cc0_scratch7
abbrev agM : Memref sig .tc .vmem S4x4x64x1024 .bf16 := Memref.whole cc0_scratch8

/-! ## Bounds of the slabs, at every slot -/

theorem inbY : ∀ s : Fin 3, ∀ a, (![s.val, 0, 0] : Fin 3 → Nat) a + S1x64x1024.size a ≤ S3x80x1024.size a := by decide
theorem inbR : ∀ s : Fin 3, ∀ a, (![s.val, 64, 0] : Fin 3 → Nat) a + S1x1x128.size a ≤ S3x80x1024.size a := by decide
theorem inbRR : ∀ s : Fin 3, ∀ a, (![s.val, 64, 0] : Fin 3 → Nat) a + S1x2x128.size a ≤ S3x80x1024.size a := by decide
theorem inbI : ∀ s : Fin 3, ∀ a, (![s.val, 64, 0] : Fin 3 → Nat) a + S1x1x64.size a ≤ S3x80x1024.size a := by decide
theorem inbS : ∀ s : Fin 3, ∀ a, (![s.val, 0, 0] : Fin 3 → Nat) a + S1x80x1024.size a ≤ S3x80x1024.size a := by decide
theorem inbB : ∀ s : Fin 3, ∀ a, (![s.val, 0, 0] : Fin 3 → Nat) a + S1x64x1024.size a ≤ S3x64x1024.size a := by decide
theorem inbE : ∀ l : Fin 4, ∀ a, (![l.val, 0, 0] : Fin 3 → Nat) a + S1x512x1024.size a ≤ S4x512x1024.size a := by decide
theorem inb12 : ∀ i : Fin 12, ∀ a, (![i.val] : Fin 1 → Nat) a + S1.size a ≤ S12.size a := by decide
theorem inb3 : ∀ i : Fin 3, ∀ a, (![i.val] : Fin 1 → Nat) a + S1.size a ≤ S3.size a := by decide

/-- Slot `s`'s first 64 rows are written in whole words. -/
theorem packY (s : Fin 3) : (Rect.unit (s := S3x80x1024) ![s.val, 0, 0] S1x64x1024.size (inbY s)).PackedRows (EltTy.packing .bf16) :=
  match s with
  | 0 => packedbf16_S3x80x1024_S1x64x1024_0_0_0
  | 1 => packedbf16_S3x80x1024_S1x64x1024_1_0_0
  | 2 => packedbf16_S3x80x1024_S1x64x1024_2_0_0
/-- Slot `s`'s row pair 64, 65 is written in whole words. -/
theorem packRR (s : Fin 3) : (Rect.unit (s := S3x80x1024) ![s.val, 64, 0] S1x2x128.size (inbRR s)).PackedRows (EltTy.packing .bf16) :=
  match s with
  | 0 => packedbf16_S3x80x1024_S1x2x128_0_64_0
  | 1 => packedbf16_S3x80x1024_S1x2x128_1_64_0
  | 2 => packedbf16_S3x80x1024_S1x2x128_2_64_0
/-- Slot `s`'s slab is whole words. -/
theorem wordS (s : Fin 3) : (Rect.unit (s := S3x80x1024) ![s.val, 0, 0] S1x80x1024.size (inbS s)).WholeWords (EltTy.packing .bf16) :=
  match s with
  | 0 => wordsbf16_S3x80x1024_S1x80x1024_0_0_0
  | 1 => wordsbf16_S3x80x1024_S1x80x1024_1_0_0
  | 2 => wordsbf16_S3x80x1024_S1x80x1024_2_0_0
/-- Slot `s`'s received block is whole words. -/
theorem wordB (s : Fin 3) : (Rect.unit (s := S3x64x1024) ![s.val, 0, 0] S1x64x1024.size (inbB s)).WholeWords (EltTy.packing .bf16) :=
  match s with
  | 0 => wordsbf16_S3x64x1024_S1x64x1024_0_0_0
  | 1 => wordsbf16_S3x64x1024_S1x64x1024_1_0_0
  | 2 => wordsbf16_S3x64x1024_S1x64x1024_2_0_0
/-- Expert `l`'s slab is written in whole words. -/
theorem packE (l : Fin 4) : (Rect.unit (s := S4x512x1024) ![l.val, 0, 0] S1x512x1024.size (inbE l)).PackedRows (EltTy.packing .bf16) :=
  match l with
  | 0 => packedbf16_S4x512x1024_S1x512x1024_0_0_0
  | 1 => packedbf16_S4x512x1024_S1x512x1024_1_0_0
  | 2 => packedbf16_S4x512x1024_S1x512x1024_2_0_0
  | 3 => packedbf16_S4x512x1024_S1x512x1024_3_0_0

/-- Slot `s` of the outgoing slabs. -/
abbrev saV (s : Fin 3) : Memref sig .tc .vmem S80x1024 .bf16 :=
  (saM.slice (Rect.unit (s := S3x80x1024) ![s.val, 0, 0] S1x80x1024.size (inbS s)) (fun _ => rfl)).squeeze S80x1024 squeezes_S1x80x1024_S80x1024
/-- Slot `s` of the incoming slabs. -/
abbrev raV (s : Fin 3) : Memref sig .tc .vmem S80x1024 .bf16 :=
  (raM.slice (Rect.unit (s := S3x80x1024) ![s.val, 0, 0] S1x80x1024.size (inbS s)) (fun _ => rfl)).squeeze S80x1024 squeezes_S1x80x1024_S80x1024
/-- Slot `s` of the incoming partial sums. -/
abbrev rbV (s : Fin 3) : Memref sig .tc .vmem S64x1024 .bf16 :=
  (rbM.slice (Rect.unit (s := S3x64x1024) ![s.val, 0, 0] S1x64x1024.size (inbB s)) (fun _ => rfl)).squeeze S64x1024 squeezes_S1x64x1024_S64x1024
/-- 64 rows of the outgoing partial sums, from the offset `o`. -/
abbrev qbV (o : Fin 2 → ℕ) (h : ∀ a, o a + S64x1024.size a ≤ S256x1024.size a) : Memref sig .tc .vmem S64x1024 .bf16 :=
  qbM.slice (Rect.unit (s := S256x1024) o S64x1024.size h) (fun _ => rfl)
/-- One 64-row block of the gathered result, at the offset `o`. -/
abbrev agV (o : Fin 4 → ℕ) (h : ∀ a, o a + S1x1x64x1024.size a ≤ S4x4x64x1024.size a) : Memref sig .tc .vmem S64x1024 .bf16 :=
  (agM.slice (Rect.unit (s := S4x4x64x1024) o S1x1x64x1024.size h) (fun _ => rfl)).squeeze S64x1024 squeezes_S1x1x64x1024_S64x1024

theorem saV_words (s : Fin 3) : (saV s).view.WordExact := ((Memref.isWhole_whole cc0_scratch4).wordExact_slice rfl _ (wordS s)).reshape _ _
theorem raV_words (s : Fin 3) : (raV s).view.WordExact := ((Memref.isWhole_whole cc0_scratch5).wordExact_slice rfl _ (wordS s)).reshape _ _
theorem rbV_words (s : Fin 3) : (rbV s).view.WordExact := ((Memref.isWhole_whole cc0_scratch7).wordExact_slice rfl _ (wordB s)).reshape _ _
theorem qbV_words (d : Dev nD) (r : Fin 3) : (qbV (k0_off13 d (BitVec.ofNat 32 (1 + r.val))) (k0_off13_inb d r)).view.WordExact :=
  (Memref.isWhole_whole cc0_scratch6).wordExact_slice rfl _ (k0_off13_wordsbf16 d r)
theorem ag18_words (d : Dev nD) : (agV (k0_off18 d) (k0_off18_inb d)).view.WordExact :=
  ((Memref.isWhole_whole cc0_scratch8).wordExact_slice rfl _ (k0_off18_wordsbf16 d)).reshape _ _
theorem ag19_words (d : Dev nD) (r : Fin 3) : (agV (k0_off19 d (BitVec.ofNat 32 (1 + r.val))) (k0_off19_inb d r)).view.WordExact :=
  ((Memref.isWhole_whole cc0_scratch8).wordExact_slice rfl _ (k0_off19_wordsbf16 d r)).reshape _ _
theorem ag0_inb : ∀ a, (![0, 0, 0, 0] : Fin 4 → ℕ) a + S1x1x64x1024.size a ≤ S4x4x64x1024.size a := by decide
theorem ag0_words : (agV ![0, 0, 0, 0] ag0_inb).view.WordExact :=
  ((Memref.isWhole_whole cc0_scratch8).wordExact_slice rfl _ wordsbf16_S4x4x64x1024_S1x1x64x1024_0_0_0_0).reshape _ _

/-! ## The semaphores -/

abbrev barS : Sem sig := (SemArray.scalar (sig.barrier 0 rfl) : Sems sig S_).sem
abbrev saS (i : Fin 12) : DmaSem sig := ((cc0_scratch9.slice (Rect.unit (s := S12) ![i.val] S1.size (inb12 i))).squeeze S_ squeezes_S1_S_).sem
abbrev raS (i : Fin 12) : DmaSem sig := ((cc0_scratch10.slice (Rect.unit (s := S12) ![i.val] S1.size (inb12 i))).squeeze S_ squeezes_S1_S_).sem
abbrev zsS (i : Fin 3) : DmaSem sig := ((cc0_scratch11.slice (Rect.unit (s := S3) ![i.val] S1.size (inb3 i))).squeeze S_ squeezes_S1_S_).sem
abbrev zrS (i : Fin 3) : DmaSem sig := ((cc0_scratch12.slice (Rect.unit (s := S3) ![i.val] S1.size (inb3 i))).squeeze S_ squeezes_S1_S_).sem
abbrev psS (i : Fin 12) : DmaSem sig := ((cc0_scratch13.slice (Rect.unit (s := S12) ![i.val] S1.size (inb12 i))).squeeze S_ squeezes_S1_S_).sem
abbrev prS (i : Fin 12) : DmaSem sig := ((cc0_scratch14.slice (Rect.unit (s := S12) ![i.val] S1.size (inb12 i))).squeeze S_ squeezes_S1_S_).sem

/-! ## What is computed from the values read -/

/-- The device's number as the body computes it. -/
abbrev w2 (d : Dev nD) : BitVec 32 := Scalar.remsi (Scalar.divsi (Dev.word d) 1#32) 16#32

/-- What one quarter of the tokens is computed from: the two routed experts, the two gates, the tokens, and the
    device's four experts. -/
structure QIn (F : FTy → Type) where
  i0 : Vec F S256x1 .i32
  i1 : Vec F S256x1 .i32
  g0 : Vec F S256x1 .f32
  g1 : Vec F S256x1 .f32
  x : Vec F S256x512 .bf16
  e0 : Vec F S1x512x1024 .bf16
  e1 : Vec F S1x512x1024 .bf16
  e2 : Vec F S1x512x1024 .bf16
  e3 : Vec F S1x512x1024 .bf16

abbrev lanes : IVec S256x64 32 := iota .tc S256x64 32 [1] iota_S256x64_d1_w32

/-- Which token of the quarter sits in which slot, as zeros and ones. -/
def selV (w : BitVec 32) (v : QIn F) : FVec F S256x64 .f32 :=
  k0_pay21 w k0_pay14 lanes (k0_pay17 v.i1) (k0_pay18 w v.i0) 4#32 (k0_pay19 v.i1) (k0_pay20 v.i1) 0#32

/-- The quarter's compacted product, as the slab row block it is sent in. -/
def ycV (w : BitVec 32) (v : QIn F) : FVec F S1x64x1024 .bf16 :=
  k0_pay29 w (k0_pay16 v.i0) (k0_pay17 v.i1) v.g0 v.g1 (selV w v)
    (k0_pay22 w k0_pay14 lanes (k0_pay17 v.i1) (k0_pay18 w v.i0) 4#32 (k0_pay19 v.i1) (k0_pay20 v.i1) 0#32 v.x)
    (k0_pay25 w (k0_pay16 v.i0) (k0_pay17 v.i1) v.g0 v.g1 (selV w v)
      (k0_pay22 w k0_pay14 lanes (k0_pay17 v.i1) (k0_pay18 w v.i0) 4#32 (k0_pay19 v.i1) (k0_pay20 v.i1) 0#32 v.x)
      (Scalar.addi (Scalar.muli w 4#32) 0#32) (k0_pay23 w (k0_pay16 v.i0)) k0_pay24 v.e0 v.e1)
    (k0_pay26 w (k0_pay16 v.i0) v.g0) (k0_pay27 w (k0_pay17 v.i1)) k0_pay28 v.e2 v.e3

/-- The tokens' numbers (from 1) in the slots, as the slab row they are sent in. -/
def rowV (w : BitVec 32) (v : QIn F) : FVec F S1x1x128 .bf16 := k0_pay31 (k0_pay30 k0_pay15 (selV w v))

/-- The device's own quarter's compacted product. -/
def yoV (w : BitVec 32) (v : QIn F) : FVec F S64x1024 .bf16 := k0_pay72 (k0_pay70 (k0_pay57 v.i0) (k0_pay58 v.i1) v.g0 v.g1
  (k0_pay65 w k0_pay14 lanes (k0_pay59 w (k0_pay57 v.i0)) (k0_pay60 (k0_pay58 v.i1)) (k0_pay61 (k0_pay58 v.i1)) (k0_pay62 (k0_pay58 v.i1)))
  (k0_pay66 w k0_pay14 lanes (k0_pay59 w (k0_pay57 v.i0)) (k0_pay60 (k0_pay58 v.i1)) (k0_pay61 (k0_pay58 v.i1)) (k0_pay62 (k0_pay58 v.i1)) v.x)
  (k0_pay69 w (k0_pay57 v.i0) (k0_pay58 v.i1) v.g0 v.g1
    (k0_pay65 w k0_pay14 lanes (k0_pay59 w (k0_pay57 v.i0)) (k0_pay60 (k0_pay58 v.i1)) (k0_pay61 (k0_pay58 v.i1)) (k0_pay62 (k0_pay58 v.i1)))
    (k0_pay66 w k0_pay14 lanes (k0_pay59 w (k0_pay57 v.i0)) (k0_pay60 (k0_pay58 v.i1)) (k0_pay61 (k0_pay58 v.i1)) (k0_pay62 (k0_pay58 v.i1)) v.x)
    (k0_pay67 w k0_pay14 lanes (k0_pay57 v.i0) (k0_pay58 v.i1) v.g0 v.g1 (k0_pay59 w (k0_pay57 v.i0)) (k0_pay60 (k0_pay58 v.i1)) (k0_pay61 (k0_pay58 v.i1)) (k0_pay62 (k0_pay58 v.i1)) v.x)
    (k0_pay68 v.e0) (constant S64x1024 .f32 0x00000000#32) v.e1 v.e2)
  (Scalar.muli w 4#32) 3#32 v.e3)

/-- The own quarter's slot numbers, per token. -/
def poV (w : BitVec 32) (v : QIn F) : FVec F S256x1 .f32 :=
  k0_pay71 (k0_pay64 w k0_pay14 (k0_pay59 w (k0_pay57 v.i0)) (k0_pay60 (k0_pay58 v.i1)) (k0_pay61 (k0_pay58 v.i1)) (k0_pay62 (k0_pay58 v.i1)))

/-- What a 64-token partial sum over the plane is computed from. -/
structure GIn (F : FTy → Type) where
  i0 : Vec F S64x1 .i32
  i1 : Vec F S64x1 .i32
  p : Vec F S64x1 .f32
  r0 : Vec F S1x1x64 .bf16
  y0 : Vec F S1x64x1024 .bf16
  r1 : Vec F S1x1x64 .bf16
  y1 : Vec F S1x64x1024 .bf16
  r2 : Vec F S1x1x64 .bf16
  y2 : Vec F S1x64x1024 .bf16

abbrev lanes64 : IVec S64x64 32 := iota .tc S64x64 32 [1] iota_S64x64_d1_w32
abbrev rows64 : IVec S64x64 32 := iota .tc S64x64 32 [0] iota_S64x64_d0_w32

/-- The partial sum over the plane's four devices, of the 64 tokens from row `b` of the quarter. -/
def segV (w b : BitVec 32) (y : FVec F S64x1024 .bf16) (v : GIn F) : FVec F S64x1024 .f32 :=
  k0_pay111 rows64 b (k0_pay110 rows64 y b (k0_pay107 w lanes64 (k0_pay102 v.i0) (k0_pay103 v.i1) (k0_pay104 v.i0) (k0_pay105 v.i0) k0_pay106 v.p)
    k0_pay108 k0_pay109 v.r0 v.y0 v.r1 v.y1) v.r2 v.y2

/-- The same, as it is stored to be sent. -/
def segbV (w b : BitVec 32) (y : FVec F S64x1024 .bf16) (v : GIn F) : FVec F S64x1024 .bf16 :=
  k0_pay82 rows64 b (k0_pay81 rows64 y b (k0_pay78 w lanes64 (k0_pay73 v.i0) (k0_pay74 v.i1) (k0_pay75 v.i0) (k0_pay76 v.i0) k0_pay77 v.p)
    k0_pay79 k0_pay80 v.r0 v.y0 v.r1 v.y1) v.r2 v.y2

/-- The device's plane number, as the body computes it. -/
abbrev w19 (d : Dev nD) : BitVec 32 :=
  Scalar.select (Scalar.andi (Scalar.cmpi .ne (Scalar.subi (Scalar.extui (Scalar.cmpi .sgt (w2 d) 0#32)) (Scalar.extui (Scalar.cmpi .slt (w2 d) 0#32)))
      (Scalar.subi (Scalar.extui (Scalar.cmpi .sgt 4#32 0#32)) (Scalar.extui (Scalar.cmpi .slt 4#32 0#32))))
    (Scalar.cmpi .ne (Scalar.remsi (w2 d) 4#32) 0#32)) (Scalar.subi (Scalar.divsi (w2 d) 4#32) 1#32) (Scalar.divsi (w2 d) 4#32)
/-- The first row of the block sent at step `r + 1`. -/
abbrev wB (d : Dev nD) (r : Fin 3) : BitVec 32 :=
  Scalar.muli (Scalar.remsi (Scalar.addi (Scalar.addi (w19 d) (BitVec.ofNat 32 (1 + r.val))) 1#32) 4#32) 64#32
/-- The first row of the device's own block. -/
abbrev wO (d : Dev nD) : BitVec 32 := Scalar.muli (Scalar.remsi (Scalar.addi (w19 d) 1#32) 4#32) 64#32

/-! ## The stretches -/

abbrev load {s : Shape} {e : EltTy} (M : Memref sig .tc .vmem s e) (r : Rect s) (h : 0 < r.shape.numel) : PR F (Vec F r.shape e) :=
  Prog.lift (.load M r.toLoadRect (View.loadsAt_vmem h))

/-- One 256-row quarter's operands. -/
def quarterIn (o1 o2 o3 : Fin 2 → ℕ) (o4 : Fin 2 → ℕ) (h1 : ∀ a, o1 a + S256x1.size a ≤ S1024x2.size a)
    (h2 : ∀ a, o2 a + S256x1.size a ≤ S1024x2.size a) (h3 : ∀ a, o3 a + S256x1.size a ≤ S1024x1.size a)
    (h4 : ∀ a, o4 a + S256x512.size a ≤ S1024x512.size a) : PR F (QIn F) := do
  let i0 : Vec F S256x1 .i32 ← load idxM (Rect.unit (s := S1024x2) o1 S256x1.size h1) h_S256x1
  let i1 : Vec F S256x1 .i32 ← load idxM (Rect.unit (s := S1024x2) o2 S256x1.size h2) h_S256x1
  let g0 : Vec F S256x1 .f32 ← load g0M (Rect.unit (s := S1024x1) o3 S256x1.size h3) h_S256x1
  let g1 : Vec F S256x1 .f32 ← load g1M (Rect.unit (s := S1024x1) o3 S256x1.size h3) h_S256x1
  let x : Vec F S256x512 .bf16 ← load xM (Rect.unit (s := S1024x512) o4 S256x512.size h4) h_S256x512
  let e0 : Vec F S1x512x1024 .bf16 ← load ewbM (Rect.unit (s := S4x512x1024) ![(0 : Fin 4).val, 0, 0] S1x512x1024.size (inbE 0)) h_S1x512x1024
  let e1 : Vec F S1x512x1024 .bf16 ← load ewbM (Rect.unit (s := S4x512x1024) ![(1 : Fin 4).val, 0, 0] S1x512x1024.size (inbE 1)) h_S1x512x1024
  let e2 : Vec F S1x512x1024 .bf16 ← load ewbM (Rect.unit (s := S4x512x1024) ![(2 : Fin 4).val, 0, 0] S1x512x1024.size (inbE 2)) h_S1x512x1024
  let e3 : Vec F S1x512x1024 .bf16 ← load ewbM (Rect.unit (s := S4x512x1024) ![(3 : Fin 4).val, 0, 0] S1x512x1024.size (inbE 3)) h_S1x512x1024
  pure ⟨i0, i1, g0, g1, x, e0, e1, e2, e3⟩

/-- A peer's quarter: computed and put in slot `r` of the outgoing slabs. -/
def quarterA (d : Dev nD) (r : Fin 3) : PR F PUnit := do
  let v ← quarterIn (F := F) (k0_off1 d (BitVec.ofNat 32 (1 + r.val))) (k0_off2 d (BitVec.ofNat 32 (1 + r.val))) (k0_off3 d (BitVec.ofNat 32 (1 + r.val)))
    (k0_off4 d (BitVec.ofNat 32 (1 + r.val))) (k0_off1_inb d r) (k0_off2_inb d r) (k0_off3_inb d r) (k0_off4_inb d r)
  let _ : Vec F S1x64x1024 .bf16 ← load saM (Rect.unit (s := S3x80x1024) ![r.val, 0, 0] S1x64x1024.size (inbY r)) h_S1x64x1024
  Prog.lift (.store saM (Rect.unit (s := S3x80x1024) ![r.val, 0, 0] S1x64x1024.size (inbY r)) (ycV (w2 d) v) Finset.univ
    (View.stores_vmem h_S1x64x1024 ((Memref.isWhole_whole cc0_scratch4).storeExact_slice rfl _ (packY r)) (fun _ => rfl)) (.inl rfl))
  let _ : Vec F S1x1x128 .bf16 ← load saM (Rect.unit (s := S3x80x1024) ![r.val, 64, 0] S1x1x128.size (inbR r)) h_S1x1x128
  storeSubelements saM (Rect.unit (s := S3x80x1024) ![r.val, 64, 0] S1x2x128.size (inbRR r))
    (fun old => updateSlice old (rowV (w2 d) v) ![0, 0, 0] slices_S1x2x128_S1x1x128_0_0_0) (View.loadsAt_vmem h_S1x2x128)
    (View.stores_vmem h_S1x2x128 ((Memref.isWhole_whole cc0_scratch4).storeExact_slice rfl _ (packRR r)) (fun _ => rfl))

/-- The own quarter: computed and kept, its slot numbers put aside. -/
def quarterO (d : Dev nD) : PR F (FVec F S64x1024 .bf16) := do
  let v ← quarterIn (F := F) (k0_off5 d) (k0_off6 d) (k0_off7 d) (k0_off8 d) (k0_off5_inb d) (k0_off6_inb d) (k0_off7_inb d) (k0_off8_inb d)
  let _ : Vec F S256x1 .f32 ← load posM (Rect.unit (s := S256x1) ![0, 0] S256x1.size inb_S256x1_S256x1_0_0) h_S256x1
  Prog.lift (.store posM (Rect.unit (s := S256x1) ![0, 0] S256x1.size inb_S256x1_S256x1_0_0) (poV (w2 d) v) Finset.univ (View.stores_vmem_bits_univ h_S256x1 rfl) (.inl rfl))
  pure (yoV (w2 d) v)

/-- The operands of one 64-row partial sum. -/
def groupIn (o1 o2 o3 : Fin 2 → ℕ) (h1 : ∀ a, o1 a + S64x1.size a ≤ S1024x2.size a) (h2 : ∀ a, o2 a + S64x1.size a ≤ S1024x2.size a)
    (h3 : ∀ a, o3 a + S64x1.size a ≤ S256x1.size a) : PR F (GIn F) := do
  let i0 : Vec F S64x1 .i32 ← load idxM (Rect.unit (s := S1024x2) o1 S64x1.size h1) h_S64x1
  let i1 : Vec F S64x1 .i32 ← load idxM (Rect.unit (s := S1024x2) o2 S64x1.size h2) h_S64x1
  let p : Vec F S64x1 .f32 ← load posM (Rect.unit (s := S256x1) o3 S64x1.size h3) h_S64x1
  let r0 : Vec F S1x1x64 .bf16 ← load raM (Rect.unit (s := S3x80x1024) ![(0 : Fin 3).val, 64, 0] S1x1x64.size (inbI 0)) h_S1x1x64
  let y0 : Vec F S1x64x1024 .bf16 ← load raM (Rect.unit (s := S3x80x1024) ![(0 : Fin 3).val, 0, 0] S1x64x1024.size (inbY 0)) h_S1x64x1024
  let r1 : Vec F S1x1x64 .bf16 ← load raM (Rect.unit (s := S3x80x1024) ![(1 : Fin 3).val, 64, 0] S1x1x64.size (inbI 1)) h_S1x1x64
  let y1 : Vec F S1x64x1024 .bf16 ← load raM (Rect.unit (s := S3x80x1024) ![(1 : Fin 3).val, 0, 0] S1x64x1024.size (inbY 1)) h_S1x64x1024
  let r2 : Vec F S1x1x64 .bf16 ← load raM (Rect.unit (s := S3x80x1024) ![(2 : Fin 3).val, 64, 0] S1x1x64.size (inbI 2)) h_S1x1x64
  let y2 : Vec F S1x64x1024 .bf16 ← load raM (Rect.unit (s := S3x80x1024) ![(2 : Fin 3).val, 0, 0] S1x64x1024.size (inbY 2)) h_S1x64x1024
  pure ⟨i0, i1, p, r0, y0, r1, y1, r2, y2⟩

/-- A peer's partial sum, put in the rows it is sent from. -/
def groupB (d : Dev nD) (r : Fin 3) (y : FVec F S64x1024 .bf16) : PR F PUnit := do
  let v ← groupIn (F := F) (k0_off9 d (BitVec.ofNat 32 (1 + r.val))) (k0_off10 d (BitVec.ofNat 32 (1 + r.val))) (k0_off11 d (BitVec.ofNat 32 (1 + r.val)))
    (k0_off9_inb d r) (k0_off10_inb d r) (k0_off11_inb d r)
  let _ : Vec F S64x1024 .bf16 ← load qbM (Rect.unit (s := S256x1024) (k0_off12 d (BitVec.ofNat 32 (1 + r.val))) S64x1024.size (k0_off12_inb d r)) h_S64x1024
  Prog.lift (.store qbM (Rect.unit (s := S256x1024) (k0_off12 d (BitVec.ofNat 32 (1 + r.val))) S64x1024.size (k0_off12_inb d r)) (segbV (w2 d) (wB d r) y v) Finset.univ
    (View.stores_vmem h_S64x1024 ((Memref.isWhole_whole cc0_scratch6).storeExact_slice rfl _ (k0_off12_packedbf16 d r)) (fun _ => rfl)) (.inl rfl))

/-- The own partial sum. -/
def groupO (d : Dev nD) (y : FVec F S64x1024 .bf16) : PR F (FVec F S64x1024 .f32) := do
  let v ← groupIn (F := F) (k0_off14 d) (k0_off15 d) (k0_off16 d) (k0_off14_inb d) (k0_off15_inb d) (k0_off16_inb d)
  pure (segV (w2 d) (wO d) y v)

/-- The own partial sum and the three received, added, put in the device's block of the result. -/
def finish (d : Dev nD) (z : FVec F S64x1024 .f32) : PR F PUnit := do
  let b0 : Vec F S1x64x1024 .bf16 ← load rbM (Rect.unit (s := S3x64x1024) ![(0 : Fin 3).val, 0, 0] S1x64x1024.size (inbB 0)) h_S1x64x1024
  let b1 : Vec F S1x64x1024 .bf16 ← load rbM (Rect.unit (s := S3x64x1024) ![(1 : Fin 3).val, 0, 0] S1x64x1024.size (inbB 1)) h_S1x64x1024
  let b2 : Vec F S1x64x1024 .bf16 ← load rbM (Rect.unit (s := S3x64x1024) ![(2 : Fin 3).val, 0, 0] S1x64x1024.size (inbB 2)) h_S1x64x1024
  let _ : Vec F S1x1x64x1024 .bf16 ← load agM (Rect.unit (s := S4x4x64x1024) (k0_off17 d) S1x1x64x1024.size (k0_off17_inb d)) h_S1x1x64x1024
  Prog.lift (.store agM (Rect.unit (s := S4x4x64x1024) (k0_off17 d) S1x1x64x1024.size (k0_off17_inb d)) (k0_pay113 (k0_pay112 z b0) b1 b2) Finset.univ
    (View.stores_vmem h_S1x1x64x1024 ((Memref.isWhole_whole cc0_scratch8).storeExact_slice rfl _ (k0_off17_packedbf16 d)) (fun _ => rfl)) (.inl rfl))

/-- The device's quarter of the result, written out. -/
def outOwn (d : Dev nD) : PR F PUnit := do
  let v : Vec F S1x4x64x1024 .bf16 ← load agM (Rect.unit (s := S4x4x64x1024) (k0_off20 d) S1x4x64x1024.size (k0_off20_inb d)) h_S1x4x64x1024
  let _ : Vec F S256x1024 .f32 ← load outM (Rect.unit (s := S1024x1024) (k0_off21 d) S256x1024.size (k0_off21_inb d)) h_S256x1024
  Prog.lift (.store outM (Rect.unit (s := S1024x1024) (k0_off21 d) S256x1024.size (k0_off21_inb d)) (k0_pay114 v) Finset.univ (View.stores_vmem_bits_univ h_S256x1024 rfl) (.inl rfl))

/-- A received block of the result, written out. -/
def outRecv (d : Dev nD) (k : Fin 3) (o : Fin 4) : PR F PUnit := do
  let v : Vec F S1x1x64x1024 .bf16 ← load agM (Rect.unit (s := S4x4x64x1024) (k0_off22 d (BitVec.ofNat 32 (1 + k.val)) (BitVec.ofNat 32 o.val)) S1x1x64x1024.size (k0_off22_inb d k o)) h_S1x1x64x1024
  let _ : Vec F S64x1024 .f32 ← load outM (Rect.unit (s := S1024x1024) (k0_off23 d (BitVec.ofNat 32 (1 + k.val)) (BitVec.ofNat 32 o.val)) S64x1024.size (k0_off23_inb d k o)) h_S64x1024
  Prog.lift (.store outM (Rect.unit (s := S1024x1024) (k0_off23 d (BitVec.ofNat 32 (1 + k.val)) (BitVec.ofNat 32 o.val)) S64x1024.size (k0_off23_inb d k o)) (k0_pay126 v) Finset.univ (View.stores_vmem_bits_univ h_S64x1024 rfl) (.inl rfl))

/-- The gates and the experts, put aside. -/
def prelude : PR F PUnit := do
  let x : Vec F S1024x512 .bf16 ← load xM (Rect.unit (s := S1024x512) ![0, 0] S1024x512.size inb_S1024x512_S1024x512_0_0) h_S1024x512
  let rw : Vec F S512x64 .bf16 ← load rwM (Rect.unit (s := S512x64) ![0, 0] S512x64.size inb_S512x64_S512x64_0_0) h_S512x64
  let i0 : Vec F S1024x1 .i32 ← load idxM (Rect.unit (s := S1024x2) ![0, 0] S1024x1.size inb_S1024x2_S1024x1_0_0) h_S1024x1
  let i1 : Vec F S1024x1 .i32 ← load idxM (Rect.unit (s := S1024x2) ![0, 1] S1024x1.size inb_S1024x2_S1024x1_0_1) h_S1024x1
  let _ : Vec F S1024x1 .f32 ← load g0M (Rect.unit (s := S1024x1) ![0, 0] S1024x1.size inb_S1024x1_S1024x1_0_0) h_S1024x1
  Prog.lift (.store g0M (Rect.unit (s := S1024x1) ![0, 0] S1024x1.size inb_S1024x1_S1024x1_0_0) (k0_pay7 x rw i0 i1) Finset.univ (View.stores_vmem_bits_univ h_S1024x1 rfl) (.inl rfl))
  let _ : Vec F S1024x1 .f32 ← load g1M (Rect.unit (s := S1024x1) ![0, 0] S1024x1.size inb_S1024x1_S1024x1_0_0) h_S1024x1
  Prog.lift (.store g1M (Rect.unit (s := S1024x1) ![0, 0] S1024x1.size inb_S1024x1_S1024x1_0_0) (k0_pay8 x rw i0 i1) Finset.univ (View.stores_vmem_bits_univ h_S1024x1 rfl) (.inl rfl))

/-- Expert `l`, put aside. -/
def expert (l : Fin 4) : PR F PUnit := do
  let e : Vec F S1x512x1024 .bf16 ← load ewM (Rect.unit (s := S4x512x1024) ![l.val, 0, 0] S1x512x1024.size (inbE l)) h_S1x512x1024
  let _ : Vec F S1x512x1024 .bf16 ← load ewbM (Rect.unit (s := S4x512x1024) ![l.val, 0, 0] S1x512x1024.size (inbE l)) h_S1x512x1024
  Prog.lift (.store ewbM (Rect.unit (s := S4x512x1024) ![l.val, 0, 0] S1x512x1024.size (inbE l)) (k0_pay11 e) Finset.univ
    (View.stores_vmem h_S1x512x1024 ((Memref.isWhole_whole cc0_scratch3).storeExact_slice rfl _ (packE l)) (fun _ => rfl)) (.inl rfl))

/-- A copy to the same-numbered place of another device. -/
def sendD {s : Shape} (n : Dev nD) (src dst : Memref sig .tc .vmem s .bf16) (ss rs : DmaSem sig) (h1 : src.view.WordExact) (h2 : dst.view.WordExact) : PR F PUnit :=
  Prog.lift (.enqueueDma src (.remote (Dev.tc n) dst (.dma ss)) (.dma rs) h1 h2 ⟨⟨rfl, Or.inl rfl⟩, trivial⟩)

/-- A wait for a copy. -/
def waitD {s : Shape} (ss : DmaSem sig) (a b : Memref sig .tc .vmem s .bf16) (h1 : a.view.WordExact) (h2 : b.view.WordExact) : PR F PUnit :=
  Prog.lift (.waitDma2 ss a b h1 h2)

/-- The whole body on device `d`. -/
def stretches (d : Dev nD) : PR F PUnit := do
  semSignalWord (⟨k0_dev1 d, k0_dev1_lt d⟩ : Dev nD) barS 1#32
  semSignalWord (⟨k0_dev2 d, k0_dev2_lt d⟩ : Dev nD) barS 1#32
  semSignalWord (⟨k0_dev3 d, k0_dev3_lt d⟩ : Dev nD) barS 1#32
  semSignalWord (⟨k0_dev4 d, k0_dev4_lt d⟩ : Dev nD) barS 1#32
  semSignalWord (⟨k0_dev5 d, k0_dev5_lt d⟩ : Dev nD) barS 1#32
  semSignalWord (⟨k0_dev6 d, k0_dev6_lt d⟩ : Dev nD) barS 1#32
  prelude
  expert 0
  expert 1
  expert 2
  expert 3
  quarterA d 1
  semWaitWord barS 6#32
  sendD (⟨k0_dev7 d, k0_dev7_lt d⟩ : Dev nD) (saV 1) (raV 1) (saS 1) (raS 1) (saV_words 1) (raV_words 1)
  quarterA d 0
  sendD (⟨k0_dev8 d, k0_dev8_lt d⟩ : Dev nD) (saV 0) (raV 2) (saS 0) (raS 2) (saV_words 0) (raV_words 2)
  quarterA d 2
  sendD (⟨k0_dev9 d, k0_dev9_lt d⟩ : Dev nD) (saV 2) (raV 0) (saS 2) (raS 0) (saV_words 2) (raV_words 0)
  let y ← quarterO d
  waitD (saS 1) (raV 1) (saV 1) (raV_words 1) (saV_words 1)
  waitD (raS 1) (saV 1) (raV 1) (saV_words 1) (raV_words 1)
  waitD (saS 0) (raV 2) (saV 0) (raV_words 2) (saV_words 0)
  waitD (raS 2) (saV 0) (raV 2) (saV_words 0) (raV_words 2)
  waitD (saS 2) (raV 0) (saV 2) (raV_words 0) (saV_words 2)
  waitD (raS 0) (saV 2) (raV 0) (saV_words 2) (raV_words 0)
  groupB d 1 y
  sendD (⟨k0_dev10 d, k0_dev10_lt d⟩ : Dev nD) (qbV (k0_off13 d (BitVec.ofNat 32 (1 + (1 : Fin 3).val))) (k0_off13_inb d 1)) (rbV 1) (saS 4) (raS 4) (qbV_words d 1) (rbV_words 1)
  groupB d 0 y
  sendD (⟨k0_dev11 d, k0_dev11_lt d⟩ : Dev nD) (qbV (k0_off13 d (BitVec.ofNat 32 (1 + (0 : Fin 3).val))) (k0_off13_inb d 0)) (rbV 2) (saS 3) (raS 5) (qbV_words d 0) (rbV_words 2)
  groupB d 2 y
  sendD (⟨k0_dev12 d, k0_dev12_lt d⟩ : Dev nD) (qbV (k0_off13 d (BitVec.ofNat 32 (1 + (2 : Fin 3).val))) (k0_off13_inb d 2)) (rbV 0) (saS 5) (raS 3) (qbV_words d 2) (rbV_words 0)
  let z ← groupO d y
  waitD (saS 4) (rbV 1) (qbV (k0_off13 d (BitVec.ofNat 32 (1 + (1 : Fin 3).val))) (k0_off13_inb d 1)) (rbV_words 1) (qbV_words d 1)
  waitD (raS 4) (qbV (k0_off13 d (BitVec.ofNat 32 (1 + (1 : Fin 3).val))) (k0_off13_inb d 1)) (rbV 1) (qbV_words d 1) (rbV_words 1)
  waitD (saS 3) (rbV 2) (qbV (k0_off13 d (BitVec.ofNat 32 (1 + (0 : Fin 3).val))) (k0_off13_inb d 0)) (rbV_words 2) (qbV_words d 0)
  waitD (raS 5) (qbV (k0_off13 d (BitVec.ofNat 32 (1 + (0 : Fin 3).val))) (k0_off13_inb d 0)) (rbV 2) (qbV_words d 0) (rbV_words 2)
  waitD (saS 5) (rbV 0) (qbV (k0_off13 d (BitVec.ofNat 32 (1 + (2 : Fin 3).val))) (k0_off13_inb d 2)) (rbV_words 0) (qbV_words d 2)
  waitD (raS 3) (qbV (k0_off13 d (BitVec.ofNat 32 (1 + (2 : Fin 3).val))) (k0_off13_inb d 2)) (rbV 0) (qbV_words d 2) (rbV_words 0)
  finish d z
  sendD (⟨k0_dev13 d, k0_dev13_lt d⟩ : Dev nD) (agV (k0_off18 d) (k0_off18_inb d)) (agV (k0_off18 d) (k0_off18_inb d)) (zsS 1) (zrS 1) (ag18_words d) (ag18_words d)
  sendD (⟨k0_dev14 d, k0_dev14_lt d⟩ : Dev nD) (agV (k0_off18 d) (k0_off18_inb d)) (agV (k0_off18 d) (k0_off18_inb d)) (zsS 0) (zrS 0) (ag18_words d) (ag18_words d)
  sendD (⟨k0_dev15 d, k0_dev15_lt d⟩ : Dev nD) (agV (k0_off18 d) (k0_off18_inb d)) (agV (k0_off18 d) (k0_off18_inb d)) (zsS 2) (zrS 2) (ag18_words d) (ag18_words d)
  sendD (⟨k0_dev16 d, k0_dev16_lt d⟩ : Dev nD) (agV (k0_off18 d) (k0_off18_inb d)) (agV (k0_off18 d) (k0_off18_inb d)) (psS 0) (prS 0) (ag18_words d) (ag18_words d)
  sendD (⟨k0_dev17 d, k0_dev17_lt d⟩ : Dev nD) (agV (k0_off18 d) (k0_off18_inb d)) (agV (k0_off18 d) (k0_off18_inb d)) (psS 4) (prS 4) (ag18_words d) (ag18_words d)
  sendD (⟨k0_dev18 d, k0_dev18_lt d⟩ : Dev nD) (agV (k0_off18 d) (k0_off18_inb d)) (agV (k0_off18 d) (k0_off18_inb d)) (psS 8) (prS 8) (ag18_words d) (ag18_words d)
  waitD (zrS 2) (agV (k0_off18 d) (k0_off18_inb d)) (agV (k0_off18 d) (k0_off18_inb d)) (ag18_words d) (ag18_words d)
  sendD (⟨k0_dev19 d, k0_dev19_lt d⟩ : Dev nD) (agV (k0_off19 d (BitVec.ofNat 32 (1 + (0 : Fin 3).val))) (k0_off19_inb d 0)) (agV (k0_off19 d (BitVec.ofNat 32 (1 + (0 : Fin 3).val))) (k0_off19_inb d 0)) (psS 1) (prS 1) (ag19_words d 0) (ag19_words d 0)
  sendD (⟨k0_dev20 d, k0_dev20_lt d⟩ : Dev nD) (agV (k0_off19 d (BitVec.ofNat 32 (1 + (0 : Fin 3).val))) (k0_off19_inb d 0)) (agV (k0_off19 d (BitVec.ofNat 32 (1 + (0 : Fin 3).val))) (k0_off19_inb d 0)) (psS 5) (prS 5) (ag19_words d 0) (ag19_words d 0)
  sendD (⟨k0_dev21 d, k0_dev21_lt d⟩ : Dev nD) (agV (k0_off19 d (BitVec.ofNat 32 (1 + (0 : Fin 3).val))) (k0_off19_inb d 0)) (agV (k0_off19 d (BitVec.ofNat 32 (1 + (0 : Fin 3).val))) (k0_off19_inb d 0)) (psS 9) (prS 9) (ag19_words d 0) (ag19_words d 0)
  waitD (zrS 0) (agV (k0_off18 d) (k0_off18_inb d)) (agV (k0_off18 d) (k0_off18_inb d)) (ag18_words d) (ag18_words d)
  sendD (⟨k0_dev22 d, k0_dev22_lt d⟩ : Dev nD) (agV (k0_off19 d (BitVec.ofNat 32 (1 + (2 : Fin 3).val))) (k0_off19_inb d 2)) (agV (k0_off19 d (BitVec.ofNat 32 (1 + (2 : Fin 3).val))) (k0_off19_inb d 2)) (psS 3) (prS 3) (ag19_words d 2) (ag19_words d 2)
  sendD (⟨k0_dev23 d, k0_dev23_lt d⟩ : Dev nD) (agV (k0_off19 d (BitVec.ofNat 32 (1 + (2 : Fin 3).val))) (k0_off19_inb d 2)) (agV (k0_off19 d (BitVec.ofNat 32 (1 + (2 : Fin 3).val))) (k0_off19_inb d 2)) (psS 7) (prS 7) (ag19_words d 2) (ag19_words d 2)
  sendD (⟨k0_dev24 d, k0_dev24_lt d⟩ : Dev nD) (agV (k0_off19 d (BitVec.ofNat 32 (1 + (2 : Fin 3).val))) (k0_off19_inb d 2)) (agV (k0_off19 d (BitVec.ofNat 32 (1 + (2 : Fin 3).val))) (k0_off19_inb d 2)) (psS 11) (prS 11) (ag19_words d 2) (ag19_words d 2)
  waitD (zrS 1) (agV (k0_off18 d) (k0_off18_inb d)) (agV (k0_off18 d) (k0_off18_inb d)) (ag18_words d) (ag18_words d)
  sendD (⟨k0_dev25 d, k0_dev25_lt d⟩ : Dev nD) (agV (k0_off19 d (BitVec.ofNat 32 (1 + (1 : Fin 3).val))) (k0_off19_inb d 1)) (agV (k0_off19 d (BitVec.ofNat 32 (1 + (1 : Fin 3).val))) (k0_off19_inb d 1)) (psS 2) (prS 2) (ag19_words d 1) (ag19_words d 1)
  sendD (⟨k0_dev26 d, k0_dev26_lt d⟩ : Dev nD) (agV (k0_off19 d (BitVec.ofNat 32 (1 + (1 : Fin 3).val))) (k0_off19_inb d 1)) (agV (k0_off19 d (BitVec.ofNat 32 (1 + (1 : Fin 3).val))) (k0_off19_inb d 1)) (psS 6) (prS 6) (ag19_words d 1) (ag19_words d 1)
  sendD (⟨k0_dev27 d, k0_dev27_lt d⟩ : Dev nD) (agV (k0_off19 d (BitVec.ofNat 32 (1 + (1 : Fin 3).val))) (k0_off19_inb d 1)) (agV (k0_off19 d (BitVec.ofNat 32 (1 + (1 : Fin 3).val))) (k0_off19_inb d 1)) (psS 10) (prS 10) (ag19_words d 1) (ag19_words d 1)
  outOwn d
  waitD (prS 0) (agV ![0, 0, 0, 0] ag0_inb) (agV ![0, 0, 0, 0] ag0_inb) ag0_words ag0_words
  outRecv d 0 0
  waitD (prS 4) (agV ![0, 0, 0, 0] ag0_inb) (agV ![0, 0, 0, 0] ag0_inb) ag0_words ag0_words
  outRecv d 1 0
  waitD (prS 8) (agV ![0, 0, 0, 0] ag0_inb) (agV ![0, 0, 0, 0] ag0_inb) ag0_words ag0_words
  outRecv d 2 0
  waitD (prS 1) (agV ![0, 0, 0, 0] ag0_inb) (agV ![0, 0, 0, 0] ag0_inb) ag0_words ag0_words
  outRecv d 0 1
  waitD (prS 5) (agV ![0, 0, 0, 0] ag0_inb) (agV ![0, 0, 0, 0] ag0_inb) ag0_words ag0_words
  outRecv d 1 1
  waitD (prS 9) (agV ![0, 0, 0, 0] ag0_inb) (agV ![0, 0, 0, 0] ag0_inb) ag0_words ag0_words
  outRecv d 2 1
  waitD (prS 3) (agV ![0, 0, 0, 0] ag0_inb) (agV ![0, 0, 0, 0] ag0_inb) ag0_words ag0_words
  outRecv d 0 3
  waitD (prS 7) (agV ![0, 0, 0, 0] ag0_inb) (agV ![0, 0, 0, 0] ag0_inb) ag0_words ag0_words
  outRecv d 1 3
  waitD (prS 11) (agV ![0, 0, 0, 0] ag0_inb) (agV ![0, 0, 0, 0] ag0_inb) ag0_words ag0_words
  outRecv d 2 3
  waitD (prS 2) (agV ![0, 0, 0, 0] ag0_inb) (agV ![0, 0, 0, 0] ag0_inb) ag0_words ag0_words
  outRecv d 0 2
  waitD (prS 6) (agV ![0, 0, 0, 0] ag0_inb) (agV ![0, 0, 0, 0] ag0_inb) ag0_words ag0_words
  outRecv d 1 2
  waitD (prS 10) (agV ![0, 0, 0, 0] ag0_inb) (agV ![0, 0, 0, 0] ag0_inb) ag0_words ag0_words
  outRecv d 2 2
  waitD (zsS 0) (agV (k0_off18 d) (k0_off18_inb d)) (agV (k0_off18 d) (k0_off18_inb d)) (ag18_words d) (ag18_words d)
  waitD (zsS 1) (agV (k0_off18 d) (k0_off18_inb d)) (agV (k0_off18 d) (k0_off18_inb d)) (ag18_words d) (ag18_words d)
  waitD (zsS 2) (agV (k0_off18 d) (k0_off18_inb d)) (agV (k0_off18 d) (k0_off18_inb d)) (ag18_words d) (ag18_words d)
  waitD (psS 0) (agV (k0_off18 d) (k0_off18_inb d)) (agV (k0_off18 d) (k0_off18_inb d)) (ag18_words d) (ag18_words d)
  waitD (psS 4) (agV (k0_off18 d) (k0_off18_inb d)) (agV (k0_off18 d) (k0_off18_inb d)) (ag18_words d) (ag18_words d)
  waitD (psS 8) (agV (k0_off18 d) (k0_off18_inb d)) (agV (k0_off18 d) (k0_off18_inb d)) (ag18_words d) (ag18_words d)
  waitD (psS 1) (agV (k0_off19 d (BitVec.ofNat 32 (1 + (0 : Fin 3).val))) (k0_off19_inb d 0)) (agV (k0_off19 d (BitVec.ofNat 32 (1 + (0 : Fin 3).val))) (k0_off19_inb d 0)) (ag19_words d 0) (ag19_words d 0)
  waitD (psS 5) (agV (k0_off19 d (BitVec.ofNat 32 (1 + (0 : Fin 3).val))) (k0_off19_inb d 0)) (agV (k0_off19 d (BitVec.ofNat 32 (1 + (0 : Fin 3).val))) (k0_off19_inb d 0)) (ag19_words d 0) (ag19_words d 0)
  waitD (psS 9) (agV (k0_off19 d (BitVec.ofNat 32 (1 + (0 : Fin 3).val))) (k0_off19_inb d 0)) (agV (k0_off19 d (BitVec.ofNat 32 (1 + (0 : Fin 3).val))) (k0_off19_inb d 0)) (ag19_words d 0) (ag19_words d 0)
  waitD (psS 3) (agV (k0_off19 d (BitVec.ofNat 32 (1 + (2 : Fin 3).val))) (k0_off19_inb d 2)) (agV (k0_off19 d (BitVec.ofNat 32 (1 + (2 : Fin 3).val))) (k0_off19_inb d 2)) (ag19_words d 2) (ag19_words d 2)
  waitD (psS 7) (agV (k0_off19 d (BitVec.ofNat 32 (1 + (2 : Fin 3).val))) (k0_off19_inb d 2)) (agV (k0_off19 d (BitVec.ofNat 32 (1 + (2 : Fin 3).val))) (k0_off19_inb d 2)) (ag19_words d 2) (ag19_words d 2)
  waitD (psS 11) (agV (k0_off19 d (BitVec.ofNat 32 (1 + (2 : Fin 3).val))) (k0_off19_inb d 2)) (agV (k0_off19 d (BitVec.ofNat 32 (1 + (2 : Fin 3).val))) (k0_off19_inb d 2)) (ag19_words d 2) (ag19_words d 2)
  waitD (psS 2) (agV (k0_off19 d (BitVec.ofNat 32 (1 + (1 : Fin 3).val))) (k0_off19_inb d 1)) (agV (k0_off19 d (BitVec.ofNat 32 (1 + (1 : Fin 3).val))) (k0_off19_inb d 1)) (ag19_words d 1) (ag19_words d 1)
  waitD (psS 6) (agV (k0_off19 d (BitVec.ofNat 32 (1 + (1 : Fin 3).val))) (k0_off19_inb d 1)) (agV (k0_off19 d (BitVec.ofNat 32 (1 + (1 : Fin 3).val))) (k0_off19_inb d 1)) (ag19_words d 1) (ag19_words d 1)
  waitD (psS 10) (agV (k0_off19 d (BitVec.ofNat 32 (1 + (1 : Fin 3).val))) (k0_off19_inb d 1)) (agV (k0_off19 d (BitVec.ofNat 32 (1 + (1 : Fin 3).val))) (k0_off19_inb d 1)) (ag19_words d 1) (ag19_words d 1)

end Cert.Moe

end
-- ==== Proof.Vals.lean ====
module

public import proofs.«01_k».proof.Proof.Stretches
public import Idealize.ShloMosaic.Lib.PointwiseCore

/-!
# What each buffer of each device holds

The contents the kernel gives its buffers, device by device, as functions of the four arguments: the gates, the
experts, the slabs sent within a plane, the partial sums sent along a line of planes, and the blocks of the result.
-/

@[expose] public section

set_option maxRecDepth 16384

noncomputable section

namespace Cert.Moe

open Cert.KernelIdeal Cert.KernelIdeal.Gen
open Idealize.ShloMosaic Idealize.ShloMosaic.TcCoe
open Idealize.SL Idealize.SL.Sem

variable {F : FTy → Type} [FloatOps F]

/-! ## The devices -/

set_option backward.proofsInPublic true in
/-- The device `k + 1` places on in the same plane of four. -/
def plane (k : Fin 3) (c : Dev nD) : Dev nD := ⟨c.val / 4 * 4 + (c.val % 4 + k.val + 1) % 4, by have := c.isLt; have : nD = 16 := rfl; omega⟩
set_option backward.proofsInPublic true in
/-- The device of the plane `k + 1` places on, at the same place in it. -/
def zline (k : Fin 3) (c : Dev nD) : Dev nD := ⟨(c.val / 4 + k.val + 1) % 4 * 4 + c.val % 4, by have := c.isLt; have : nD = 16 := rfl; omega⟩
set_option backward.proofsInPublic true in
/-- The number, from the other end. -/
def rev3 (k : Fin 3) : Fin 3 := ⟨2 - k.val, by omega⟩

theorem plane_rev (k : Fin 3) (c : Dev nD) : plane (rev3 k) (plane k c) = c := by revert k c; decide +kernel
theorem rev_plane (k : Fin 3) (c : Dev nD) : plane k (plane (rev3 k) c) = c := by revert k c; decide +kernel
theorem zline_rev (k : Fin 3) (c : Dev nD) : zline (rev3 k) (zline k c) = c := by revert k c; decide +kernel
theorem rev_zline (k : Fin 3) (c : Dev nD) : zline k (zline (rev3 k) c) = c := by revert k c; decide +kernel
theorem rev_rev (k : Fin 3) : rev3 (rev3 k) = k := by revert k; decide

set_option backward.proofsInPublic true in
/-- The quarter of the tokens whose result the device's plane-mates leave to it. -/
def qA (c : Dev nD) : Fin 4 := ⟨(c.val % 4 + 1) % 4, Nat.mod_lt _ (by decide)⟩
set_option backward.proofsInPublic true in
/-- The 64-row block of that quarter the device finishes. -/
def tB (c : Dev nD) : Fin 4 := ⟨(c.val / 4 + 1) % 4, Nat.mod_lt _ (by decide)⟩
set_option backward.proofsInPublic true in
/-- The device that finishes block `t` of quarter `q`. -/
def own (q t : Fin 4) : Dev nD := ⟨(t.val + 3) % 4 * 4 + (q.val + 3) % 4, by have : nD = 16 := rfl; omega⟩

theorem own_self (c : Dev nD) : own (qA c) (tB c) = c := by revert c; decide +kernel
theorem qA_plane (k : Fin 3) (c : Dev nD) : qA (plane k c) = qA c + k.succ := by revert k c; decide +kernel
theorem tB_plane (k : Fin 3) (c : Dev nD) : tB (plane k c) = tB c := by revert k c; decide +kernel
theorem qA_zline (k : Fin 3) (c : Dev nD) : qA (zline k c) = qA c := by revert k c; decide +kernel
theorem tB_zline (k : Fin 3) (c : Dev nD) : tB (zline k c) = tB c + k.succ := by revert k c; decide +kernel

/-! ## The arguments, and what is computed from them before anything is sent -/

/-- The four arguments, device by device. -/
structure Inp (F : FTy → Type) where
  x : Dev nD → Vec F S1024x512 .bf16
  rw : Dev nD → Vec F S512x64 .bf16
  idx : Dev nD → Vec F S1024x2 .i32
  ew : Dev nD → Vec F S4x512x1024 .bf16

variable (I : Inp F)

/-- The first gate of every token. -/
def G0 (c : Dev nD) : Vec F S1024x1 .f32 :=
  k0_pay7 (I.x c) (I.rw c) (idxM.view.readAt (Elt F) (Rect.unit (s := S1024x2) ![0, 0] S1024x1.size inb_S1024x2_S1024x1_0_0).toLoadRect (I.idx c))
    (idxM.view.readAt (Elt F) (Rect.unit (s := S1024x2) ![0, 1] S1024x1.size inb_S1024x2_S1024x1_0_1).toLoadRect (I.idx c))
/-- The second gate of every token. -/
def G1 (c : Dev nD) : Vec F S1024x1 .f32 :=
  k0_pay8 (I.x c) (I.rw c) (idxM.view.readAt (Elt F) (Rect.unit (s := S1024x2) ![0, 0] S1024x1.size inb_S1024x2_S1024x1_0_0).toLoadRect (I.idx c))
    (idxM.view.readAt (Elt F) (Rect.unit (s := S1024x2) ![0, 1] S1024x1.size inb_S1024x2_S1024x1_0_1).toLoadRect (I.idx c))
/-- Expert `l` of the device. -/
def eV (c : Dev nD) (l : Fin 4) : Vec F S1x512x1024 .bf16 :=
  k0_pay11 (ewM.view.readAt (Elt F) (Rect.unit (s := S4x512x1024) ![l.val, 0, 0] S1x512x1024.size (inbE l)).toLoadRect (I.ew c))

/-- A quarter's operands, at the offsets they are loaded from. -/
def qInAt (c : Dev nD) (o1 o2 o3 o4 : Fin 2 → ℕ) (h1 : ∀ a, o1 a + S256x1.size a ≤ S1024x2.size a)
    (h2 : ∀ a, o2 a + S256x1.size a ≤ S1024x2.size a) (h3 : ∀ a, o3 a + S256x1.size a ≤ S1024x1.size a)
    (h4 : ∀ a, o4 a + S256x512.size a ≤ S1024x512.size a) : QIn F where
  i0 := idxM.view.readAt (Elt F) (Rect.unit (s := S1024x2) o1 S256x1.size h1).toLoadRect (I.idx c)
  i1 := idxM.view.readAt (Elt F) (Rect.unit (s := S1024x2) o2 S256x1.size h2).toLoadRect (I.idx c)
  g0 := g0M.view.readAt (Elt F) (Rect.unit (s := S1024x1) o3 S256x1.size h3).toLoadRect (G0 I c)
  g1 := g1M.view.readAt (Elt F) (Rect.unit (s := S1024x1) o3 S256x1.size h3).toLoadRect (G1 I c)
  x := xM.view.readAt (Elt F) (Rect.unit (s := S1024x512) o4 S256x512.size h4).toLoadRect (I.x c)
  e0 := eV I c 0
  e1 := eV I c 1
  e2 := eV I c 2
  e3 := eV I c 3

/-- The operands of the quarter that goes out in slot `r`. -/
def qInA (c : Dev nD) (r : Fin 3) : QIn F :=
  qInAt I c (k0_off1 c (BitVec.ofNat 32 (1 + r.val))) (k0_off2 c (BitVec.ofNat 32 (1 + r.val))) (k0_off3 c (BitVec.ofNat 32 (1 + r.val)))
    (k0_off4 c (BitVec.ofNat 32 (1 + r.val))) (k0_off1_inb c r) (k0_off2_inb c r) (k0_off3_inb c r) (k0_off4_inb c r)
/-- The operands of the device's own quarter. -/
def qInO (c : Dev nD) : QIn F :=
  qInAt I c (k0_off5 c) (k0_off6 c) (k0_off7 c) (k0_off8 c) (k0_off5_inb c) (k0_off6_inb c) (k0_off7_inb c) (k0_off8_inb c)

/-- The compacted product that goes out in slot `r`; -/
def yA (c : Dev nD) (r : Fin 3) : FVec F S1x64x1024 .bf16 := ycV (w2 c) (qInA I c r)
/-- and the numbers of the tokens in it. -/
def rA (c : Dev nD) (r : Fin 3) : FVec F S1x1x128 .bf16 := rowV (w2 c) (qInA I c r)
/-- The own quarter's compacted product; -/
def yO (c : Dev nD) : FVec F S64x1024 .bf16 := yoV (w2 c) (qInO I c)
/-- and its slot numbers. -/
def pO (c : Dev nD) : FVec F S256x1 .f32 := poV (w2 c) (qInO I c)

/-- The first 64 of a row of 128. -/
def cut64 (r : FVec F S1x1x128 .bf16) : FVec F S1x1x64 .bf16 := fun i => r (ix3 0 0 ⟨(i 2).val, by have := (i 2).isLt; exact Nat.lt_of_lt_of_le this (by decide)⟩)

/-- A partial sum's operands: the tokens' experts and slots, and the three slabs received. -/
def gInAt (c : Dev nD) (o1 o2 o3 : Fin 2 → ℕ) (h1 : ∀ a, o1 a + S64x1.size a ≤ S1024x2.size a) (h2 : ∀ a, o2 a + S64x1.size a ≤ S1024x2.size a)
    (h3 : ∀ a, o3 a + S64x1.size a ≤ S256x1.size a) : GIn F where
  i0 := idxM.view.readAt (Elt F) (Rect.unit (s := S1024x2) o1 S64x1.size h1).toLoadRect (I.idx c)
  i1 := idxM.view.readAt (Elt F) (Rect.unit (s := S1024x2) o2 S64x1.size h2).toLoadRect (I.idx c)
  p := posM.view.readAt (Elt F) (Rect.unit (s := S256x1) o3 S64x1.size h3).toLoadRect (pO I c)
  r0 := cut64 (rA I (plane 0 c) (rev3 0))
  y0 := yA I (plane 0 c) (rev3 0)
  r1 := cut64 (rA I (plane 1 c) (rev3 1))
  y1 := yA I (plane 1 c) (rev3 1)
  r2 := cut64 (rA I (plane 2 c) (rev3 2))
  y2 := yA I (plane 2 c) (rev3 2)

/-- The operands of the partial sum for the device `r + 1` planes on. -/
def gInB (c : Dev nD) (r : Fin 3) : GIn F :=
  gInAt I c (k0_off9 c (BitVec.ofNat 32 (1 + r.val))) (k0_off10 c (BitVec.ofNat 32 (1 + r.val))) (k0_off11 c (BitVec.ofNat 32 (1 + r.val)))
    (k0_off9_inb c r) (k0_off10_inb c r) (k0_off11_inb c r)
/-- The operands of the device's own partial sum. -/
def gInO (c : Dev nD) : GIn F :=
  gInAt I c (k0_off14 c) (k0_off15 c) (k0_off16 c) (k0_off14_inb c) (k0_off15_inb c) (k0_off16_inb c)

/-- The partial sum sent to the device `r + 1` planes on. -/
def sB (c : Dev nD) (r : Fin 3) : FVec F S64x1024 .bf16 := segbV (w2 c) (wB c r) (yO I c) (gInB I c r)
/-- The device's own partial sum. -/
def sO (c : Dev nD) : FVec F S64x1024 .f32 := segV (w2 c) (wO c) (yO I c) (gInO I c)

/-- A block with a leading axis of one. -/
def lift1 (v : FVec F S64x1024 .bf16) : FVec F S1x64x1024 .bf16 := fun i => v (ix2 (i 1) (i 2))

/-- The block of the result the device finishes. -/
def finV (c : Dev nD) : FVec F S1x1x64x1024 .bf16 :=
  k0_pay113 (k0_pay112 (sO I c) (lift1 (sB I (zline 0 c) (rev3 0)))) (lift1 (sB I (zline 1 c) (rev3 1))) (lift1 (sB I (zline 2 c) (rev3 2)))

/-- The gathered result: block `t` of quarter `q` is what the device that finishes it made. -/
def AGv : Vec F S4x4x64x1024 .bf16 := fun i => finV I (own (i 0) (i 1)) (ix4 0 0 (i 2) (i 3))

/-- The result on device `c`: its own quarter written from four blocks at once, every other block by itself. -/
def OUT (c : Dev nD) : Vec F S1024x1024 .f32 := fun i =>
  if (i 0).val / 256 = (qA c).val then
    k0_pay114 (agM.view.readAt (Elt F) (Rect.unit (s := S4x4x64x1024) (k0_off20 c) S1x4x64x1024.size (k0_off20_inb c)).toLoadRect (AGv I))
      (ix2 ⟨(i 0).val % 256, Nat.mod_lt _ (by decide)⟩ (i 1))
  else
    k0_pay126 (fun y => AGv I (ix4 ⟨(i 0).val / 256, by have : (i 0).val < 1024 := (i 0).isLt; omega⟩ ⟨(i 0).val / 64 % 4, Nat.mod_lt _ (by decide)⟩ (y 2) (y 3)))
      (ix2 ⟨(i 0).val % 64, Nat.mod_lt _ (by decide)⟩ (i 1))

end Cert.Moe

end
-- ==== Proof.Proto.lean ====
module

public import proofs.«01_k».proof.Proof.Vals
public import Idealize.ShloMosaic.Lib.Tactic

/-!
# The copies, as one schedule of rounds

Twenty-one copies leave each device, and each has a semaphore that its arrival at the source's end raises and one that
it raises at the destination: three slabs and three partial sums on the first two semaphore arrays, three blocks along
the line of planes, twelve blocks within the plane. Every semaphore is used once. Here: the channels, the places they
read and write, what arrives with each, and what each device owes at the start.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The channels -/

/-- The copies that leave a device: slab `a k` and blocks `p k o` to the device `k + 1` places on in its plane, partial
    sum `b k` and block `z k` to the one `k + 1` planes on. -/
inductive Ch where
  | a (k : Fin 3) | b (k : Fin 3) | z (k : Fin 3) | p (k : Fin 3) (o : Fin 4)
  deriving DecidableEq

/-- All channels. -/
def allCh : List Ch := [.a 0, .a 1, .a 2, .b 0, .b 1, .b 2, .z 0, .z 1, .z 2,
  .p 0 0, .p 0 1, .p 0 2, .p 0 3, .p 1 0, .p 1 1, .p 1 2, .p 1 3, .p 2 0, .p 2 1, .p 2 2, .p 2 3]
theorem mem_allCh : ∀ x : Ch, x ∈ allCh
  | .a k => by fin_cases k <;> decide
  | .b k => by fin_cases k <;> decide
  | .z k => by fin_cases k <;> decide
  | .p k o => by fin_cases k <;> fin_cases o <;> decide
instance : Fintype Ch := ⟨allCh.toFinset, fun x => List.mem_toFinset.mpr (mem_allCh x)⟩
theorem univ_ch : (Finset.univ : Finset Ch) = allCh.toFinset := rfl
theorem nodup_allCh : allCh.Nodup := by decide

/-- Where a channel's copy goes; -/
def tgt : Ch → Dev nD → Dev nD
  | .a k, c => plane k c | .b k, c => zline k c | .z k, c => zline k c | .p k _, c => plane k c
/-- where it comes from. -/
def frm : Ch → Dev nD → Dev nD
  | .a k, c => plane (rev3 k) c | .b k, c => zline (rev3 k) c | .z k, c => zline (rev3 k) c | .p k _, c => plane (rev3 k) c
theorem tgt_frm : ∀ (x : Ch) (c : Dev nD), tgt x (frm x c) = c
  | .a k, c => rev_plane k c | .b k, c => rev_zline k c | .z k, c => rev_zline k c | .p k _, c => rev_plane k c
theorem frm_tgt : ∀ (x : Ch) (c : Dev nD), frm x (tgt x c) = c
  | .a k, c => plane_rev k c | .b k, c => zline_rev k c | .z k, c => zline_rev k c | .p k _, c => plane_rev k c
/-- The channel as a pairing of the devices. -/
def tgtEquiv (x : Ch) : Dev nD ≃ Dev nD := ⟨tgt x, frm x, frm_tgt x, tgt_frm x⟩

/-- The semaphore a channel raises where it leaves; -/
def sndS : Ch → DmaSem sig
  | .a k => saS ⟨k.val, by omega⟩ | .b k => saS ⟨3 + k.val, by omega⟩ | .z k => zsS k | .p k o => psS ⟨4 * k.val + o.val, by omega⟩
/-- the one it raises where it arrives. -/
def rcvS : Ch → DmaSem sig
  | .a k => raS ⟨2 - k.val, by omega⟩ | .b k => raS ⟨5 - k.val, by omega⟩ | .z k => zrS k | .p k o => prS ⟨4 * k.val + o.val, by omega⟩

theorem sndS_inj : ∀ x ∈ allCh, ∀ y ∈ allCh, sndS x = sndS y → x = y := by decide +kernel
theorem rcvS_inj : ∀ x ∈ allCh, ∀ y ∈ allCh, rcvS x = rcvS y → x = y := by decide +kernel
theorem snd_ne_rcv : ∀ x ∈ allCh, ∀ y ∈ allCh, sndS x ≠ rcvS y := by decide +kernel

/-- The channel that leaves by a semaphore; -/
def chS (q : DmaSem sig) : Option Ch := allCh.find? fun x => sndS x = q
/-- the one that arrives by it. -/
def chR (q : DmaSem sig) : Option Ch := allCh.find? fun x => rcvS x = q

theorem chS_snd (x : Ch) : chS (sndS x) = some x := by
  have : ∀ x ∈ allCh, chS (sndS x) = some x := by decide +kernel
  exact this x (mem_allCh x)
theorem chS_rcv (x : Ch) : chS (rcvS x) = none := by
  have : ∀ x ∈ allCh, chS (rcvS x) = none := by decide +kernel
  exact this x (mem_allCh x)
theorem chR_rcv (x : Ch) : chR (rcvS x) = some x := by
  have : ∀ x ∈ allCh, chR (rcvS x) = some x := by decide +kernel
  exact this x (mem_allCh x)

abbrev barCell (c : Dev nD) : GSem nD τ sig := ((c : Thread nD τ), .reg barS)
abbrev sndCell (x : Ch) (c : Dev nD) : GSem nD τ sig := ((c : Thread nD τ), .dma (sndS x))
abbrev rcvCell (x : Ch) (c : Dev nD) : GSem nD τ sig := ((c : Thread nD τ), .dma (rcvS x))

/-- The units of a slab's copy and of a block's. -/
abbrev NA : ℕ := (saV 0).view.dmaCredit
abbrev NB : ℕ := (rbV 0).view.dmaCredit
theorem NA_pos : 0 < NA := View.dmaCredit_pos _ (by decide)
theorem NB_pos : 0 < NB := View.dmaCredit_pos _ (by decide)
/-- The units of a channel's copy. -/
def amt : Ch → ℕ | .a _ => NA | _ => NB
theorem amt_pos : ∀ x, 0 < amt x
  | .a _ => NA_pos | .b _ => NB_pos | .z _ => NB_pos | .p _ _ => NB_pos

/-- The device a barrier signal goes to: three in the plane, three along the line of planes; -/
def peer (i : Fin 6) (c : Dev nD) : Dev nD := if h : i.val < 3 then plane ⟨i.val, h⟩ c else zline ⟨i.val - 3, by omega⟩ c
/-- the number under which that device knows the signal's sender. -/
def dual (i : Fin 6) : Fin 6 := (![2, 1, 0, 5, 4, 3] : Fin 6 → Fin 6) i
theorem peer_dual (i : Fin 6) (c : Dev nD) : peer (dual i) (peer i c) = c := by revert i c; decide +kernel
theorem dual_peer (i : Fin 6) (c : Dev nD) : peer i (peer (dual i) c) = c := by revert i c; decide +kernel
theorem dual_dual (i : Fin 6) : dual (dual i) = i := by revert i; decide
def peerEquiv (i : Fin 6) : Dev nD ≃ Dev nD := ⟨peer i, peer (dual i), peer_dual i, dual_peer i⟩
def dualEquiv : Fin 6 ≃ Fin 6 := ⟨dual, dual, dual_dual, dual_dual⟩

/-! ## The places -/

theorem inbQ : ∀ t : Fin 4, ∀ a, (![64 * t.val, 0] : Fin 2 → ℕ) a + S64x1024.size a ≤ S256x1024.size a := by decide
theorem inbAG : ∀ q t : Fin 4, ∀ a, (![q.val, t.val, 0, 0] : Fin 4 → ℕ) a + S1x1x64x1024.size a ≤ S4x4x64x1024.size a := by decide

/-- Rows `64 t` to `64 t + 63` of the outgoing partial sums. -/
abbrev qbB (t : Fin 4) : Memref sig .tc .vmem S64x1024 .bf16 := qbV ![64 * t.val, 0] (inbQ t)
/-- Block `t` of quarter `q` of the gathered result. -/
abbrev agB (q t : Fin 4) : Memref sig .tc .vmem S64x1024 .bf16 := agV ![q.val, t.val, 0, 0] (inbAG q t)

theorem qbV_congr {o o' : Fin 2 → ℕ} (e : o = o') (h) (h') : qbV o h = qbV o' h' := by subst e; rfl
theorem agV_congr {o o' : Fin 4 → ℕ} (e : o = o') (h) (h') : agV o h = agV o' h' := by subst e; rfl

theorem off12_eq (d : Dev nD) (r : Fin 3) : k0_off12 d (BitVec.ofNat 32 (1 + r.val)) = ![64 * (tB d + r.succ : Fin 4).val, 0] := by
  have : ∀ (d : Dev nD) (r : Fin 3) (a : Fin 2), k0_off12 d (BitVec.ofNat 32 (1 + r.val)) a = (![64 * (tB d + r.succ : Fin 4).val, 0] : Fin 2 → ℕ) a := by decide +kernel
  exact funext (this d r)
theorem off13_eq (d : Dev nD) (r : Fin 3) : k0_off13 d (BitVec.ofNat 32 (1 + r.val)) = ![64 * (tB d + r.succ : Fin 4).val, 0] := by
  have : ∀ (d : Dev nD) (r : Fin 3) (a : Fin 2), k0_off13 d (BitVec.ofNat 32 (1 + r.val)) a = (![64 * (tB d + r.succ : Fin 4).val, 0] : Fin 2 → ℕ) a := by decide +kernel
  exact funext (this d r)
theorem off17_eq (d : Dev nD) : k0_off17 d = ![(qA d).val, (tB d).val, 0, 0] := by
  have : ∀ (d : Dev nD) (a : Fin 4), k0_off17 d a = (![(qA d).val, (tB d).val, 0, 0] : Fin 4 → ℕ) a := by decide +kernel
  exact funext (this d)
theorem off18_eq (d : Dev nD) : k0_off18 d = ![(qA d).val, (tB d).val, 0, 0] := by
  have : ∀ (d : Dev nD) (a : Fin 4), k0_off18 d a = (![(qA d).val, (tB d).val, 0, 0] : Fin 4 → ℕ) a := by decide +kernel
  exact funext (this d)
theorem off19_eq (d : Dev nD) (r : Fin 3) : k0_off19 d (BitVec.ofNat 32 (1 + r.val)) = ![(qA d).val, (tB d + r.succ : Fin 4).val, 0, 0] := by
  have : ∀ (d : Dev nD) (r : Fin 3) (a : Fin 4), k0_off19 d (BitVec.ofNat 32 (1 + r.val)) a = (![(qA d).val, (tB d + r.succ : Fin 4).val, 0, 0] : Fin 4 → ℕ) a := by decide +kernel
  exact funext (this d r)
theorem off20_eq (d : Dev nD) : k0_off20 d = ![(qA d).val, 0, 0, 0] := by
  have : ∀ (d : Dev nD) (a : Fin 4), k0_off20 d a = (![(qA d).val, 0, 0, 0] : Fin 4 → ℕ) a := by decide +kernel
  exact funext (this d)
theorem off21_eq (d : Dev nD) : k0_off21 d = ![256 * (qA d).val, 0] := by
  have : ∀ (d : Dev nD) (a : Fin 2), k0_off21 d a = (![256 * (qA d).val, 0] : Fin 2 → ℕ) a := by decide +kernel
  exact funext (this d)
/-- The quarter the blocks of `p k o` belong to where they arrive, and the block's number. -/
abbrev qR (k : Fin 3) (d : Dev nD) : Fin 4 := qA (plane (rev3 k) d)
abbrev tR (o : Fin 4) (d : Dev nD) : Fin 4 := tB d + o
theorem off22_eq (d : Dev nD) (k : Fin 3) (o : Fin 4) : k0_off22 d (BitVec.ofNat 32 (1 + k.val)) (BitVec.ofNat 32 o.val) = ![(qR k d).val, (tR o d).val, 0, 0] := by
  have : ∀ (d : Dev nD) (k : Fin 3) (o : Fin 4) (a : Fin 4), k0_off22 d (BitVec.ofNat 32 (1 + k.val)) (BitVec.ofNat 32 o.val) a = (![(qR k d).val, (tR o d).val, 0, 0] : Fin 4 → ℕ) a := by decide +kernel
  exact funext (this d k o)
theorem off23_eq (d : Dev nD) (k : Fin 3) (o : Fin 4) : k0_off23 d (BitVec.ofNat 32 (1 + k.val)) (BitVec.ofNat 32 o.val) = ![256 * (qR k d).val + 64 * (tR o d).val, 0] := by
  have : ∀ (d : Dev nD) (k : Fin 3) (o : Fin 4) (a : Fin 2), k0_off23 d (BitVec.ofNat 32 (1 + k.val)) (BitVec.ofNat 32 o.val) a = (![256 * (qR k d).val + 64 * (tR o d).val, 0] : Fin 2 → ℕ) a := by decide +kernel
  exact funext (this d k o)

/-- The devices the body names. -/
theorem devP_eq (d : Dev nD) : (⟨k0_dev1 d, k0_dev1_lt d⟩ : Dev nD) = peer 0 d ∧ (⟨k0_dev2 d, k0_dev2_lt d⟩ : Dev nD) = peer 1 d
    ∧ (⟨k0_dev3 d, k0_dev3_lt d⟩ : Dev nD) = peer 2 d ∧ (⟨k0_dev4 d, k0_dev4_lt d⟩ : Dev nD) = peer 3 d
    ∧ (⟨k0_dev5 d, k0_dev5_lt d⟩ : Dev nD) = peer 4 d ∧ (⟨k0_dev6 d, k0_dev6_lt d⟩ : Dev nD) = peer 5 d := by revert d; decide +kernel
theorem devA_eq (d : Dev nD) : (⟨k0_dev7 d, k0_dev7_lt d⟩ : Dev nD) = plane 1 d ∧ (⟨k0_dev8 d, k0_dev8_lt d⟩ : Dev nD) = plane 0 d
    ∧ (⟨k0_dev9 d, k0_dev9_lt d⟩ : Dev nD) = plane 2 d ∧ (⟨k0_dev10 d, k0_dev10_lt d⟩ : Dev nD) = zline 1 d
    ∧ (⟨k0_dev11 d, k0_dev11_lt d⟩ : Dev nD) = zline 0 d ∧ (⟨k0_dev12 d, k0_dev12_lt d⟩ : Dev nD) = zline 2 d
    ∧ (⟨k0_dev13 d, k0_dev13_lt d⟩ : Dev nD) = zline 1 d ∧ (⟨k0_dev14 d, k0_dev14_lt d⟩ : Dev nD) = zline 0 d
    ∧ (⟨k0_dev15 d, k0_dev15_lt d⟩ : Dev nD) = zline 2 d := by revert d; decide +kernel
theorem devQ_eq (d : Dev nD) : (⟨k0_dev16 d, k0_dev16_lt d⟩ : Dev nD) = plane 0 d ∧ (⟨k0_dev17 d, k0_dev17_lt d⟩ : Dev nD) = plane 1 d
    ∧ (⟨k0_dev18 d, k0_dev18_lt d⟩ : Dev nD) = plane 2 d ∧ (⟨k0_dev19 d, k0_dev19_lt d⟩ : Dev nD) = plane 0 d
    ∧ (⟨k0_dev20 d, k0_dev20_lt d⟩ : Dev nD) = plane 1 d ∧ (⟨k0_dev21 d, k0_dev21_lt d⟩ : Dev nD) = plane 2 d
    ∧ (⟨k0_dev22 d, k0_dev22_lt d⟩ : Dev nD) = plane 0 d ∧ (⟨k0_dev23 d, k0_dev23_lt d⟩ : Dev nD) = plane 1 d
    ∧ (⟨k0_dev24 d, k0_dev24_lt d⟩ : Dev nD) = plane 2 d ∧ (⟨k0_dev25 d, k0_dev25_lt d⟩ : Dev nD) = plane 0 d
    ∧ (⟨k0_dev26 d, k0_dev26_lt d⟩ : Dev nD) = plane 1 d ∧ (⟨k0_dev27 d, k0_dev27_lt d⟩ : Dev nD) = plane 2 d := by revert d; decide +kernel

end Cert.Moe

end
-- ==== Proof.Sched.lean ====
module

public import proofs.«01_k».proof.Proof.Proto
public import Idealize.ShloMosaic.Lib.Pipeline.Launch
public import Idealize.ShloMosaic.Lib.Pipeline.Kit
public import Idealize.ShloMosaic.Lib.Transfers
public import Idealize.ShloMosaic.Lib.Tactic

/-!
# What arrives with each copy, and the rules of the copies

The schedule of the kernel's semaphores with what each hands over, and the rules the body is run by: one for a signal,
one for the barrier's wait, one for each kind of copy, one for a wait.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB := URounds (GSem nD τ sig) (Fin 6)
abbrev UU := UR sig nD τ × UB
local notation "𝕄" => MT nD τ sig Unit (Elt F) ℕ UU ℕ
abbrev EP : Emb (UR sig nD τ) (MT nD τ sig Unit (Elt F) ℕ UU ℕ) := embL
abbrev ER : Emb UB (MT nD τ sig Unit (Elt F) ℕ UU ℕ) := embR
abbrev 𝒱₀ : Variants := Variants.none

variable (I : Inp F)

/-! ## The contents handed over -/

/-- A slab's contents: the 64 rows of products, and the slots' token numbers at the start of the row after them. -/
def aOK (e : Dev nD) (k : Fin 3) (w : S80x1024.Idx → Elt F .bf16) : Prop :=
  (∀ (r : Fin 64) (l : Fin 1024), w (ix2 ⟨r.val, by omega⟩ l) = yA I e k (ix3 0 r l))
  ∧ ∀ l : Fin 64, w (ix2 64 ⟨l.val, by omega⟩) = rA I e k (ix3 0 0 ⟨l.val, by omega⟩)

/-- Some contents of a place on device `c`. -/
def anyAt {s : Shape} (M : Memref sig .tc .vmem s .bf16) (c : Dev nD) : sProp 𝕄 :=
  iprop(∃ f, M.view.loc (c : Thread nD τ) ↦[M.view.set]{fullShare} f)
/-- A place on device `c` that reads as a value with `P`. -/
def okAt {s : Shape} (M : Memref sig .tc .vmem s .bf16) (P : (s.Idx → Elt F .bf16) → Prop) (c : Dev nD) : sProp 𝕄 :=
  iprop(∃ f, ⌜P (M.view.read (Elt F) f)⌝ ∗ (M.view.loc (c : Thread nD τ) ↦[M.view.set]{fullShare} f))
/-- A share of block `t` of quarter `q` on device `c`, finished. -/
def agAt (c : Dev nD) (q t : Fin 4) (sh : PosShare TreeShare) : sProp 𝕄 :=
  (agB q t).view.loc (c : Thread nD τ) ↦[(agB q t).view.set]{sh} (AGv I)

instance anyAt_storable {s : Shape} (M : Memref sig .tc .vmem s .bf16) (c : Dev nD) : BI.Storable (upEmb : UEmb _ 𝕄) (anyAt (F := F) M c) := by
  unfold anyAt; infer_instance
instance okAt_storable {s : Shape} (M : Memref sig .tc .vmem s .bf16) (P) (c : Dev nD) : BI.Storable (upEmb : UEmb _ 𝕄) (okAt (F := F) M P c) := by
  unfold okAt; infer_instance
instance agAt_storable (c : Dev nD) (q t : Fin 4) (sh) : BI.Storable (upEmb : UEmb _ 𝕄) (agAt I c q t sh) := by unfold agAt; infer_instance

/-- The share of a finished block that a copy reads it with. -/
abbrev tok (k : Fin 6) : PosShare TreeShare := Transfers.shareTok fullShare 6 k

/-- What a copy reads, on the device it leaves; -/
def srcRes : Ch → Dev nD → sProp 𝕄
  | .a k, c => okAt (saV k) (aOK I c k) c
  | .b k, c => okAt (qbB (tB c + k.succ)) (fun w => w = sB I c k) c
  | .z k, c => agAt I c (qA c) (tB c) (tok ⟨k.val, by omega⟩)
  | .p k o, c => agAt I c (qA c) (tB c + o) (tok ⟨3 + k.val, by omega⟩)
/-- the place it writes, on device `n`, when it leaves device `c`; -/
def dstAt : Ch → Dev nD → Dev nD → sProp 𝕄
  | .a k, n, _ => anyAt (raV (rev3 k)) n
  | .b k, n, _ => anyAt (rbV (rev3 k)) n
  | .z _, n, c => anyAt (agB (qA c) (tB c)) n
  | .p _ o, n, c => anyAt (agB (qA c) (tB c + o)) n
/-- what has arrived on device `c`. -/
def rcvRes : Ch → Dev nD → sProp 𝕄
  | .a k, c => okAt (raV (rev3 k)) (aOK I (plane (rev3 k) c) k) c
  | .b k, c => okAt (rbV (rev3 k)) (fun w => w = sB I (zline (rev3 k) c) k) c
  | .z k, c => agAt I c (qA (zline (rev3 k) c)) (tB (zline (rev3 k) c)) fullShare
  | .p k o, c => agAt I c (qA (plane (rev3 k) c)) (tB (plane (rev3 k) c) + o) fullShare

/-- What the signal of `c`'s peer `i` hands `c`: the places of that peer that `c`'s copies go to. -/
def barPay (c : Dev nD) (i : Fin 6) : sProp 𝕄 :=
  if h : i.val < 3 then iprop(dstAt (.a ⟨i.val, h⟩) (peer i c) c ∗ dstAt (.p ⟨i.val, h⟩ 0) (peer i c) c ∗ dstAt (.p ⟨i.val, h⟩ 1) (peer i c) c
    ∗ dstAt (.p ⟨i.val, h⟩ 2) (peer i c) c ∗ dstAt (.p ⟨i.val, h⟩ 3) (peer i c) c)
  else iprop(dstAt (.b ⟨i.val - 3, by omega⟩) (peer i c) c ∗ dstAt (.z ⟨i.val - 3, by omega⟩) (peer i c) c)

instance srcRes_storable (x : Ch) (c : Dev nD) : BI.Storable (upEmb : UEmb _ 𝕄) (srcRes I x c) := by cases x <;> (unfold srcRes; infer_instance)
instance dstAt_storable (x : Ch) (n c : Dev nD) : BI.Storable (upEmb : UEmb _ 𝕄) (dstAt (F := F) x n c) := by cases x <;> (unfold dstAt; infer_instance)
instance rcvRes_storable (x : Ch) (c : Dev nD) : BI.Storable (upEmb : UEmb _ 𝕄) (rcvRes I x c) := by cases x <;> (unfold rcvRes; infer_instance)
instance barPay_storable (c : Dev nD) (i : Fin 6) : BI.Storable (upEmb : UEmb _ 𝕄) (barPay (F := F) c i) := by
  unfold barPay; split <;> infer_instance

/-! ## The semaphores' roles -/

/-- The semaphore of a channel's end: `false` where it leaves, `true` where it arrives. -/
def semOf : Bool × Ch → DmaSem sig | (false, x) => sndS x | (true, x) => rcvS x
/-- What a semaphore is for. -/
def role : SemLoc sig → Option (Option (Bool × Ch))
  | .reg s => if s = barS then some none else none
  | .dma q => match chS q with
    | some x => some (some (false, x))
    | none => match chR q with | some x => some (some (true, x)) | none => none
theorem role_bar : role (.reg barS) = some none := by unfold role; exact if_pos rfl
theorem role_semOf (p : Bool × Ch) : role (.dma (semOf p)) = some (some p) := by
  obtain ⟨b, x⟩ := p
  cases b
  · show (match chS (sndS x) with | some x => some (some (false, x)) | none => match chR (sndS x) with | some x => some (some (true, x)) | none => none) = _
    rw [chS_snd]
  · show (match chS (rcvS x) with | some x => some (some (false, x)) | none => match chR (rcvS x) with | some x => some (some (true, x)) | none => none) = _
    rw [chS_rcv, chR_rcv]
theorem semOf_inj : Function.Injective semOf := fun p p' h => by
  have := congrArg (fun q => role (.dma q)) h
  simp only [role_semOf, Option.some.injEq] at this
  exact this

abbrev chCell (p : Bool × Ch) (c : Dev nD) : GSem nD τ sig := ((c : Thread nD τ), .dma (semOf p))
/-- What comes with a channel's end. -/
def pay : Bool × Ch → Dev nD → sProp 𝕄 | (false, x), c => srcRes I x c | (true, x), c => rcvRes I x c
instance pay_storable (p : Bool × Ch) (c : Dev nD) : BI.Storable (upEmb : UEmb _ 𝕄) (pay I p c) := by
  obtain ⟨b, x⟩ := p; cases b <;> (unfold pay; infer_instance)

/-- One round: the barrier takes one unit of each of six peers, a channel's end the copy's units. -/
def Rd : Rounds.Schedule (GSem nD τ sig) (Fin 6) 𝕄 where
  duties g r := if r = 0 ∧ g.1.2 = .tc then (match role g.2 with | some none => Finset.univ | some (some _) => {0} | none => ∅) else ∅
  unitless _ := False
  amount g _ _ := match role g.2 with | some (some p) => amt p.2 | _ => 1
  payload g _ d := match role g.2 with | some none => barPay g.1.1 d | some (some p) => pay I p g.1.1 | none => iprop(emp)
  amount_pos g _ _ _ := by
    split
    · exact amt_pos _
    · exact Nat.one_pos

instance Rd_payload_storable (g : GSem nD τ sig) (r : ℕ) (d : Fin 6) : BI.Storable (upEmb : UEmb _ 𝕄) ((Rd I).payload g r d) := by
  show BI.Storable upEmb (match role g.2 with | some none => barPay g.1.1 d | some (some p) => pay I p g.1.1 | none => iprop(emp))
  split <;> infer_instance

section Sched
variable (c : Dev nD) (p : Bool × Ch)
theorem duties_bar : (Rd I).duties (barCell c) 0 = Finset.univ := by
  dsimp only [Rd]; rw [if_pos ⟨rfl, rfl⟩, role_bar]
theorem duties_ch : (Rd I).duties (chCell p c) 0 = {0} := by
  dsimp only [Rd]; rw [if_pos ⟨rfl, rfl⟩, role_semOf]
theorem duties_later (g : GSem nD τ sig) : ∀ r, 1 ≤ r → (Rd I).duties g r = ∅ :=
  fun r hr => by dsimp only [Rd]; rw [if_neg fun h => by omega]
theorem amount_bar (d : Fin 6) : (Rd I).amount (barCell c) 0 d = 1 := by dsimp only [Rd]; rw [role_bar]
theorem amount_ch (d : Fin 6) : (Rd I).amount (chCell p c) 0 d = amt p.2 := by dsimp only [Rd]; rw [role_semOf]
theorem expect_bar : (Rd I).expect (barCell c) 0 = 6 := by
  unfold Schedule.expect Schedule.amountOf
  rw [duties_bar, Finset.sum_congr rfl fun d _ => amount_bar I c d, Finset.sum_const, Finset.card_univ, Fintype.card_fin, smul_eq_mul]
theorem expect_ch : (Rd I).expect (chCell p c) 0 = amt p.2 := by
  unfold Schedule.expect Schedule.amountOf; rw [duties_ch, Finset.sum_singleton, amount_ch]
theorem payload_bar (d : Fin 6) : (Rd I).payload (barCell c) 0 d = barPay c d := by dsimp only [Rd]; rw [role_bar]
theorem payload_ch (d : Fin 6) : (Rd I).payload (chCell p c) 0 d = pay I p c := by dsimp only [Rd]; rw [role_semOf]
theorem rest_bar : bigSep ((Rd I).duties (barCell c) 0 \ ∅) (fun d => (Rd I).payload (barCell c) 0 d)
    = iprop(barPay c 0 ∗ barPay c 1 ∗ barPay c 2 ∗ barPay c 3 ∗ barPay c 4 ∗ barPay c 5) := by
  rw [Finset.sdiff_empty, duties_bar, bigSep_univ_eq_bigSepL [0, 1, 2, 3, 4, 5] (by decide) (by decide)]
  simp only [bigSepL_cons_cons, bigSepL_singleton, payload_bar]
  rfl
theorem rest_ch : bigSep ((Rd I).duties (chCell p c) 0 \ ∅) (fun d => (Rd I).payload (chCell p c) 0 d) = pay I p c := by
  rw [Finset.sdiff_empty, duties_ch, bigSep_singleton, payload_ch]
end Sched

/-! ## What is owed, and the levels -/

/-- What a device owes at the start: six signals and twenty-one arrivals. -/
inductive Due where | bar (i : Fin 6) | ch (x : Ch)
  deriving DecidableEq
def dueCell (c : Dev nD) : Due → GSem nD τ sig | .bar i => barCell (peer i c) | .ch x => chCell (true, x) (tgt x c)
def dueN : Due → ℕ | .bar _ => 1 | .ch x => amt x
/-- The debts of a list, its head on top. -/
def owedL (c : Dev nD) : List Due → CellTallies nD τ sig Unit
  | [] => 0
  | d :: l => owedL c l + tallyAt (dueCell c d) () (dueN d)

theorem owedL_pos {c : Dev nD} {g : GSem nD τ sig} {u : Unit} : ∀ {l : List Due}, 0 < owedL c l g u → ∃ d ∈ l, g = dueCell c d
  | [], h => absurd h (Nat.lt_irrefl 0)
  | d :: l, h => by
    unfold owedL at h
    rw [Pi.add_apply, Finsupp.add_apply, tallyAt_apply] at h
    by_cases hd : g = dueCell c d
    · exact ⟨d, List.mem_cons_self, hd⟩
    · rw [if_neg fun h' => hd h'.1] at h
      obtain ⟨d', hm, e⟩ := owedL_pos h
      exact ⟨d', List.mem_cons_of_mem _ hm, e⟩

def L (g : GSem nD τ sig) : Finset Unit := if g.1.2 = .tc then {()} else ∅
/-- The level of a channel's arrival. -/
def lvCh : Ch → ℕ | .a _ => 2 | .b _ => 3 | .z _ => 4 | .p _ _ => 5
def lvR : Option (Option (Bool × Ch)) → ℕ | some none => 1 | some (some (true, x)) => lvCh x | _ => 0
def lv (g : GSem nD τ sig) (_ : Unit) : ℕ := lvR (role g.2)
def lvD : Due → ℕ | .bar _ => 1 | .ch x => lvCh x
theorem lv_due (c : Dev nD) (d : Due) (u : Unit) : lv (dueCell c d) u = lvD d := by
  cases d with
  | bar i => show lvR (role (.reg barS)) = 1; rw [role_bar]; rfl
  | ch x => show lvR (role (.dma (semOf (true, x)))) = lvCh x; rw [role_semOf]; rfl
theorem L_of_ne (g : GSem nD τ sig) (h : g.1.2 ≠ .tc) : L g = ∅ := if_neg h
theorem L_tc (c : Dev nD) (sm : SemLoc sig) : L ((c : Thread nD τ), sm) = {()} := if_pos rfl
theorem L_due (c : Dev nD) (d : Due) : L (dueCell c d) = {()} := by cases d <;> exact if_pos rfl

/-- A wait below everything still owed is allowed. -/
theorem mayWait (c : Dev nD) (sm : SemLoc sig) (l : List Due) (h : ∀ d ∈ l, lvR (role sm) < lvD d) :
    (levAts L lv : sProp 𝕄) ⊢ MayWait (c : Thread nD τ) sm () (owedL c l) :=
  MayOwe.of_cut (L := L) (lev := lv) (lvR (role sm)) (fun p hp => by rw [Finset.mem_singleton.mp hp, L_tc]; exact Finset.mem_singleton_self _)
    (fun g u hg => by obtain ⟨d, -, rfl⟩ := owedL_pos hg; rw [L_due]; exact Finset.mem_singleton_self _)
    (fun p hp => by rw [Finset.mem_singleton.mp hp]; exact le_refl _)
    (fun g u hg => by obtain ⟨d, hd, rfl⟩ := owedL_pos hg; rw [lv_due]; exact h d hd)

/-- Everything a device owes at the start, in the order it pays. -/
def allDue : List Due := [.bar 0, .bar 1, .bar 2, .bar 3, .bar 4, .bar 5, .ch (.a 1), .ch (.a 0), .ch (.a 2), .ch (.b 1), .ch (.b 0), .ch (.b 2),
  .ch (.z 1), .ch (.z 0), .ch (.z 2), .ch (.p 0 0), .ch (.p 1 0), .ch (.p 2 0), .ch (.p 0 1), .ch (.p 1 1), .ch (.p 2 1),
  .ch (.p 0 3), .ch (.p 1 3), .ch (.p 2 3), .ch (.p 0 2), .ch (.p 1 2), .ch (.p 2 2)]

/-! ## The state of a device -/

abbrev CI := Option (Bool × Ch)
abbrev csem : CI → SemLoc sig | none => .reg barS | some p => .dma (semOf p)
abbrev kcell (ck : Dev nD × CI) : GSem nD τ sig := ((ck.1 : Thread nD τ), csem ck.2)

/-- Every cell's invariant under its name, every cell at the start of its round, and the levels. -/
def recs (K : Dev nD × CI → ℕ) : sProp 𝕄 :=
  iprop((∀ ck, cellInv ER (Rd I) (K ck) (kcell ck)) ∗ (∀ ck, reached ER (kcell ck) 0) ∗ levAts L lv)
instance recs_persistent (K : Dev nD × CI → ℕ) : BI.Persistent (recs I K) := by unfold recs; infer_instance

/-- A device's debts. -/
def Ow (c : Dev nD) (l : List Due) : sProp 𝕄 := iprop(∃ W, owes (c : Thread nD τ) (owedL c l) W)
/-- A copy not yet sent; -/
def ready (x : Ch) (c : Dev nD) : sProp 𝕄 :=
  iprop(dutyTok ER (chCell (false, x) c) 0 0 ∗ dutyTok ER (chCell (true, x) (tgt x c)) 0 0)
/-- an end not yet waited for. -/
def wait (p : Bool × Ch) (c : Dev nD) : sProp 𝕄 :=
  iprop(atPos ER (chCell p c) 0 ∅ 0 ∗ cred (tallyAt (chCell p c) () (amt p.2)))
/-- An end whose units will come when its copy is sent; -/
def idle (x : Ch) (c : Dev nD) : sProp 𝕄 := atPos ER (chCell (false, x) c) 0 ∅ 0
/-- an end waited for and closed. -/
def shut (p : Bool × Ch) (c : Dev nD) : sProp 𝕄 := semVal (chCell p c) 0

variable (K : Dev nD × CI → ℕ)

theorem recs_inv (ck) : recs I K ⊢ cellInv ER (Rd I) (K ck) (kcell ck) := by
  unfold recs; iintro ⟨H, -, -⟩; iapply H
theorem recs_reached (ck) : recs I K ⊢ reached ER (kcell ck) 0 := by
  unfold recs; iintro ⟨-, H, -⟩; iapply H
theorem recs_lev : recs I K ⊢ levAts L lv := by
  unfold recs; iintro ⟨-, -, H⟩; iexact H

/-- The wait for a channel's end: what came with it, and the end closed. -/
theorem wp_wait (c : Dev nD) (p : Bool × Ch) (l : List Due) (hl : ∀ d ∈ l, lvR (some (some p)) < lvD d) {s : Shape}
    {a b : Memref sig .tc .vmem s .bf16} {h1 h2} (hN : b.view.dmaCredit = amt p.2) {α : Type} {Q : α → sProp 𝕄}
    {k : PUnit → Prog (TpuEff nD τ sig (Elt F) Λ₀ .tc) α} :
    iprop(recs I K ∗ wait p c ∗ Ow c l)
      ⊢ iprop(((shut p c ∗ pay I p c ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (semOf p) a b h1 h2) k) Q) := by
  unfold wait Ow
  iintro ⟨#HR, ⟨Hat, Hc⟩, ⟨%W, HO⟩⟩ Hk
  ihave #HI := (recs_inv I K (c, some p)) $$ HR
  ihave #Hlev := (recs_lev I K) $$ HR
  iapply (Rounds.wp_wait_rest_token 𝒱₀ ER (Rd I) (c : Thread nD τ) none (κ := K (c, some p))
      (wpE_waitDma2_eq 𝒱₀ (c : Thread nD τ) none Set.univ) (Set.mem_univ _) () (O := owedL c l) (W := W) (R := 0) (m := 0) (T := ∅)
      (by rw [Nat.zero_add, expect_ch, hN])) $$ [Hc HO Hat]
  · isplitr; · iexact HI
    isplitl [Hc]; · rw [hN]; iexact Hc
    isplitl [HO]; · iexact HO
    isplitr; · iapply (mayWait c (.dma (semOf p)) l (by rw [role_semOf]; exact hl)); iexact Hlev
    iexact Hat
  iintro ⟨HO, Hat, -, Hpay⟩
  ihave Hp := (Entails.of_eq (rest_ch I c p)) $$ Hpay
  imod (Rounds.cell_close ER (Rd I) (Set.mem_univ (K (c, some p))) (fun h => h) (R := 0 + 1) (duties_later I (chCell p c))) $$ [Hat] with Hz
  · isplitr; · iexact HI
    iexact Hat
  iapply Hk
  unfold shut
  isplitl [Hz]; · iexact Hz
  isplitl [Hp]; · iexact Hp
  iexists _; iexact HO

/-- The barrier's wait: the places of all six peers, and the barrier closed. -/
theorem wp_barWait (c : Dev nD) (l : List Due) (hl : ∀ d ∈ l, 1 < lvD d) {α : Type} {Q : α → sProp 𝕄}
    {k : PUnit → Prog (TpuEff nD τ sig (Elt F) Λ₀ .tc) α} :
    iprop(recs I K ∗ atPos ER (barCell c) 0 ∅ 0 ∗ cred (tallyAt (barCell c) () 6) ∗ Ow c l)
      ⊢ iprop(((semVal (barCell c) 0 ∗ (barPay c 0 ∗ barPay c 1 ∗ barPay c 2 ∗ barPay c 3 ∗ barPay c 4 ∗ barPay c 5) ∗ Ow c l)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (6#32).toNat) k) Q) := by
  unfold Ow
  iintro ⟨#HR, Hat, Hc, ⟨%W, HO⟩⟩ Hk
  ihave #HI := (recs_inv I K (c, none)) $$ HR
  ihave #Hlev := (recs_lev I K) $$ HR
  iapply (Rounds.wp_wait_rest_token 𝒱₀ ER (Rd I) (c : Thread nD τ) none (κ := K (c, none))
      (wpE_semWait_eq 𝒱₀ (c : Thread nD τ) none Set.univ) (Set.mem_univ _) () (O := owedL c l) (W := W) (R := 0) (m := 0) (T := ∅)
      (by rw [expect_bar]; decide)) $$ [Hc HO Hat]
  · isplitr; · iexact HI
    isplitl [Hc]; · iexact Hc
    isplitl [HO]; · iexact HO
    isplitr; · iapply (mayWait c (.reg barS) l (by rw [role_bar]; exact hl)); iexact Hlev
    iexact Hat
  iintro ⟨HO, Hat, -, Hpay⟩
  ihave Hp := (Entails.of_eq (rest_bar I c)) $$ Hpay
  imod (Rounds.cell_close ER (Rd I) (Set.mem_univ (K (c, none))) (fun h => h) (R := 0 + 1) (duties_later I (barCell c))) $$ [Hat] with Hz
  · isplitr; · iexact HI
    iexact Hat
  iapply Hk
  isplitl [Hz]; · iexact Hz
  isplitl [Hp]; · iexact Hp
  iexists _; iexact HO

/-- A signal to a peer: it hands over the places that peer's copies go to. -/
theorem wp_sig (c n : Dev nD) (i : Fin 6) (hn : n = peer i c) (l : List Due) {α : Type} {Q : α → sProp 𝕄}
    {k : PUnit → Prog (TpuEff nD τ sig (Elt F) Λ₀ .tc) α} :
    iprop(recs I K ∗ dutyTok ER (barCell (peer i c)) 0 (dual i) ∗ barPay (peer i c) (dual i) ∗ Ow c (.bar i :: l))
      ⊢ iprop((Ow c l -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc n : Thread nD τ) barS (1#32).toNat) k) Q) := by
  subst hn
  unfold Ow
  iintro ⟨#HR, Ht, Hp, ⟨%W, HO⟩⟩ Hk
  ihave #HI := (recs_inv I K (peer i c, none)) $$ HR
  ihave #Hr := (recs_reached I K (peer i c, none)) $$ HR
  iapply (Rounds.wp_signal 𝒱₀ ER (Rd I) (c : Thread nD τ) none (dst := (peer i c : Thread nD τ)) (κ := K (peer i c, none))
      (d := dual i) (by rw [duties_bar]; exact Finset.mem_univ _) (show (Rd I).amount (barCell (peer i c)) 0 (dual i) = (1#32).toNat from amount_bar I (peer i c) (dual i)) () (owedL c l) (O₀ := owedL c (.bar i :: l)) rfl)
    $$ [HO Ht Hp]
  · isplitr; · iexact HI
    isplitl [HO]; · iexact HO
    isplitl [Ht]; · iexact Ht
    isplitl [Hp]; · rw [payload_bar]; iexact Hp
    iexact Hr
  iintro HO
  iapply Hk; iexists W; iexact HO

/-- A channel's copy, at the places it reads and writes: what it takes and what lands, given as entailments. -/
theorem wp_copy (c n : Dev nD) (x : Ch) (hn : n = tgt x c) (l : List Due) {s : Shape} {src : Memref sig .tc .vmem s .bf16} {dst : Memref sig .tc .vmem s .bf16}
    {hsc} {h1 h2 h3} (hN : dst.view.dmaCredit = amt x) (q : PosShare TreeShare) (fs : Buf (Elt F) (src.view.loc (c : Thread nD τ)))
    (fd : Buf (Elt F) (dst.view.loc (tgt x c : Thread nD τ)))
    (hs : (src.view.loc (c : Thread nD τ) ↦[src.view.set]{q} fs : sProp 𝕄) ⊢ srcRes I x c)
    (hd : (dst.view.loc (tgt x c : Thread nD τ) ↦[dst.view.set]{fullShare} dst.view.write (Elt F) fd (src.view.read (Elt F) fs) Finset.univ : sProp 𝕄) ⊢ rcvRes I x (tgt x c))
    {α : Type} {Q : α → sProp 𝕄} {k : PUnit → Prog (TpuEff nD τ sig (Elt F) Λ₀ .tc) α} :
    iprop(recs I K ∗ ready x c ∗ idle x c ∗ (src.view.loc (c : Thread nD τ) ↦[src.view.set]{q} fs)
        ∗ (dst.view.loc (tgt x c : Thread nD τ) ↦[dst.view.set]{fullShare} fd) ∗ Ow c (.ch x :: l))
      ⊢ iprop(((wait (false, x) c ∗ Ow c l) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma (sndS x)) hsc) (.dma (rcvS x)) h1 h2 h3) k) Q) := by
  subst hn
  unfold ready idle wait Ow
  iintro ⟨#HR, ⟨Ht1, Ht2⟩, Hat, Hs, Hd, ⟨%W, HO⟩⟩ Hk
  ihave #HI := (recs_inv I K (c, some (false, x))) $$ HR
  ihave #Hr := (recs_reached I K (c, some (false, x))) $$ HR
  ihave #HI' := (recs_inv I K (tgt x c, some (true, x))) $$ HR
  ihave #Hr' := (recs_reached I K (tgt x c, some (true, x))) $$ HR
  iapply (Rounds.wp_send_pointsTo 𝒱₀ ER (Rd I) (c : Thread nD τ) none (κ₁ := K (c, some (false, x))) (κ₂ := K (tgt x c, some (true, x)))
    (r₁ := 0) (r₂ := 0) (d₁ := 0) (d₂ := 0) (fd := fd)
    ((Finset.ext_iff.mp (duties_ch I c (false, x)) 0).mpr (Finset.mem_singleton_self _)) ((Finset.ext_iff.mp (duties_ch I (tgt x c) (true, x)) 0).mpr (Finset.mem_singleton_self _))
    () () (amt x) hN (amount_ch I c (false, x) 0) (amount_ch I (tgt x c) (true, x) 0) (owedL c l) (O₀ := owedL c (.ch x :: l)) rfl (W := W)
    ((hs.trans (Entails.of_eq (payload_ch I c (false, x) 0).symm)))
    ((hd.trans (Entails.of_eq (payload_ch I (tgt x c) (true, x) 0).symm)))) $$ [Hs Hd HO Ht1 Ht2]
  · isplitr; · iexact HI
    isplitr; · iexact HI'
    isplitl [Hs]; · iexact Hs
    isplitl [Hd]; · iexact Hd
    isplitl [HO]; · iexact HO
    isplitl [Ht1]; · iexact Ht1
    isplitr; · iexact Hr
    isplitl [Ht2]; · iexact Ht2
    iexact Hr'
  iintro ⟨Hc, HO⟩
  iapply Hk
  isplitl [Hat Hc]
  · isplitl [Hat]; · iexact Hat
    iexact Hc
  iexists W; iexact HO

end Cert.Moe

end
-- ==== Proof.Geo.lean ====
module

public import proofs.«01_k».proof.Proof.Sched

/-!
# Where each load and store lies, and what it reads or leaves

The set of elements of each slot and block, that each load and store of the body stays in its slot, and what the
slots read as after the stores.
-/

@[expose] public section

set_option maxRecDepth 16384

noncomputable section

namespace Cert.Moe

open Cert.KernelIdeal Cert.KernelIdeal.Gen
open Idealize.ShloMosaic Idealize.ShloMosaic.TcCoe
open Idealize.SL Idealize.SL.Sem

variable {F : FTy → Type} [FloatOps F]

/-! ## Whole buffers -/

theorem load_set (b : Ref sig .tc) (r : Rect b.ty.shape) : (Memref.whole b : Memref sig .tc _ _ _).view.setOn r.toLoadRect.set = r.set := by
  show r.toLoadRect.set.map (Function.Embedding.refl _) = _
  rw [Finset.map_refl]
theorem store_set (b : Ref sig .tc) (r : Rect b.ty.shape) : ((Memref.whole b : Memref sig .tc _ _ _).access r).setOn Finset.univ = r.set :=
  View.set_slice_whole b r
theorem store_in (b : Ref sig .tc) (r : Rect b.ty.shape) (f : b.ty.Contents (Elt F)) (w) (i : r.shape.Idx) :
    ((Memref.whole b : Memref sig .tc _ _ _).access r).write (Elt F) f w Finset.univ (r.emb i) = w i :=
  View.write_emb_of_mem (v := (Memref.whole b : Memref sig .tc _ _ _).access r) (Val := Elt F) f w (Finset.mem_univ i)
theorem store_out (b : Ref sig .tc) (r : Rect b.ty.shape) (f : b.ty.Contents (Elt F)) (w) (i : b.ty.shape.Idx) (h : i ∉ r.set) :
    ((Memref.whole b : Memref sig .tc _ _ _).access r).write (Elt F) f w Finset.univ i = f i :=
  View.write_of_not_mem (v := (Memref.whole b : Memref sig .tc _ _ _).access r) (Val := Elt F) f w Finset.univ (by rw [store_set]; exact h)
theorem sq_set (b : Ref sig .tc) (r : Rect b.ty.shape) (hr) (s' : Shape) (hq : r.shape.Squeezes s') :
    (((Memref.whole b : Memref sig .tc _ _ _).slice r hr).squeeze s' hq).view.set = r.set :=
  (View.set_reshape ((View.whole b).slice r) _).trans (View.set_slice_whole b r)
theorem sl_set (b : Ref sig .tc) (r : Rect b.ty.shape) (hr) :
    ((Memref.whole b : Memref sig .tc _ _ _).slice r hr).view.set = r.set := View.set_slice_whole b r

/-! ## The sets -/

theorem mem3 {A B C : ℕ} (o sz : Fin 3 → ℕ) (h) (i : (⟨3, ![A, B, C]⟩ : Shape).Idx) : i ∈ (Rect.unit (s := ⟨3, ![A, B, C]⟩) o sz h).set ↔
    (o 0 ≤ (i 0).val ∧ (i 0).val < o 0 + sz 0) ∧ (o 1 ≤ (i 1).val ∧ (i 1).val < o 1 + sz 1) ∧ (o 2 ≤ (i 2).val ∧ (i 2).val < o 2 + sz 2) := by
  rw [Rect.mem_set_unit]
  exact ⟨fun h => ⟨h 0, h 1, h 2⟩, fun ⟨h0, h1, h2⟩ a => match a with | 0 => h0 | 1 => h1 | 2 => h2⟩
theorem mem2 {A B : ℕ} (o sz : Fin 2 → ℕ) (h) (i : (⟨2, ![A, B]⟩ : Shape).Idx) : i ∈ (Rect.unit (s := ⟨2, ![A, B]⟩) o sz h).set ↔
    (o 0 ≤ (i 0).val ∧ (i 0).val < o 0 + sz 0) ∧ (o 1 ≤ (i 1).val ∧ (i 1).val < o 1 + sz 1) := by
  rw [Rect.mem_set_unit]
  exact ⟨fun h => ⟨h 0, h 1⟩, fun ⟨h0, h1⟩ a => match a with | 0 => h0 | 1 => h1⟩
theorem mem4 {A B C D : ℕ} (o sz : Fin 4 → ℕ) (h) (i : (⟨4, ![A, B, C, D]⟩ : Shape).Idx) : i ∈ (Rect.unit (s := ⟨4, ![A, B, C, D]⟩) o sz h).set ↔
    (o 0 ≤ (i 0).val ∧ (i 0).val < o 0 + sz 0) ∧ (o 1 ≤ (i 1).val ∧ (i 1).val < o 1 + sz 1) ∧ (o 2 ≤ (i 2).val ∧ (i 2).val < o 2 + sz 2)
      ∧ (o 3 ≤ (i 3).val ∧ (i 3).val < o 3 + sz 3) := by
  rw [Rect.mem_set_unit]
  exact ⟨fun h => ⟨h 0, h 1, h 2, h 3⟩, fun ⟨h0, h1, h2, h3⟩ a => match a with | 0 => h0 | 1 => h1 | 2 => h2 | 3 => h3⟩

theorem mem_slab (s : Fin 3) (i : S3x80x1024.Idx) : i ∈ (Rect.unit (s := S3x80x1024) ![s.val, 0, 0] S1x80x1024.size (inbS s)).set ↔ (i 0).val = s.val := by
  have h1 : (i 1).val < 80 := (i 1).isLt
  have h2 : (i 2).val < 1024 := (i 2).isLt
  refine (mem3 _ _ _ i).trans ?_
  show (s.val ≤ (i 0).val ∧ (i 0).val < s.val + 1) ∧ (0 ≤ (i 1).val ∧ (i 1).val < 0 + 80) ∧ (0 ≤ (i 2).val ∧ (i 2).val < 0 + 1024) ↔ _
  omega
theorem mem_blk (s : Fin 3) (i : S3x64x1024.Idx) : i ∈ (Rect.unit (s := S3x64x1024) ![s.val, 0, 0] S1x64x1024.size (inbB s)).set ↔ (i 0).val = s.val := by
  have h1 : (i 1).val < 64 := (i 1).isLt
  have h2 : (i 2).val < 1024 := (i 2).isLt
  refine (mem3 _ _ _ i).trans ?_
  show (s.val ≤ (i 0).val ∧ (i 0).val < s.val + 1) ∧ (0 ≤ (i 1).val ∧ (i 1).val < 0 + 64) ∧ (0 ≤ (i 2).val ∧ (i 2).val < 0 + 1024) ↔ _
  omega
theorem mem_qb (t : Fin 4) (i : S256x1024.Idx) : i ∈ (Rect.unit (s := S256x1024) ![64 * t.val, 0] S64x1024.size (inbQ t)).set ↔ (i 0).val / 64 = t.val := by
  have h1 : (i 0).val < 256 := (i 0).isLt
  have h2 : (i 1).val < 1024 := (i 1).isLt
  refine (mem2 _ _ _ i).trans ?_
  show (64 * t.val ≤ (i 0).val ∧ (i 0).val < 64 * t.val + 64) ∧ (0 ≤ (i 1).val ∧ (i 1).val < 0 + 1024) ↔ _
  omega
theorem mem_ag (q t : Fin 4) (i : S4x4x64x1024.Idx) :
    i ∈ (Rect.unit (s := S4x4x64x1024) ![q.val, t.val, 0, 0] S1x1x64x1024.size (inbAG q t)).set ↔ (i 0).val = q.val ∧ (i 1).val = t.val := by
  have h2 : (i 2).val < 64 := (i 2).isLt
  have h3 : (i 3).val < 1024 := (i 3).isLt
  refine (mem4 _ _ _ i).trans ?_
  show (q.val ≤ (i 0).val ∧ (i 0).val < q.val + 1) ∧ (t.val ≤ (i 1).val ∧ (i 1).val < t.val + 1) ∧ (0 ≤ (i 2).val ∧ (i 2).val < 0 + 64) ∧ (0 ≤ (i 3).val ∧ (i 3).val < 0 + 1024) ↔ _
  omega

theorem sa_set (s : Fin 3) : (saV s).view.set = (Rect.unit (s := S3x80x1024) ![s.val, 0, 0] S1x80x1024.size (inbS s)).set :=
  sq_set cc0_scratch4 _ (fun _ => rfl) _ squeezes_S1x80x1024_S80x1024
theorem ra_set (s : Fin 3) : (raV s).view.set = (Rect.unit (s := S3x80x1024) ![s.val, 0, 0] S1x80x1024.size (inbS s)).set :=
  sq_set cc0_scratch5 _ (fun _ => rfl) _ squeezes_S1x80x1024_S80x1024
theorem rb_set (s : Fin 3) : (rbV s).view.set = (Rect.unit (s := S3x64x1024) ![s.val, 0, 0] S1x64x1024.size (inbB s)).set :=
  sq_set cc0_scratch7 _ (fun _ => rfl) _ squeezes_S1x64x1024_S64x1024
theorem qb_set (t : Fin 4) : (qbB t).view.set = (Rect.unit (s := S256x1024) ![64 * t.val, 0] S64x1024.size (inbQ t)).set :=
  sl_set cc0_scratch6 _ (fun _ => rfl)
theorem ag_set (q t : Fin 4) : (agB q t).view.set = (Rect.unit (s := S4x4x64x1024) ![q.val, t.val, 0, 0] S1x1x64x1024.size (inbAG q t)).set :=
  sq_set cc0_scratch8 _ (fun _ => rfl) _ squeezes_S1x1x64x1024_S64x1024

theorem slab_Y (s : Fin 3) : (Rect.unit (s := S3x80x1024) ![s.val, 0, 0] S1x64x1024.size (inbY s)).set
    ⊆ (Rect.unit (s := S3x80x1024) ![s.val, 0, 0] S1x80x1024.size (inbS s)).set := fun i hi => by
  have h := ((mem3 _ _ _ i).mp hi).1
  rw [mem_slab]
  have h : s.val ≤ (i 0).val ∧ (i 0).val < s.val + 1 := h
  omega
theorem slab_R (s : Fin 3) : (Rect.unit (s := S3x80x1024) ![s.val, 64, 0] S1x1x128.size (inbR s)).set
    ⊆ (Rect.unit (s := S3x80x1024) ![s.val, 0, 0] S1x80x1024.size (inbS s)).set := fun i hi => by
  have h := ((mem3 _ _ _ i).mp hi).1
  rw [mem_slab]
  have h : s.val ≤ (i 0).val ∧ (i 0).val < s.val + 1 := h
  omega
theorem slab_RR (s : Fin 3) : (Rect.unit (s := S3x80x1024) ![s.val, 64, 0] S1x2x128.size (inbRR s)).set
    ⊆ (Rect.unit (s := S3x80x1024) ![s.val, 0, 0] S1x80x1024.size (inbS s)).set := fun i hi => by
  have h := ((mem3 _ _ _ i).mp hi).1
  rw [mem_slab]
  have h : s.val ≤ (i 0).val ∧ (i 0).val < s.val + 1 := h
  omega
theorem slab_I (s : Fin 3) : (Rect.unit (s := S3x80x1024) ![s.val, 64, 0] S1x1x64.size (inbI s)).set
    ⊆ (Rect.unit (s := S3x80x1024) ![s.val, 0, 0] S1x80x1024.size (inbS s)).set := fun i hi => by
  have h := ((mem3 _ _ _ i).mp hi).1
  rw [mem_slab]
  have h : s.val ≤ (i 0).val ∧ (i 0).val < s.val + 1 := h
  omega

/-! ## What the slots read as -/

theorem emb3 {A B C : ℕ} (o sz : Fin 3 → ℕ) (h) (j : (⟨3, sz⟩ : Shape).Idx) (k : (⟨3, ![A, B, C]⟩ : Shape).Idx)
    (h0 : o 0 + (j 0).val = (k 0).val) (h1 : o 1 + (j 1).val = (k 1).val) (h2 : o 2 + (j 2).val = (k 2).val) :
    (Rect.unit (s := ⟨3, ![A, B, C]⟩) o sz h).emb j = k := by
  funext a
  apply Fin.ext
  show o a + 1 * (j a).val = (k a).val
  rw [Nat.one_mul]
  exact match a with | 0 => h0 | 1 => h1 | 2 => h2
theorem emb2 {A B : ℕ} (o sz : Fin 2 → ℕ) (h) (j : (⟨2, sz⟩ : Shape).Idx) (k : (⟨2, ![A, B]⟩ : Shape).Idx)
    (h0 : o 0 + (j 0).val = (k 0).val) (h1 : o 1 + (j 1).val = (k 1).val) :
    (Rect.unit (s := ⟨2, ![A, B]⟩) o sz h).emb j = k := by
  funext a
  apply Fin.ext
  show o a + 1 * (j a).val = (k a).val
  rw [Nat.one_mul]
  exact match a with | 0 => h0 | 1 => h1
theorem emb4 {A B C D : ℕ} (o sz : Fin 4 → ℕ) (h) (j : (⟨4, sz⟩ : Shape).Idx) (k : (⟨4, ![A, B, C, D]⟩ : Shape).Idx)
    (h0 : o 0 + (j 0).val = (k 0).val) (h1 : o 1 + (j 1).val = (k 1).val) (h2 : o 2 + (j 2).val = (k 2).val) (h3 : o 3 + (j 3).val = (k 3).val) :
    (Rect.unit (s := ⟨4, ![A, B, C, D]⟩) o sz h).emb j = k := by
  funext a
  apply Fin.ext
  show o a + 1 * (j a).val = (k a).val
  rw [Nat.one_mul]
  exact match a with | 0 => h0 | 1 => h1 | 2 => h2 | 3 => h3

theorem resh_3 {a b : ℕ} (h : (⟨2, ![a, b]⟩ : Shape).numel = (⟨3, ![1, a, b]⟩ : Shape).numel) (x : Fin a) (y : Fin b) :
    Shape.reshapeEquiv h (ix2 x y) = ix3 0 x y :=
  Shape.reshapeEquiv_eq_of_rowMajor h (by
    rw [Shape.rowMajor_val_three, Shape.rowMajor_val_two]
    show ((0 * a + x.val) * b + y.val) = x.val * b + y.val
    rw [Nat.zero_mul, Nat.zero_add])
theorem resh_4 {a b : ℕ} (h : (⟨2, ![a, b]⟩ : Shape).numel = (⟨4, ![1, 1, a, b]⟩ : Shape).numel) (x : Fin a) (y : Fin b) :
    Shape.reshapeEquiv h (ix2 x y) = ix4 0 0 x y :=
  Shape.reshapeEquiv_eq_of_rowMajor h (by
    rw [Shape.rowMajor_val_four, Shape.rowMajor_val_two]
    show (((0 * 1 + 0) * a + x.val) * b + y.val) = x.val * b + y.val
    simp only [Nat.zero_mul, Nat.zero_add])

theorem read_sa (s : Fin 3) (f : (cc0_scratch4 : Ref sig .tc).ty.Contents (Elt F)) (a : Fin 80) (b : Fin 1024) :
    (saV s).view.read (Elt F) f (ix2 a b) = f (ix3 s a b) := by
  show f ((Rect.unit (s := S3x80x1024) ![s.val, 0, 0] S1x80x1024.size (inbS s)).emb (Shape.reshapeEquiv _ (ix2 a b))) = _
  rw [resh_3, emb3 _ _ _ _ (ix3 s a b) (Nat.add_zero _) (Nat.zero_add _) (Nat.zero_add _)]
theorem read_ra (s : Fin 3) (f : (cc0_scratch5 : Ref sig .tc).ty.Contents (Elt F)) (a : Fin 80) (b : Fin 1024) :
    (raV s).view.read (Elt F) f (ix2 a b) = f (ix3 s a b) := by
  show f ((Rect.unit (s := S3x80x1024) ![s.val, 0, 0] S1x80x1024.size (inbS s)).emb (Shape.reshapeEquiv _ (ix2 a b))) = _
  rw [resh_3, emb3 _ _ _ _ (ix3 s a b) (Nat.add_zero _) (Nat.zero_add _) (Nat.zero_add _)]
theorem read_rb (s : Fin 3) (f : (cc0_scratch7 : Ref sig .tc).ty.Contents (Elt F)) (a : Fin 64) (b : Fin 1024) :
    (rbV s).view.read (Elt F) f (ix2 a b) = f (ix3 s a b) := by
  show f ((Rect.unit (s := S3x64x1024) ![s.val, 0, 0] S1x64x1024.size (inbB s)).emb (Shape.reshapeEquiv _ (ix2 a b))) = _
  rw [resh_3, emb3 _ _ _ _ (ix3 s a b) (Nat.add_zero _) (Nat.zero_add _) (Nat.zero_add _)]
theorem emb_ag (q t : Fin 4) (a : Fin 64) (b : Fin 1024) : (agB q t).view.emb (ix2 a b) = ix4 q t a b := by
  show (Rect.unit (s := S4x4x64x1024) ![q.val, t.val, 0, 0] S1x1x64x1024.size (inbAG q t)).emb (Shape.reshapeEquiv _ (ix2 a b)) = _
  rw [resh_4, emb4 _ _ _ _ (ix4 q t a b) (Nat.add_zero _) (Nat.add_zero _) (Nat.zero_add _) (Nat.zero_add _)]

variable (I : Inp F)

/-- The slab after the two stores of a quarter. -/
theorem slab_ok (c : Dev nD) (k : Fin 3) (f : (cc0_scratch4 : Ref sig .tc).ty.Contents (Elt F)) (w1) (w2) (hw : w1 = yA I c k)
    (hw2 : ∀ l : Fin 128, w2 (ix3 0 0 l) = rA I c k (ix3 0 0 l)) :
    aOK I c k ((saV k).view.read (Elt F) ((saM.access (Rect.unit (s := S3x80x1024) ![k.val, 64, 0] S1x2x128.size (inbRR k))).write (Elt F)
      ((saM.access (Rect.unit (s := S3x80x1024) ![k.val, 0, 0] S1x64x1024.size (inbY k))).write (Elt F) f w1 Finset.univ) w2 Finset.univ)) := by
  constructor
  · intro r l
    refine (read_sa k _ _ _).trans ((store_out cc0_scratch4 _ _ _ (ix3 k ⟨r.val, by omega⟩ l : S3x80x1024.Idx) fun h => ?_).trans ?_)
    · have h := ((mem3 _ _ _ _).mp h).2.1
      have h : 64 ≤ r.val ∧ r.val < 64 + 2 := h
      omega
    · have e := store_in cc0_scratch4 (Rect.unit (s := S3x80x1024) ![k.val, 0, 0] S1x64x1024.size (inbY k)) f w1 (ix3 0 r l : S1x64x1024.Idx)
      have e' := emb3 ![k.val, 0, 0] S1x64x1024.size (inbY k) (ix3 0 r l) (ix3 k ⟨r.val, by omega⟩ l) (Nat.add_zero _) (Nat.zero_add _) (Nat.zero_add _)
      exact ((congrArg _ e'.symm).trans e).trans (congrFun hw _)
  · intro l
    have e := store_in cc0_scratch4 (Rect.unit (s := S3x80x1024) ![k.val, 64, 0] S1x2x128.size (inbRR k))
      ((saM.access (Rect.unit (s := S3x80x1024) ![k.val, 0, 0] S1x64x1024.size (inbY k))).write (Elt F) f w1 Finset.univ) w2 (ix3 0 0 ⟨l.val, by omega⟩ : S1x2x128.Idx)
    have e' := emb3 ![k.val, 64, 0] S1x2x128.size (inbRR k) (ix3 0 0 ⟨l.val, by omega⟩) (ix3 k 64 ⟨l.val, by omega⟩) (Nat.add_zero _) (Nat.add_zero _) (Nat.zero_add _)
    exact (read_sa k _ _ _).trans (((congrArg _ e'.symm).trans e).trans (hw2 _))

/-- The received slab's rows of products, loaded; -/
theorem load_raY (e : Dev nD) (k s : Fin 3) (f : (cc0_scratch5 : Ref sig .tc).ty.Contents (Elt F)) (h : aOK I e k ((raV s).view.read (Elt F) f)) :
    raM.view.readAt (Elt F) (Rect.unit (s := S3x80x1024) ![s.val, 0, 0] S1x64x1024.size (inbY s)).toLoadRect f = yA I e k :=
  funext fun (i : S1x64x1024.Idx) => by
    have h0 : i 0 = (0 : Fin 1) := Subsingleton.elim (α := Fin 1) _ _
    have e1 : (ix3 0 (i 1) (i 2) : S1x64x1024.Idx) = i := by rw [← h0]; exact (eq_ix3 i).symm
    exact (congrArg f (emb3 ![s.val, 0, 0] S1x64x1024.size (inbY s) i (ix3 s ⟨(i 1).val, Nat.lt_of_lt_of_le (i 1).isLt (by decide)⟩ (i 2))
      (by rw [h0]; exact Nat.add_zero _) (Nat.zero_add _) (Nat.zero_add _))).trans ((read_ra s f _ _).symm.trans ((h.1 (i 1) (i 2)).trans (congrArg _ e1)))
/-- its token numbers, loaded. -/
theorem load_raI (e : Dev nD) (k s : Fin 3) (f : (cc0_scratch5 : Ref sig .tc).ty.Contents (Elt F)) (h : aOK I e k ((raV s).view.read (Elt F) f)) :
    raM.view.readAt (Elt F) (Rect.unit (s := S3x80x1024) ![s.val, 64, 0] S1x1x64.size (inbI s)).toLoadRect f = cut64 (rA I e k) :=
  funext fun (i : S1x1x64.Idx) => by
    have h0 : i 0 = (0 : Fin 1) := Subsingleton.elim (α := Fin 1) _ _
    have h1 : i 1 = (0 : Fin 1) := Subsingleton.elim (α := Fin 1) _ _
    exact (congrArg f (emb3 ![s.val, 64, 0] S1x1x64.size (inbI s) i (ix3 s 64 ⟨(i 2).val, Nat.lt_of_lt_of_le (i 2).isLt (by decide)⟩)
      (by rw [h0]; exact Nat.add_zero _) (by rw [h1]; exact Nat.add_zero _) (Nat.zero_add _))).trans ((read_ra s f _ _).symm.trans (h.2 (i 2)))
/-- A received partial sum, loaded. -/
theorem load_rb (s : Fin 3) (f : (cc0_scratch7 : Ref sig .tc).ty.Contents (Elt F)) (w : FVec F S64x1024 .bf16) (h : (rbV s).view.read (Elt F) f = w) :
    rbM.view.readAt (Elt F) (Rect.unit (s := S3x64x1024) ![s.val, 0, 0] S1x64x1024.size (inbB s)).toLoadRect f = lift1 w :=
  funext fun (i : S1x64x1024.Idx) => by
    have h0 : i 0 = (0 : Fin 1) := Subsingleton.elim (α := Fin 1) _ _
    exact (congrArg f (emb3 ![s.val, 0, 0] S1x64x1024.size (inbB s) i (ix3 s (i 1) (i 2))
      (by rw [h0]; exact Nat.add_zero _) (Nat.zero_add _) (Nat.zero_add _))).trans ((read_rb s f _ _).symm.trans (congrFun h (ix2 (i 1) (i 2))))

/-- The gathered result's block as it is loaded. -/
theorem load_ag (q t : Fin 4) (f : (cc0_scratch8 : Ref sig .tc).ty.Contents (Elt F)) :
    agM.view.readAt (Elt F) (Rect.unit (s := S4x4x64x1024) ![q.val, t.val, 0, 0] S1x1x64x1024.size (inbAG q t)).toLoadRect f
      = fun y : S1x1x64x1024.Idx => f (ix4 q t (y 2) (y 3)) :=
  funext fun (i : S1x1x64x1024.Idx) => by
    have h0 : i 0 = (0 : Fin 1) := Subsingleton.elim (α := Fin 1) _ _
    have h1 : i 1 = (0 : Fin 1) := Subsingleton.elim (α := Fin 1) _ _
    exact congrArg f (emb4 ![q.val, t.val, 0, 0] S1x1x64x1024.size (inbAG q t) i (ix4 q t (i 2) (i 3))
      (by rw [h0]; exact Nat.add_zero _) (by rw [h1]; exact Nat.add_zero _) (Nat.zero_add _) (Nat.zero_add _))
/-- The block as it is stored. -/
theorem store_ag (c : Dev nD) (f : (cc0_scratch8 : Ref sig .tc).ty.Contents (Elt F)) (i : S4x4x64x1024.Idx) (hi : i ∈ (agB (qA c) (tB c)).view.set) :
    (agM.access (Rect.unit (s := S4x4x64x1024) ![(qA c).val, (tB c).val, 0, 0] S1x1x64x1024.size (inbAG _ _))).write (Elt F) f (finV I c) Finset.univ i
      = AGv I i := by
  obtain ⟨h0, h1⟩ := (mem_ag _ _ i).mp (ag_set _ _ ▸ hi)
  have h0 : i 0 = qA c := Fin.ext h0
  have h1 : i 1 = tB c := Fin.ext h1
  have e' : finV I c (ix4 0 0 (i 2) (i 3)) = AGv I i := by unfold AGv; rw [h0, h1, own_self]
  have e := store_in cc0_scratch8 (Rect.unit (s := S4x4x64x1024) ![(qA c).val, (tB c).val, 0, 0] S1x1x64x1024.size (inbAG _ _)) f (finV I c) (ix4 0 0 (i 2) (i 3) : S1x1x64x1024.Idx)
  have e2 := emb4 ![(qA c).val, (tB c).val, 0, 0] S1x1x64x1024.size (inbAG _ _) (ix4 0 0 (i 2) (i 3)) i
    ((Nat.add_zero _).trans (congrArg Fin.val h0).symm) ((Nat.add_zero _).trans (congrArg Fin.val h1).symm) (Nat.zero_add _) (Nat.zero_add _)
  exact (congrArg _ e2.symm).trans (e.trans e')

/-! ## The experts -/

/-- The first `n` experts are in place. -/
def ewOK (c : Dev nD) (n : ℕ) (f : (cc0_scratch3 : Ref sig .tc).ty.Contents (Elt F)) : Prop :=
  ∀ l : Fin 4, l.val < n → ewbM.view.readAt (Elt F) (Rect.unit (s := S4x512x1024) ![l.val, 0, 0] S1x512x1024.size (inbE l)).toLoadRect f = eV I c l

theorem ewOK_store (c : Dev nD) (l : Fin 4) (f : (cc0_scratch3 : Ref sig .tc).ty.Contents (Elt F)) (h : ewOK I c l.val f) (w) (hw : w = eV I c l) :
    ewOK I c (l.val + 1) ((ewbM.access (Rect.unit (s := S4x512x1024) ![l.val, 0, 0] S1x512x1024.size (inbE l))).write (Elt F) f w Finset.univ) := by
  intro l' hl'
  by_cases e : l' = l
  · subst e
    exact (View.read_write_univ (v := ewbM.access (Rect.unit (s := S4x512x1024) ![l'.val, 0, 0] S1x512x1024.size (inbE l'))) f w).trans hw
  · have hlt : l'.val < l.val := lt_of_le_of_ne (Nat.lt_succ_iff.mp hl') (fun h' => e (Fin.ext h'))
    rw [← h l' hlt]
    refine View.readAt_congr fun i hi => ?_
    rw [load_set] at hi
    refine store_out cc0_scratch3 _ _ _ _ fun h' => ?_
    have a1 := ((mem3 _ _ _ _).mp hi).1
    have a2 := ((mem3 _ _ _ _).mp h').1
    have a1 : l'.val ≤ (i 0).val ∧ (i 0).val < l'.val + 1 := a1
    have a2 : l.val ≤ (i 0).val ∧ (i 0).val < l.val + 1 := a2
    omega

/-! ## The result -/

/-- The blocks of 64 rows numbered in `l` are in place. -/
def outOK (c : Dev nD) (l : List ℕ) (f : (cc0_stg4_0 : Ref sig .tc).ty.Contents (Elt F)) : Prop :=
  ∀ i : S1024x1024.Idx, (i 0).val / 64 ∈ l → f i = OUT I c i

theorem outOK_own (c : Dev nD) (f : (cc0_stg4_0 : Ref sig .tc).ty.Contents (Elt F)) :
    outOK I c [4 * (qA c).val, 4 * (qA c).val + 1, 4 * (qA c).val + 2, 4 * (qA c).val + 3]
      ((outM.access (Rect.unit (s := S1024x1024) (k0_off21 c) S256x1024.size (k0_off21_inb c))).write (Elt F) f
        (k0_pay114 (agM.view.readAt (Elt F) (Rect.unit (s := S4x4x64x1024) (k0_off20 c) S1x4x64x1024.size (k0_off20_inb c)).toLoadRect (AGv I))) Finset.univ) := by
  intro i hi
  have hlt : (i 0).val < 1024 := (i 0).isLt
  have hq : (i 0).val / 256 = (qA c).val := by
    simp only [List.mem_cons, List.not_mem_nil, or_false] at hi; omega
  have e := store_in cc0_stg4_0 (Rect.unit (s := S1024x1024) (k0_off21 c) S256x1024.size (k0_off21_inb c)) f
    (k0_pay114 (agM.view.readAt (Elt F) (Rect.unit (s := S4x4x64x1024) (k0_off20 c) S1x4x64x1024.size (k0_off20_inb c)).toLoadRect (AGv I)))
    (ix2 ⟨(i 0).val % 256, Nat.mod_lt _ (by decide)⟩ (i 1) : S256x1024.Idx)
  have e2 := emb2 (k0_off21 c) S256x1024.size (k0_off21_inb c) (ix2 ⟨(i 0).val % 256, Nat.mod_lt _ (by decide)⟩ (i 1)) i
    (by rw [off21_eq]; show 256 * (qA c).val + (i 0).val % 256 = (i 0).val; omega) (by rw [off21_eq]; exact Nat.zero_add _)
  refine (congrArg _ e2.symm).trans (e.trans ?_)
  unfold OUT
  rw [if_pos hq]

theorem qR_ne (c : Dev nD) (k : Fin 3) : (qR k c).val ≠ (qA c).val := by revert c k; decide +kernel

theorem outOK_recv (c : Dev nD) (k : Fin 3) (o : Fin 4) (l : List ℕ) (f : (cc0_stg4_0 : Ref sig .tc).ty.Contents (Elt F)) (hf : outOK I c l f) (w)
    (hw : w = k0_pay126 (fun y : S1x1x64x1024.Idx => AGv I (ix4 (qR k c) (tR o c) (y 2) (y 3)))) :
    outOK I c ((4 * (qR k c).val + (tR o c).val) :: l)
      ((outM.access (Rect.unit (s := S1024x1024) (k0_off23 c (BitVec.ofNat 32 (1 + k.val)) (BitVec.ofNat 32 o.val)) S64x1024.size (k0_off23_inb c k o))).write (Elt F) f w Finset.univ) := by
  intro i hi
  have hlt : (i 0).val < 1024 := (i 0).isLt
  have hlt1 : (i 1).val < 1024 := (i 1).isLt
  have h1 := (qR k c).isLt
  have h2 := (tR o c).isLt
  by_cases hb : (i 0).val / 64 = 4 * (qR k c).val + (tR o c).val
  · have e := store_in cc0_stg4_0 (Rect.unit (s := S1024x1024) (k0_off23 c (BitVec.ofNat 32 (1 + k.val)) (BitVec.ofNat 32 o.val)) S64x1024.size (k0_off23_inb c k o)) f
      w (ix2 ⟨(i 0).val % 64, Nat.mod_lt _ (by decide)⟩ (i 1) : S64x1024.Idx)
    have e2 := emb2 (k0_off23 c (BitVec.ofNat 32 (1 + k.val)) (BitVec.ofNat 32 o.val)) S64x1024.size (k0_off23_inb c k o) (ix2 ⟨(i 0).val % 64, Nat.mod_lt _ (by decide)⟩ (i 1)) i
      (by rw [off23_eq]; show 256 * (qR k c).val + 64 * (tR o c).val + (i 0).val % 64 = (i 0).val; omega) (by rw [off23_eq]; exact Nat.zero_add _)
    refine (congrArg _ e2.symm).trans (e.trans ?_)
    have hne : ¬ (i 0).val / 256 = (qA c).val := fun h => qR_ne c k (by omega)
    have hq : qR k c = ⟨(i 0).val / 256, by omega⟩ := Fin.ext (by show (qR k c).val = (i 0).val / 256; omega)
    have ht : tR o c = ⟨(i 0).val / 64 % 4, Nat.mod_lt _ (by decide)⟩ := Fin.ext (by show (tR o c).val = (i 0).val / 64 % 4; omega)
    unfold OUT
    rw [if_neg hne, hw, hq, ht]
  · refine (store_out cc0_stg4_0 _ _ _ i fun h => ?_).trans (hf i ((List.mem_cons.mp hi).resolve_left hb))
    have h := ((mem2 _ _ _ _).mp h).1
    rw [off23_eq] at h
    have h : 256 * (qR k c).val + 64 * (tR o c).val ≤ (i 0).val ∧ (i 0).val < 256 * (qR k c).val + 64 * (tR o c).val + 64 := h
    omega

/-- The number of the block received from the device `k + 1` places back, `o` blocks on. -/
abbrev nR (c : Dev nD) (k : Fin 3) (o : Fin 4) : ℕ := 4 * (qR k c).val + (tR o c).val
/-- All blocks. -/
abbrev allBlk (c : Dev nD) : List ℕ :=
  [nR c 2 2, nR c 1 2, nR c 0 2, nR c 2 3, nR c 1 3, nR c 0 3, nR c 2 1, nR c 1 1, nR c 0 1, nR c 2 0, nR c 1 0, nR c 0 0,
    4 * (qA c).val, 4 * (qA c).val + 1, 4 * (qA c).val + 2, 4 * (qA c).val + 3]
theorem outOK_all (c : Dev nD) (f : (cc0_stg4_0 : Ref sig .tc).ty.Contents (Elt F)) (h : outOK I c (allBlk c) f) : f = OUT I c := by
  have hc : ∀ (c : Dev nD) (n : Fin 16), n.val ∈ allBlk c := by decide +kernel
  funext i
  have hlt : ((i : S1024x1024.Idx) 0).val < 1024 := (i 0).isLt
  exact h i (hc c ⟨((i : S1024x1024.Idx) 0).val / 64, by omega⟩)

end Cert.Moe

end
-- ==== Proof.Steps.lean ====
module

public import proofs.«01_k».proof.Proof.Geo

/-!
# The stretches, run

For each stretch of the body, what it needs and what it leaves.
-/

@[expose] public section

set_option maxRecDepth 16384
set_option maxHeartbeats 400000

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Running a text on device `c`. -/
abbrev WP {α : Type} (c : Dev nD) (e : PR F α) (Q : α → sProp 𝕄) : sProp 𝕄 :=
  wp frame (wpE (defs₀ (F := F)) 𝒱₀ (c : Thread nD τ) none) Set.univ e Q

/-- A buffer of device `c`, whole. -/
abbrev wh (c : Dev nD) (b : Ref sig .tc) (f : Buf (Elt F) ((c : Thread nD τ).loc b)) : sProp 𝕄 := ((c : Thread nD τ).loc b) ↦{fullShare} f

variable (I : Inp F)

/-- The four arguments as staged. -/
def inp (c : Dev nD) : sProp 𝕄 :=
  iprop(wh c cc0_stg0_0 (I.x c) ∗ wh c cc0_stg1_0 (I.rw c) ∗ wh c cc0_stg2_0 (I.idx c) ∗ wh c cc0_stg3_0 (I.ew c))
/-- The experts' buffer with the first `n` in place. -/
def ews (c : Dev nD) (n : ℕ) : sProp 𝕄 := iprop(∃ f, ⌜ewOK I c n f⌝ ∗ wh c cc0_scratch3 f)
/-- What every quarter is computed from. -/
def base (c : Dev nD) : sProp 𝕄 :=
  iprop(inp I c ∗ wh c cc0_scratch0 (G0 I c) ∗ wh c cc0_scratch1 (G1 I c) ∗ ews I c 4)

theorem hz2 : (![0, 0] : Fin 2 → Nat) = fun _ => 0 := funext fun a => by fin_cases a <;> rfl

variable {α : Type}

/-- A store within what is held of a buffer. -/
theorem wp_st {cs : CoreSpace} {s : Shape} {e : EltTy} (c : Dev nD) (m : Memref sig .tc cs s e) {r : Rect s} {w : r.shape.Idx → Elt F e} {Mk : Finset r.shape.Idx}
    {hx : (m.access r).Stores Mk} {hm : Mk = Finset.univ ∨ ∀ a, r.stride a = 1} {k : PUnit → PR F α} {S : Finset (Idx (m.view.loc (c : Thread nD τ)))}
    {f : Buf (Elt F) (m.view.loc (c : Thread nD τ))} (hS : (m.access r).setOn Mk ⊆ S) {Q : α → sProp 𝕄} :
    (m.view.loc (c : Thread nD τ) ↦[S]{fullShare} f)
      ⊢ iprop(((m.view.loc (c : Thread nD τ) ↦[S]{fullShare} ((m.access r).write (Elt F) f w Mk)) -∗ WP c (k ⟨⟩) Q) -∗ WP c (.op (.store m r w Mk hx hm) k) Q) :=
  wp_store (Val := Elt F) 𝒱₀ (c : Thread nD τ) none Set.univ (m := m) (r := r) (w := w) (Mk := Mk) (hx := hx) (hm := hm) (k := k) (S := S) (f := f) hS

/-- A store to a buffer held whole. -/
theorem wp_stW {cs : CoreSpace} {s : Shape} {e : EltTy} (c : Dev nD) (m : Memref sig .tc cs s e) {r : Rect s} {w : r.shape.Idx → Elt F e} {Mk : Finset r.shape.Idx}
    {hx : (m.access r).Stores Mk} {hm : Mk = Finset.univ ∨ ∀ a, r.stride a = 1} {k : PUnit → PR F α}
    {f : Buf (Elt F) (m.view.loc (c : Thread nD τ))} {Q : α → sProp 𝕄} :
    (m.view.loc (c : Thread nD τ) ↦{fullShare} f)
      ⊢ iprop(((m.view.loc (c : Thread nD τ) ↦{fullShare} ((m.access r).write (Elt F) f w Mk)) -∗ WP c (k ⟨⟩) Q) -∗ WP c (.op (.store m r w Mk hx hm) k) Q) :=
  wp_st c m (Finset.subset_univ _)

/-- A load from a buffer held whole. -/
theorem wp_ldW {cs : CoreSpace} {s : Shape} {e : EltTy} (c : Dev nD) (m : Memref sig .tc cs s e) {r : LoadRect s} {hl : m.view.LoadsAt r}
    {k : (r.shape.Idx → Elt F e) → PR F α} {q : PosShare TreeShare} {f : Buf (Elt F) (m.view.loc (c : Thread nD τ))} {Q : α → sProp 𝕄} :
    (m.view.loc (c : Thread nD τ) ↦{q} f)
      ⊢ iprop(((m.view.loc (c : Thread nD τ) ↦{q} f) -∗ WP c (k (m.view.readAt (Elt F) r f)) Q) -∗ WP c (.op (.load m r hl) k) Q) :=
  wp_load 𝒱₀ (c : Thread nD τ) none Set.univ (m := m) (Finset.subset_univ _)

theorem wp_prelude (c : Dev nD) (k : PUnit → PR F α) {Q : α → sProp 𝕄} :
    iprop(inp I c ∗ (∃ f, wh c cc0_scratch0 f) ∗ (∃ f, wh c cc0_scratch1 f))
      ⊢ iprop(((inp I c ∗ wh c cc0_scratch0 (G0 I c) ∗ wh c cc0_scratch1 (G1 I c)) -∗ WP c (k ⟨⟩) Q) -∗ WP c (prelude >>= k) Q) := by
  unfold prelude inp
  simp only [load, Prog.lift, Prog.bind_op, Prog.bind_ret, Prog.pure_eq_ret]
  iintro ⟨⟨Hx, Hr, Hi, He⟩, ⟨%f0, H0⟩, ⟨%f1, H1⟩⟩ Hk
  iapply (wp_ldW c xM) $$ Hx; iintro Hx
  iapply (wp_ldW c rwM) $$ Hr; iintro Hr
  iapply (wp_ldW c idxM) $$ Hi; iintro Hi
  iapply (wp_ldW c idxM) $$ Hi; iintro Hi
  iapply (wp_ldW c g0M) $$ H0; iintro H0
  iapply (wp_stW c g0M) $$ H0; iintro H0
  iapply (wp_ldW c g1M) $$ H1; iintro H1
  iapply (wp_stW c g1M) $$ H1; iintro H1
  rw [show xM.view.readAt (Elt F) (Rect.unit (s := S1024x512) ![0, 0] S1024x512.size inb_S1024x512_S1024x512_0_0).toLoadRect (I.x c) = I.x c from
      Memref.readAt_unit_zero (Elt F) cc0_stg0_0 hz2 _ _,
    show rwM.view.readAt (Elt F) (Rect.unit (s := S512x64) ![0, 0] S512x64.size inb_S512x64_S512x64_0_0).toLoadRect (I.rw c) = I.rw c from
      Memref.readAt_unit_zero (Elt F) cc0_stg1_0 hz2 _ _,
    show ∀ w, (g0M.access (Rect.unit (s := S1024x1) ![0, 0] S1024x1.size inb_S1024x1_S1024x1_0_0)).write (Elt F) f0 w Finset.univ = w from
      fun w => Memref.write_access_unit_zero_univ (Elt F) cc0_scratch0 hz2 _ _ w,
    show ∀ w, (g1M.access (Rect.unit (s := S1024x1) ![0, 0] S1024x1.size inb_S1024x1_S1024x1_0_0)).write (Elt F) f1 w Finset.univ = w from
      fun w => Memref.write_access_unit_zero_univ (Elt F) cc0_scratch1 hz2 _ _ w]
  iapply Hk
  isplitl [Hx Hr Hi He]
  · isplitl [Hx]; · iexact Hx
    isplitl [Hr]; · iexact Hr
    isplitl [Hi]; · iexact Hi
    iexact He
  isplitl [H0]; · iexact H0
  iexact H1

theorem wp_expert (c : Dev nD) (l : Fin 4) (k : PUnit → PR F α) {Q : α → sProp 𝕄} :
    iprop(inp I c ∗ ews I c l.val)
      ⊢ iprop(((inp I c ∗ ews I c (l.val + 1)) -∗ WP c (k ⟨⟩) Q) -∗ WP c (expert l >>= k) Q) := by
  unfold expert inp ews
  simp only [load, Prog.lift, Prog.bind_op, Prog.bind_ret, Prog.pure_eq_ret]
  iintro ⟨⟨Hx, Hr, Hi, He⟩, ⟨%f, %hf, H⟩⟩ Hk
  iapply (wp_ldW c ewM) $$ He; iintro He
  iapply (wp_ldW c ewbM) $$ H; iintro H
  iapply (wp_stW c ewbM) $$ H; iintro H
  iapply Hk
  isplitl [Hx Hr Hi He]
  · isplitl [Hx]; · iexact Hx
    isplitl [Hr]; · iexact Hr
    isplitl [Hi]; · iexact Hi
    iexact He
  iexists _
  isplitr; · ipureintro; exact ewOK_store I c l f hf _ rfl
  iexact H

theorem wp_quarterIn (c : Dev nD) (o1 o2 o3 o4 : Fin 2 → ℕ) (h1) (h2) (h3) (h4) (k : QIn F → PR F α) {Q : α → sProp 𝕄} :
    base I c ⊢ iprop((base I c -∗ WP c (k (qInAt I c o1 o2 o3 o4 h1 h2 h3 h4)) Q) -∗ WP c (quarterIn o1 o2 o3 o4 h1 h2 h3 h4 >>= k) Q) := by
  unfold quarterIn base inp ews
  simp only [load, Prog.lift, Prog.bind_op, Prog.bind_ret, Prog.pure_eq_ret]
  iintro ⟨⟨Hx, Hr, Hi, He⟩, H0, H1, ⟨%f, %hf, H⟩⟩ Hk
  iapply (wp_ldW c idxM) $$ Hi; iintro Hi
  iapply (wp_ldW c idxM) $$ Hi; iintro Hi
  iapply (wp_ldW c g0M) $$ H0; iintro H0
  iapply (wp_ldW c g1M) $$ H1; iintro H1
  iapply (wp_ldW c xM) $$ Hx; iintro Hx
  iapply (wp_ldW c ewbM) $$ H; iintro H
  iapply (wp_ldW c ewbM) $$ H; iintro H
  iapply (wp_ldW c ewbM) $$ H; iintro H
  iapply (wp_ldW c ewbM) $$ H; iintro H
  rw [hf 0 (by decide), hf 1 (by decide), hf 2 (by decide), hf 3 (by decide)]
  iapply Hk
  isplitl [Hx Hr Hi He]
  · isplitl [Hx]; · iexact Hx
    isplitl [Hr]; · iexact Hr
    isplitl [Hi]; · iexact Hi
    iexact He
  isplitl [H0]; · iexact H0
  isplitl [H1]; · iexact H1
  iexists f
  isplitr; · ipureintro; exact hf
  iexact H

theorem wp_quarterA (c : Dev nD) (r : Fin 3) (k : PUnit → PR F α) {Q : α → sProp 𝕄} :
    iprop(base I c ∗ anyAt (saV r) c)
      ⊢ iprop(((base I c ∗ okAt (saV r) (aOK I c r) c) -∗ WP c (k ⟨⟩) Q) -∗ WP c (quarterA c r >>= k) Q) := by
  unfold quarterA
  iintro ⟨Hb, Hs⟩ Hk
  rw [Prog.bind_assoc]
  iapply (wp_quarterIn I c _ _ _ _ _ _ _ _ _) $$ Hb; iintro Hb
  unfold anyAt okAt
  icases Hs with ⟨%f, Hs⟩
  simp only [load, storeSubelements, Prog.lift, Prog.bind_op, Prog.bind_ret, Prog.pure_eq_ret]
  have hY := slab_Y r
  have hR := slab_R r
  have hRR := slab_RR r
  rw [← sa_set] at hY hR hRR
  iapply (wp_load 𝒱₀ (c : Thread nD τ) none Set.univ (m := saM) (by rw [load_set]; exact hY)) $$ Hs; iintro Hs
  iapply (wp_st c saM (by rw [store_set]; exact hY)) $$ Hs; iintro Hs
  iapply (wp_load 𝒱₀ (c : Thread nD τ) none Set.univ (m := saM) (by rw [load_set]; exact hR)) $$ Hs; iintro Hs
  iapply (wp_load 𝒱₀ (c : Thread nD τ) none Set.univ (m := saM) (by rw [load_set]; exact hRR)) $$ Hs; iintro Hs
  iapply (wp_st c saM (by rw [store_set]; exact hRR)) $$ Hs; iintro Hs
  iapply Hk
  isplitl [Hb]; · iexact Hb
  iexists _
  isplitr
  pick_goal 2
  · iexact Hs
  ipureintro
  refine slab_ok I c r f _ _ rfl fun l => ?_
  unfold updateSlice
  rw [dif_pos (fun a => by fin_cases a <;> first | exact ⟨Nat.le_refl _, Nat.zero_lt_one⟩ | exact ⟨Nat.zero_le _, by have := l.isLt; exact this⟩)]
  show rowV (w2 c) (qInA I c r) _ = rowV (w2 c) (qInA I c r) _
  refine congrArg _ (funext fun a => Fin.ext ?_)
  fin_cases a <;> rfl

theorem wp_quarterO (c : Dev nD) (k : FVec F S64x1024 .bf16 → PR F α) {Q : α → sProp 𝕄} :
    iprop(base I c ∗ (∃ f, wh c cc0_scratch2 f))
      ⊢ iprop(((base I c ∗ wh c cc0_scratch2 (pO I c)) -∗ WP c (k (yO I c)) Q) -∗ WP c (quarterO c >>= k) Q) := by
  unfold quarterO
  iintro ⟨Hb, ⟨%f, Hp⟩⟩ Hk
  rw [Prog.bind_assoc]
  iapply (wp_quarterIn I c _ _ _ _ _ _ _ _ _) $$ Hb; iintro Hb
  simp only [load, Prog.lift, Prog.bind_op, Prog.bind_ret, Prog.pure_eq_ret]
  iapply (wp_ldW c posM) $$ Hp; iintro Hp
  iapply (wp_stW c posM) $$ Hp; iintro Hp
  rw [show ∀ w, (posM.access (Rect.unit (s := S256x1) ![0, 0] S256x1.size inb_S256x1_S256x1_0_0)).write (Elt F) f w Finset.univ = w from
      fun w => Memref.write_access_unit_zero_univ (Elt F) cc0_scratch2 hz2 _ _ w]
  iapply Hk
  isplitl [Hb]; · iexact Hb
  iexact Hp

/-- The slot `s` of the incoming slabs, arrived. -/
abbrev raOK (c : Dev nD) (s : Fin 3) : sProp 𝕄 := okAt (raV s) (aOK I (plane s c) (rev3 s)) c
/-- The slot `s` of the incoming partial sums, arrived. -/
abbrev rbOK (c : Dev nD) (s : Fin 3) : sProp 𝕄 := okAt (rbV s) (fun w => w = sB I (zline s c) (rev3 s)) c
/-- What every partial sum is computed from. -/
def base2 (c : Dev nD) : sProp 𝕄 := iprop(base I c ∗ wh c cc0_scratch2 (pO I c) ∗ raOK I c 0 ∗ raOK I c 1 ∗ raOK I c 2)

theorem wp_groupIn (c : Dev nD) (o1 o2 o3 : Fin 2 → ℕ) (h1) (h2) (h3) (k : GIn F → PR F α) {Q : α → sProp 𝕄} :
    base2 I c ⊢ iprop((base2 I c -∗ WP c (k (gInAt I c o1 o2 o3 h1 h2 h3)) Q) -∗ WP c (groupIn o1 o2 o3 h1 h2 h3 >>= k) Q) := by
  unfold groupIn base2 base inp raOK okAt
  simp only [load, Prog.lift, Prog.bind_op, Prog.bind_ret, Prog.pure_eq_ret]
  iintro ⟨⟨⟨Hx, Hr, Hi, He⟩, H0, H1, H⟩, Hp, ⟨%f0, %hf0, A0⟩, ⟨%f1, %hf1, A1⟩, ⟨%f2, %hf2, A2⟩⟩ Hk
  have hY0 := slab_Y 0
  have hI0 := slab_I 0
  have hY1 := slab_Y 1
  have hI1 := slab_I 1
  have hY2 := slab_Y 2
  have hI2 := slab_I 2
  rw [← ra_set] at hY0 hI0 hY1 hI1 hY2 hI2
  iapply (wp_ldW c idxM) $$ Hi; iintro Hi
  iapply (wp_ldW c idxM) $$ Hi; iintro Hi
  iapply (wp_ldW c posM) $$ Hp; iintro Hp
  iapply (wp_load 𝒱₀ (c : Thread nD τ) none Set.univ (m := raM) (by rw [load_set]; exact hI0)) $$ A0; iintro A0
  iapply (wp_load 𝒱₀ (c : Thread nD τ) none Set.univ (m := raM) (by rw [load_set]; exact hY0)) $$ A0; iintro A0
  iapply (wp_load 𝒱₀ (c : Thread nD τ) none Set.univ (m := raM) (by rw [load_set]; exact hI1)) $$ A1; iintro A1
  iapply (wp_load 𝒱₀ (c : Thread nD τ) none Set.univ (m := raM) (by rw [load_set]; exact hY1)) $$ A1; iintro A1
  iapply (wp_load 𝒱₀ (c : Thread nD τ) none Set.univ (m := raM) (by rw [load_set]; exact hI2)) $$ A2; iintro A2
  iapply (wp_load 𝒱₀ (c : Thread nD τ) none Set.univ (m := raM) (by rw [load_set]; exact hY2)) $$ A2; iintro A2
  rw [load_raI I _ _ 0 f0 hf0, load_raY I _ _ 0 f0 hf0, load_raI I _ _ 1 f1 hf1, load_raY I _ _ 1 f1 hf1, load_raI I _ _ 2 f2 hf2, load_raY I _ _ 2 f2 hf2]
  iapply Hk
  isplitl [Hx Hr Hi He H0 H1 H]
  · isplitl [Hx Hr Hi He]
    · isplitl [Hx]; · iexact Hx
      isplitl [Hr]; · iexact Hr
      isplitl [Hi]; · iexact Hi
      iexact He
    isplitl [H0]; · iexact H0
    isplitl [H1]; · iexact H1
    iexact H
  isplitl [Hp]; · iexact Hp
  isplitl [A0]
  · iexists f0; isplitr; · ipureintro; exact hf0
    iexact A0
  isplitl [A1]
  · iexists f1; isplitr; · ipureintro; exact hf1
    iexact A1
  iexists f2; isplitr; · ipureintro; exact hf2
  iexact A2

theorem off12_set (c : Dev nD) (r : Fin 3) : (Rect.unit (s := S256x1024) (k0_off12 c (BitVec.ofNat 32 (1 + r.val))) S64x1024.size (k0_off12_inb c r)).set
    = (qbB (tB c + r.succ)).view.set := by
  rw [qb_set]
  ext i
  refine (mem2 _ _ _ i).trans (Iff.trans ?_ (mem2 _ _ _ i).symm)
  rw [off12_eq]

theorem wp_groupB (c : Dev nD) (r : Fin 3) (k : PUnit → PR F α) {Q : α → sProp 𝕄} :
    iprop(base2 I c ∗ anyAt (qbB (tB c + r.succ)) c)
      ⊢ iprop(((base2 I c ∗ okAt (qbB (tB c + r.succ)) (fun w => w = sB I c r) c) -∗ WP c (k ⟨⟩) Q) -∗ WP c (groupB c r (yO I c) >>= k) Q) := by
  unfold groupB
  iintro ⟨Hb, Hs⟩ Hk
  rw [Prog.bind_assoc]
  iapply (wp_groupIn I c _ _ _ _ _ _ _) $$ Hb; iintro Hb
  unfold anyAt okAt
  icases Hs with ⟨%f, Hs⟩
  simp only [load, Prog.lift, Prog.bind_op, Prog.bind_ret, Prog.pure_eq_ret]
  iapply (wp_load 𝒱₀ (c : Thread nD τ) none Set.univ (m := qbM) (by rw [load_set]; exact (off12_set c r).subset)) $$ Hs; iintro Hs
  iapply (wp_st c qbM (by rw [store_set]; exact (off12_set c r).subset)) $$ Hs; iintro Hs
  iapply Hk
  isplitl [Hb]; · iexact Hb
  iexists _
  isplitr
  pick_goal 2
  · iexact Hs
  ipureintro
  have e : ∀ (o o' : Fin 2 → ℕ) (h h') (e : o = o') (w : FVec F S64x1024 .bf16), (qbV o' h').view.read (Elt F) ((qbM.access (Rect.unit (s := S256x1024) o S64x1024.size h)).write (Elt F) f w Finset.univ) = w := by
    intro o o' h h' e w
    subst e
    exact View.read_write_univ (v := qbM.access (Rect.unit (s := S256x1024) o S64x1024.size h)) f w
  exact e _ _ _ _ (off12_eq c r) _

theorem wp_groupO (c : Dev nD) (k : FVec F S64x1024 .f32 → PR F α) {Q : α → sProp 𝕄} :
    base2 I c ⊢ iprop((base2 I c -∗ WP c (k (sO I c)) Q) -∗ WP c (groupO c (yO I c) >>= k) Q) := by
  unfold groupO
  iintro Hb Hk
  rw [Prog.bind_assoc]
  iapply (wp_groupIn I c _ _ _ _ _ _ _) $$ Hb; iintro Hb
  simp only [Prog.bind_ret, Prog.pure_eq_ret]
  iapply Hk; iexact Hb

theorem rb_sub (s : Fin 3) : (Rect.unit (s := S3x64x1024) ![s.val, 0, 0] S1x64x1024.size (inbB s)).set ⊆ (rbV s).view.set := by
  rw [rb_set]

theorem wp_finish (c : Dev nD) (k : PUnit → PR F α) {Q : α → sProp 𝕄} :
    iprop((rbOK I c 0 ∗ rbOK I c 1 ∗ rbOK I c 2) ∗ anyAt (agB (qA c) (tB c)) c)
      ⊢ iprop((((rbOK I c 0 ∗ rbOK I c 1 ∗ rbOK I c 2) ∗ agAt I c (qA c) (tB c) fullShare) -∗ WP c (k ⟨⟩) Q) -∗ WP c (finish c (sO I c) >>= k) Q) := by
  unfold finish rbOK okAt anyAt agAt
  simp only [load, Prog.lift, Prog.bind_op, Prog.bind_ret, Prog.pure_eq_ret]
  iintro ⟨⟨⟨%f0, %hf0, B0⟩, ⟨%f1, %hf1, B1⟩, ⟨%f2, %hf2, B2⟩⟩, ⟨%f, H⟩⟩ Hk
  iapply (wp_load 𝒱₀ (c : Thread nD τ) none Set.univ (m := rbM) (by rw [load_set]; exact rb_sub 0)) $$ B0; iintro B0
  iapply (wp_load 𝒱₀ (c : Thread nD τ) none Set.univ (m := rbM) (by rw [load_set]; exact rb_sub 1)) $$ B1; iintro B1
  iapply (wp_load 𝒱₀ (c : Thread nD τ) none Set.univ (m := rbM) (by rw [load_set]; exact rb_sub 2)) $$ B2; iintro B2
  rw [load_rb 0 f0 _ hf0, load_rb 1 f1 _ hf1, load_rb 2 f2 _ hf2]
  rw [show k0_pay113 (k0_pay112 (sO I c) (lift1 (sB I (zline 0 c) (rev3 0)))) (lift1 (sB I (zline 1 c) (rev3 1))) (lift1 (sB I (zline 2 c) (rev3 2))) = finV I c from by unfold finV; rfl]
  have hs : ∀ (o) (h), o = ![(qA c).val, (tB c).val, 0, 0] → (Rect.unit (s := S4x4x64x1024) o S1x1x64x1024.size h).set ⊆ (agB (qA c) (tB c)).view.set := by
    intro o h e; subst e; rw [ag_set]
  iapply (wp_load 𝒱₀ (c : Thread nD τ) none Set.univ (m := agM) (by rw [load_set]; exact hs _ _ (off17_eq c))) $$ H; iintro H
  iapply (wp_st c agM (by rw [store_set]; exact hs _ _ (off17_eq c))) $$ H; iintro H
  iapply Hk
  isplitl [B0 B1 B2]
  · isplitl [B0]
    · iexists f0; isplitr; · ipureintro; exact hf0
      iexact B0
    isplitl [B1]
    · iexists f1; isplitr; · ipureintro; exact hf1
      iexact B1
    iexists f2; isplitr; · ipureintro; exact hf2
    iexact B2
  have hv : ∀ (o) (h) (e : o = ![(qA c).val, (tB c).val, 0, 0]), ∀ i ∈ (agB (qA c) (tB c)).view.set,
      (agM.access (Rect.unit (s := S4x4x64x1024) o S1x1x64x1024.size h)).write (Elt F) f (finV I c) Finset.univ i = AGv I i := by
    intro o h e i hi; subst e; exact store_ag I c f i hi
  rw [pointsTo_congr (hv _ _ (off17_eq c))]
  exact Entails.of_eq rfl

/-- The result's buffer with the blocks of `l` in place. -/
def outs (c : Dev nD) (l : List ℕ) : sProp 𝕄 := iprop(∃ f, ⌜outOK I c l f⌝ ∗ wh c cc0_stg4_0 f)

theorem wp_outOwn (c : Dev nD) (q : PosShare TreeShare) (S : Finset S4x4x64x1024.Idx) (hS : ∀ i : S4x4x64x1024.Idx, (i 0).val = (qA c).val → i ∈ S) (k : PUnit → PR F α) {Q : α → sProp 𝕄} :
    iprop((agM.view.loc (c : Thread nD τ) ↦[S]{q} (AGv I)) ∗ (∃ f, wh c cc0_stg4_0 f))
      ⊢ iprop((((agM.view.loc (c : Thread nD τ) ↦[S]{q} (AGv I)) ∗ outs I c [4 * (qA c).val, 4 * (qA c).val + 1, 4 * (qA c).val + 2, 4 * (qA c).val + 3]) -∗ WP c (k ⟨⟩) Q)
          -∗ WP c (outOwn c >>= k) Q) := by
  unfold outOwn outs
  simp only [load, Prog.lift, Prog.bind_op, Prog.bind_ret, Prog.pure_eq_ret]
  iintro ⟨H, ⟨%f, Ho⟩⟩ Hk
  have hsub : (Rect.unit (s := S4x4x64x1024) (k0_off20 c) S1x4x64x1024.size (k0_off20_inb c)).set ⊆ S := fun i hi => by
    have h := ((mem4 _ _ _ _).mp hi).1
    rw [off20_eq] at h
    have h : (qA c).val ≤ (i 0).val ∧ (i 0).val < (qA c).val + 1 := h
    exact hS i (by omega)
  iapply (wp_load 𝒱₀ (c : Thread nD τ) none Set.univ (m := agM) (by rw [load_set]; exact hsub)) $$ H; iintro H
  iapply (wp_ldW c outM) $$ Ho; iintro Ho
  iapply (wp_stW c outM) $$ Ho; iintro Ho
  iapply Hk
  isplitl [H]; · iexact H
  iexists _
  isplitr; · ipureintro; exact outOK_own I c f
  iexact Ho

theorem wp_outRecv (c : Dev nD) (kk : Fin 3) (o : Fin 4) (l : List ℕ) (k : PUnit → PR F α) {Q : α → sProp 𝕄} :
    iprop(agAt I c (qR kk c) (tR o c) fullShare ∗ outs I c l)
      ⊢ iprop(((agAt I c (qR kk c) (tR o c) fullShare ∗ outs I c (nR c kk o :: l)) -∗ WP c (k ⟨⟩) Q) -∗ WP c (outRecv c kk o >>= k) Q) := by
  unfold outRecv outs agAt
  simp only [load, Prog.lift, Prog.bind_op, Prog.bind_ret, Prog.pure_eq_ret]
  iintro ⟨H, ⟨%f, %hf, Ho⟩⟩ Hk
  have hs : ∀ (o1) (h), o1 = ![(qR kk c).val, (tR o c).val, 0, 0] → (Rect.unit (s := S4x4x64x1024) o1 S1x1x64x1024.size h).set ⊆ (agB (qR kk c) (tR o c)).view.set := by
    intro o h e; subst e; rw [ag_set]
  have hv : ∀ (o1) (h), o1 = ![(qR kk c).val, (tR o c).val, 0, 0] → agM.view.readAt (Elt F) (Rect.unit (s := S4x4x64x1024) o1 S1x1x64x1024.size h).toLoadRect (AGv I)
      = fun y : S1x1x64x1024.Idx => AGv I (ix4 (qR kk c) (tR o c) (y 2) (y 3)) := by
    intro o h e; subst e; exact load_ag _ _ _
  iapply (wp_load 𝒱₀ (c : Thread nD τ) none Set.univ (m := agM) (by rw [load_set]; exact hs _ _ (off22_eq c kk o))) $$ H; iintro H
  iapply (wp_ldW c outM) $$ Ho; iintro Ho
  iapply (wp_stW c outM) $$ Ho; iintro Ho
  iapply Hk
  isplitl [H]; · iexact H
  iexists _
  isplitr
  pick_goal 2
  · iexact Ho
  ipureintro
  exact outOK_recv I c kk o l f hf _ (congrArg _ (hv _ _ (off22_eq c kk o)))

end Cert.Moe

end
-- ==== Proof.Moves.lean ====
module

public import proofs.«01_k».proof.Proof.Steps

/-!
# The copies and the waits

The rule of each kind of copy and of a wait, over the stretches' own words.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-- What is still owed after `n` of the debts. -/
def D (n : ℕ) : List Due := allDue.drop n

/-- Three of a kind; -/
abbrev A3 (Φ : Fin 3 → sProp 𝕄) : sProp 𝕄 := iprop(Φ 0 ∗ Φ 1 ∗ Φ 2)
/-- four of a kind. -/
abbrev A4 (Φ : Fin 4 → sProp 𝕄) : sProp 𝕄 := iprop(Φ 0 ∗ Φ 1 ∗ Φ 2 ∗ Φ 3)

/-- A copy that can be sent, with its own end. -/
def go (x : Ch) (c : Dev nD) : sProp 𝕄 := iprop(ready x c ∗ idle x c)

variable {α : Type}

theorem wp_waitD (c : Dev nD) (p : Bool × Ch) (n : ℕ) (hl : ∀ d ∈ D n, lvR (some (some p)) < lvD d) {s : Shape} {ss : DmaSem sig} (hs : ss = semOf p)
    {a b : Memref sig .tc .vmem s .bf16} {h1 h2} (hN : b.view.dmaCredit = amt p.2) {k : PUnit → PR F α} {Q : α → sProp 𝕄} :
    iprop(recs I K ∗ wait p c ∗ Ow c (D n))
      ⊢ iprop(((shut p c ∗ pay I p c ∗ Ow c (D n)) -∗ WP c (k ⟨⟩) Q) -∗ WP c (waitD ss a b h1 h2 >>= k) Q) := by
  subst hs
  exact wp_wait I K c p (D n) hl hN

theorem wp_barWaitD (c : Dev nD) (n : ℕ) (hl : ∀ d ∈ D n, 1 < lvD d) {k : PUnit → PR F α} {Q : α → sProp 𝕄} :
    iprop(recs I K ∗ (atPos ER (barCell c) 0 ∅ 0 ∗ cred (tallyAt (barCell c) () 6)) ∗ Ow c (D n))
      ⊢ iprop(((semVal (barCell c) 0 ∗ (barPay c 0 ∗ barPay c 1 ∗ barPay c 2 ∗ barPay c 3 ∗ barPay c 4 ∗ barPay c 5) ∗ Ow c (D n)) -∗ WP c (k ⟨⟩) Q)
        -∗ WP c ((semWaitWord barS 6#32 : PR F PUnit) >>= k) Q) := by
  have h := wp_barWait I K c (D n) hl (Q := Q) (k := k)
  iintro ⟨H, ⟨Ha, Hc⟩, HO⟩
  iapply h
  isplitl [H]; · iexact H
  isplitl [Ha]; · iexact Ha
  isplitl [Hc]; · iexact Hc
  iexact HO

theorem wp_sigD (c n : Dev nD) (i : Fin 6) (hn : n = peer i c) (m : ℕ) (hm : D m = .bar i :: D (m + 1)) {k : PUnit → PR F α} {Q : α → sProp 𝕄} :
    iprop(recs I K ∗ dutyTok ER (barCell (peer i c)) 0 (dual i) ∗ barPay (peer i c) (dual i) ∗ Ow c (D m))
      ⊢ iprop((Ow c (D (m + 1)) -∗ WP c (k ⟨⟩) Q) -∗ WP c ((semSignalWord (n : Dev nD) barS 1#32 : PR F PUnit) >>= k) Q) := by
  rw [hm]
  exact wp_sig I K c n i hn (D (m + 1)) (Q := Q) (k := k)

theorem wp_sendA (c n : Dev nD) (k : Fin 3) (hn : n = plane k c) (m : ℕ) (hm : D m = .ch (.a k) :: D (m + 1)) {dst : Memref sig .tc .vmem S80x1024 .bf16} {ss rs : DmaSem sig}
    (hd : dst = raV (rev3 k)) (hss : ss = sndS (.a k)) (hrs : rs = rcvS (.a k)) {h1 h2} {kk : PUnit → PR F α} {Q : α → sProp 𝕄} :
    iprop(recs I K ∗ go (.a k) c ∗ okAt (saV k) (aOK I c k) c ∗ dstAt (.a k) (plane k c) c ∗ Ow c (D m))
      ⊢ iprop(((wait (false, .a k) c ∗ Ow c (D (m + 1))) -∗ WP c (kk ⟨⟩) Q) -∗ WP c (sendD n (saV k) dst ss rs h1 h2 >>= kk) Q) := by
  subst hd hss hrs
  rw [hm]
  unfold go okAt dstAt anyAt
  iintro ⟨#HR, ⟨Hr, Hi⟩, ⟨%f, %hf, Hs⟩, ⟨%fd, Hd⟩, HO⟩ Hk
  have hs : ((saV k).view.loc (c : Thread nD τ) ↦[(saV k).view.set]{fullShare} f : sProp 𝕄) ⊢ srcRes I (.a k) c := by
    unfold srcRes; dsimp only; unfold okAt; iintro H; iexists f; isplitr; · ipureintro; exact hf
    iexact H
  have hd' : ((raV (rev3 k)).view.loc (tgt (.a k) c : Thread nD τ) ↦[(raV (rev3 k)).view.set]{fullShare} (raV (rev3 k)).view.write (Elt F) fd ((saV k).view.read (Elt F) f) Finset.univ : sProp 𝕄) ⊢ rcvRes I (.a k) (tgt (.a k) c) := by
    show _ ⊢ okAt (raV (rev3 k)) (aOK I (plane (rev3 k) (plane k c)) k) (plane k c)
    rw [plane_rev]
    unfold okAt; iintro H; iexists _; isplitr
    pick_goal 2
    · iexact H
    ipureintro
    rw [View.read_write_univ (v := (raV (rev3 k)).view)]
    exact hf
  iapply (wp_copy I K c n (.a k) hn (D (m + 1)) (src := saV k) (dst := raV (rev3 k)) rfl fullShare f fd hs hd') $$ [Hr Hi Hs Hd HO]
  · isplitr; · iexact HR
    isplitl [Hr]; · iexact Hr
    isplitl [Hi]; · iexact Hi
    isplitl [Hs]; · iexact Hs
    isplitl [Hd]; · iexact Hd
    iexact HO
  · iexact Hk

theorem wp_sendB (c n : Dev nD) (k : Fin 3) (hn : n = zline k c) (m : ℕ) (hm : D m = .ch (.b k) :: D (m + 1)) {dst : Memref sig .tc .vmem S64x1024 .bf16} {ss rs : DmaSem sig}
    {o : Fin 2 → ℕ} {h} (ho : o = ![64 * (tB c + k.succ).val, 0])
    (hd : dst = rbV (rev3 k)) (hss : ss = sndS (.b k)) (hrs : rs = rcvS (.b k)) {h1 h2} {kk : PUnit → PR F α} {Q : α → sProp 𝕄} :
    iprop(recs I K ∗ go (.b k) c ∗ okAt (qbB (tB c + k.succ)) (fun w => w = sB I c k) c ∗ dstAt (.b k) (zline k c) c ∗ Ow c (D m))
      ⊢ iprop(((wait (false, .b k) c ∗ Ow c (D (m + 1))) -∗ WP c (kk ⟨⟩) Q) -∗ WP c (sendD n (qbV o h) dst ss rs h1 h2 >>= kk) Q) := by
  subst hd hss hrs ho
  rw [hm]
  unfold go okAt dstAt anyAt
  iintro ⟨#HR, ⟨Hr, Hi⟩, ⟨%f, %hf, Hs⟩, ⟨%fd, Hd⟩, HO⟩ Hk
  have hs : ((qbB (tB c + k.succ)).view.loc (c : Thread nD τ) ↦[(qbB (tB c + k.succ)).view.set]{fullShare} f : sProp 𝕄) ⊢ srcRes I (.b k) c := by
    unfold srcRes; dsimp only; unfold okAt; iintro H; iexists f; isplitr; · ipureintro; exact hf
    iexact H
  have hd' : ((rbV (rev3 k)).view.loc (tgt (.b k) c : Thread nD τ) ↦[(rbV (rev3 k)).view.set]{fullShare} (rbV (rev3 k)).view.write (Elt F) fd ((qbB (tB c + k.succ)).view.read (Elt F) f) Finset.univ : sProp 𝕄) ⊢ rcvRes I (.b k) (tgt (.b k) c) := by
    show _ ⊢ okAt (rbV (rev3 k)) (fun w => w = sB I (zline (rev3 k) (zline k c)) k) (zline k c)
    rw [zline_rev]
    unfold okAt; iintro H; iexists _; isplitr
    pick_goal 2
    · iexact H
    ipureintro
    rw [View.read_write_univ (v := (rbV (rev3 k)).view)]
    exact hf
  iapply (wp_copy I K c n (.b k) hn (D (m + 1)) (src := qbB (tB c + k.succ)) (dst := rbV (rev3 k)) rfl fullShare f fd hs hd') $$ [Hr Hi Hs Hd HO]
  · isplitr; · iexact HR
    isplitl [Hr]; · iexact Hr
    isplitl [Hi]; · iexact Hi
    isplitl [Hs]; · iexact Hs
    isplitl [Hd]; · iexact Hd
    iexact HO
  · iexact Hk

theorem ag_arrives (q t : Fin 4) (n : Dev nD) (fd : Buf (Elt F) ((agB q t).view.loc (n : Thread nD τ))) :
    ((agB q t).view.loc (n : Thread nD τ) ↦[(agB q t).view.set]{fullShare} (agB q t).view.write (Elt F) fd ((agB q t).view.read (Elt F) (AGv I)) Finset.univ : sProp 𝕄)
      ⊢ agAt I n q t fullShare := by
  unfold agAt
  rw [pointsTo_congr (g := AGv I) fun i hi => by
    rw [View.write_read_eq_piecewise (v := (agB q t).view)]
    exact Finset.piecewise_eq_of_mem _ _ _ hi]

theorem wp_sendZ (c n : Dev nD) (k : Fin 3) (hn : n = zline k c) (m : ℕ) (hm : D m = .ch (.z k) :: D (m + 1)) {ss rs : DmaSem sig}
    {o : Fin 4 → ℕ} {h} (ho : o = ![(qA c).val, (tB c).val, 0, 0]) (j : Fin 6) (hj : j.val = k.val)
    (hss : ss = sndS (.z k)) (hrs : rs = rcvS (.z k)) {h1 h2} {kk : PUnit → PR F α} {Q : α → sProp 𝕄} :
    iprop(recs I K ∗ go (.z k) c ∗ agAt I c (qA c) (tB c) (tok j) ∗ dstAt (.z k) (zline k c) c ∗ Ow c (D m))
      ⊢ iprop(((wait (false, .z k) c ∗ Ow c (D (m + 1))) -∗ WP c (kk ⟨⟩) Q) -∗ WP c (sendD n (agV o h) (agV o h) ss rs h1 h2 >>= kk) Q) := by
  subst hss hrs ho
  rw [hm]
  unfold go dstAt anyAt
  iintro ⟨#HR, ⟨Hr, Hi⟩, Hs, ⟨%fd, Hd⟩, HO⟩ Hk
  have hs : ((agB (qA c) (tB c)).view.loc (c : Thread nD τ) ↦[(agB (qA c) (tB c)).view.set]{tok j} (AGv I) : sProp 𝕄) ⊢ srcRes I (.z k) c := by
    obtain ⟨j, hj'⟩ := j
    have hj : j = _ := hj
    subst hj
    exact Entails.of_eq rfl
  have hd' : ((agB (qA c) (tB c)).view.loc (tgt (.z k) c : Thread nD τ) ↦[(agB (qA c) (tB c)).view.set]{fullShare} (agB (qA c) (tB c)).view.write (Elt F) fd ((agB (qA c) (tB c)).view.read (Elt F) (AGv I)) Finset.univ : sProp 𝕄) ⊢ rcvRes I (.z k) (tgt (.z k) c) := by
    show _ ⊢ agAt I (zline k c) (qA (zline (rev3 k) (zline k c))) (tB (zline (rev3 k) (zline k c))) fullShare
    rw [zline_rev]
    exact ag_arrives I _ _ _ fd
  iapply (wp_copy I K c n (.z k) hn (D (m + 1)) (src := agB (qA c) (tB c)) (dst := agB (qA c) (tB c)) rfl (tok j) (AGv I) fd hs hd') $$ [Hr Hi Hs Hd HO]
  · isplitr; · iexact HR
    isplitl [Hr]; · iexact Hr
    isplitl [Hi]; · iexact Hi
    isplitl [Hs]; · unfold agAt; iexact Hs
    isplitl [Hd]; · iexact Hd
    iexact HO
  · iexact Hk

theorem wp_sendP (c n : Dev nD) (k : Fin 3) (o : Fin 4) (hn : n = plane k c) (m : ℕ) (hm : D m = .ch (.p k o) :: D (m + 1)) {ss rs : DmaSem sig}
    {of : Fin 4 → ℕ} {h} (ho : of = ![(qA c).val, (tB c + o).val, 0, 0]) (j : Fin 6) (hj : j.val = 3 + k.val)
    (hss : ss = sndS (.p k o)) (hrs : rs = rcvS (.p k o)) {h1 h2} {kk : PUnit → PR F α} {Q : α → sProp 𝕄} :
    iprop(recs I K ∗ go (.p k o) c ∗ agAt I c (qA c) (tB c + o) (tok j) ∗ dstAt (.p k o) (plane k c) c ∗ Ow c (D m))
      ⊢ iprop(((wait (false, .p k o) c ∗ Ow c (D (m + 1))) -∗ WP c (kk ⟨⟩) Q) -∗ WP c (sendD n (agV of h) (agV of h) ss rs h1 h2 >>= kk) Q) := by
  subst hss hrs ho
  rw [hm]
  unfold go dstAt anyAt
  iintro ⟨#HR, ⟨Hr, Hi⟩, Hs, ⟨%fd, Hd⟩, HO⟩ Hk
  have hs : ((agB (qA c) (tB c + o)).view.loc (c : Thread nD τ) ↦[(agB (qA c) (tB c + o)).view.set]{tok j} (AGv I) : sProp 𝕄) ⊢ srcRes I (.p k o) c := by
    obtain ⟨j, hj'⟩ := j
    have hj : j = _ := hj
    subst hj
    exact Entails.of_eq rfl
  have hd' : ((agB (qA c) (tB c + o)).view.loc (tgt (.p k o) c : Thread nD τ) ↦[(agB (qA c) (tB c + o)).view.set]{fullShare} (agB (qA c) (tB c + o)).view.write (Elt F) fd ((agB (qA c) (tB c + o)).view.read (Elt F) (AGv I)) Finset.univ : sProp 𝕄) ⊢ rcvRes I (.p k o) (tgt (.p k o) c) := by
    show _ ⊢ agAt I (plane k c) (qA (plane (rev3 k) (plane k c))) (tB (plane (rev3 k) (plane k c)) + o) fullShare
    rw [plane_rev]
    exact ag_arrives I _ _ _ fd
  iapply (wp_copy I K c n (.p k o) hn (D (m + 1)) (src := agB (qA c) (tB c + o)) (dst := agB (qA c) (tB c + o)) rfl (tok j) (AGv I) fd hs hd') $$ [Hr Hi Hs Hd HO]
  · isplitr; · iexact HR
    isplitl [Hr]; · iexact Hr
    isplitl [Hi]; · iexact Hi
    isplitl [Hs]; · unfold agAt; iexact Hs
    isplitl [Hd]; · iexact Hd
    iexact HO
  · iexact Hk

theorem give_plane (c : Dev nD) (i : Fin 6) (k : Fin 3) (hi : i.val = k.val) :
    iprop(anyAt (raV k) c ∗ A4 (fun o => anyAt (agB (qA c + k.succ) (tB c + o)) c)) ⊢ barPay (F := F) (peer i c) (dual i) := by
  have hd : (dual i).val < 3 := by revert i k; decide
  have hk : rev3 ⟨(dual i).val, hd⟩ = k := by revert i k; decide
  have hp : peer i c = plane k c := by
    have : ∀ (i : Fin 6) (k : Fin 3), i.val = k.val → ∀ c, peer i c = plane k c := by decide +kernel
    exact this i k hi c
  unfold barPay
  rw [dif_pos hd, peer_dual]
  unfold dstAt
  dsimp only
  rw [hk, hp, qA_plane, tB_plane]

theorem give_line (c : Dev nD) (i : Fin 6) (k : Fin 3) (hi : i.val = 3 + k.val) :
    iprop(anyAt (rbV k) c ∗ anyAt (agB (qA c) (tB c + k.succ)) c) ⊢ barPay (F := F) (peer i c) (dual i) := by
  have hd : ¬(dual i).val < 3 := by revert i k; decide
  have hk : rev3 ⟨(dual i).val - 3, by omega⟩ = k := by
    have : ∀ (i : Fin 6) (k : Fin 3), i.val = 3 + k.val → ∀ h, rev3 ⟨(dual i).val - 3, h⟩ = k := by decide
    exact this i k hi _
  have hp : peer i c = zline k c := by
    have : ∀ (i : Fin 6) (k : Fin 3), i.val = 3 + k.val → ∀ c, peer i c = zline k c := by decide +kernel
    exact this i k hi c
  unfold barPay
  rw [dif_neg hd, peer_dual]
  unfold dstAt
  dsimp only
  rw [hk, hp, qA_zline, tB_zline]

theorem bar_plane (c : Dev nD) (i : Fin 6) (k : Fin 3) (hi : i.val = k.val) :
    barPay (F := F) c i ⊢ iprop(dstAt (.a k) (plane k c) c ∗ A4 (fun o => dstAt (.p k o) (plane k c) c)) := by
  have hd : i.val < 3 := by omega
  have hk : (⟨i.val, hd⟩ : Fin 3) = k := Fin.ext hi
  have hp : peer i c = plane k c := by
    have : ∀ (i : Fin 6) (k : Fin 3), i.val = k.val → ∀ c, peer i c = plane k c := by decide +kernel
    exact this i k hi c
  unfold barPay
  rw [dif_pos hd, hk, hp]

theorem bar_line (c : Dev nD) (i : Fin 6) (k : Fin 3) (hi : i.val = 3 + k.val) :
    barPay (F := F) c i ⊢ iprop(dstAt (.b k) (zline k c) c ∗ dstAt (.z k) (zline k c) c) := by
  have hd : ¬i.val < 3 := by omega
  have hk : (⟨i.val - 3, by omega⟩ : Fin 3) = k := Fin.ext (by show i.val - 3 = k.val; omega)
  have hp : peer i c = zline k c := by
    have : ∀ (i : Fin 6) (k : Fin 3), i.val = 3 + k.val → ∀ c, peer i c = zline k c := by decide +kernel
    exact this i k hi c
  unfold barPay
  rw [dif_neg hd, hk, hp]

/-! ## A block read by several copies at once -/

/-- What is kept of a block while its copies read it. -/
abbrev held : PosShare TreeShare := Transfers.shareDrop fullShare 6

theorem sep_re (H H0 H1 H2 H3 H4 H5 : sProp 𝕄) :
    iprop(H ∗ H0 ∗ H1 ∗ H2 ∗ H3 ∗ H4 ∗ H5) = iprop(H ∗ (H0 ∗ H1 ∗ H2) ∗ (H3 ∗ H4 ∗ H5)) := by
  have l : iprop(H ∗ H0 ∗ H1 ∗ H2 ∗ H3 ∗ H4 ∗ H5) ⊢ iprop(H ∗ (H0 ∗ H1 ∗ H2) ∗ (H3 ∗ H4 ∗ H5)) := by
    iintro ⟨H, H0, H1, H2, H3, H4, H5⟩
    isplitl [H]; · iexact H
    isplitl [H0 H1 H2]
    · isplitl [H0]; · iexact H0
      isplitl [H1]; · iexact H1
      iexact H2
    isplitl [H3]; · iexact H3
    isplitl [H4]; · iexact H4
    iexact H5
  have r : iprop(H ∗ (H0 ∗ H1 ∗ H2) ∗ (H3 ∗ H4 ∗ H5)) ⊢ iprop(H ∗ H0 ∗ H1 ∗ H2 ∗ H3 ∗ H4 ∗ H5) := by
    iintro ⟨H, ⟨H0, H1, H2⟩, H3, H4, H5⟩
    isplitl [H]; · iexact H
    isplitl [H0]; · iexact H0
    isplitl [H1]; · iexact H1
    isplitl [H2]; · iexact H2
    isplitl [H3]; · iexact H3
    isplitl [H4]; · iexact H4
    iexact H5
  exact Idealize.SL.BI.Entails.antisymm l r

theorem ag_tokens (c : Dev nD) (q t : Fin 4) :
    agAt I c q t fullShare = iprop(agAt I c q t held ∗ A3 (fun k => agAt I c q t (tok ⟨k.val, by omega⟩)) ∗ A3 (fun k => agAt I c q t (tok ⟨3 + k.val, by omega⟩))) := by
  have h : agAt I c q t fullShare = iprop(agAt I c q t held ∗ bigSep Finset.univ (fun i : Fin 6 => agAt I c q t (tok i))) :=
    let e := Transfers.pointsTo_toks (ℓ := (agB q t).view.loc (c : Thread nD τ)) (S := (agB q t).view.set) (f := AGv I) fullShare 6
    Idealize.SL.BI.Entails.antisymm e.1 e.2
  rw [h, bigSep_univ_eq_bigSepL [0, 1, 2, 3, 4, 5] (by decide) (by decide)]
  simp only [bigSepL_cons_cons, bigSepL_singleton]
  exact sep_re (agAt I c q t held) (agAt I c q t (tok 0)) (agAt I c q t (tok 1)) (agAt I c q t (tok 2)) (agAt I c q t (tok 3)) (agAt I c q t (tok 4)) (agAt I c q t (tok 5))

end Cert.Moe

end
-- ==== Proof.Phases.lean ====
module

public import proofs.«01_k».proof.Proof.Moves

/-!
# The body's phases

Each phase of the body: what it needs of the device's state and what it leaves.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

variable {α : Type}

theorem add0 (t : Fin 4) : t + 0 = t := by revert t; decide
theorem sa_credit (k j : Fin 3) : (saV k).view.dmaCredit = amt (.a j) := rfl
theorem ra_credit (k j : Fin 3) : (raV k).view.dmaCredit = amt (.a j) := rfl
theorem rb_credit (k j : Fin 3) : (rbV k).view.dmaCredit = amt (.b j) := rfl
theorem qb_credit (o : Fin 2 → ℕ) (h) (j : Fin 3) : (qbV o h).view.dmaCredit = amt (.b j) := rfl
theorem ag_creditz (o : Fin 4 → ℕ) (h) (k : Fin 3) : (agV o h).view.dmaCredit = amt (.z k) := rfl
theorem ag_creditp (o : Fin 4 → ℕ) (h) (k : Fin 3) (j : Fin 4) : (agV o h).view.dmaCredit = amt (.p k j) := rfl
theorem z_arrived (c : Dev nD) (r j : Fin 3) (hj : j = rev3 r) (o : Fin 4) (ho : o = r.succ) : pay I (true, .z j) c = agAt I c (qA c) (tB c + o) fullShare := by
  subst ho hj
  show agAt I c (qA (zline (rev3 (rev3 r)) c)) (tB (zline (rev3 (rev3 r)) c)) fullShare = _
  rw [rev_rev, qA_zline, tB_zline]
theorem p_arrived (c : Dev nD) (k : Fin 3) (o : Fin 4) : pay I (true, .p k o) c = agAt I c (qR k c) (tR o c) fullShare := by
  show agAt I c (qA (plane (rev3 k) c)) (tB (plane (rev3 k) c) + o) fullShare = _
  rw [tB_plane]

theorem a_arrived (c : Dev nD) (s k : Fin 3) (hk : k = rev3 s) : pay I (true, .a k) c = raOK I c s := by
  subst hk
  show okAt (raV (rev3 (rev3 s))) (aOK I (plane (rev3 (rev3 s)) c) (rev3 s)) c = _
  rw [rev_rev]
theorem b_arrived (c : Dev nD) (s k : Fin 3) (hk : k = rev3 s) : pay I (true, .b k) c = rbOK I c s := by
  subst hk
  show okAt (rbV (rev3 (rev3 s))) (fun w => w = sB I (zline (rev3 (rev3 s)) c) (rev3 s)) c = _
  rw [rev_rev]
theorem a_back (c : Dev nD) (k : Fin 3) : pay I (false, .a k) c = okAt (saV k) (aOK I c k) c := rfl
theorem b_back (c : Dev nD) (k : Fin 3) : pay I (false, .b k) c = okAt (qbB (tB c + k.succ)) (fun w => w = sB I c k) c := rfl
theorem z_back (c : Dev nD) (k : Fin 3) : pay I (false, .z k) c = agAt I c (qA c) (tB c) (tok ⟨k.val, by omega⟩) := rfl
theorem p_back (c : Dev nD) (k : Fin 3) (o : Fin 4) : pay I (false, .p k o) c = agAt I c (qA c) (tB c + o) (tok ⟨3 + k.val, by omega⟩) := rfl

theorem ph_signal (c : Dev nD) (k : PR F α) {Q : α → sProp 𝕄} :
    iprop(recs I K ∗ (dutyTok ER (barCell (peer 0 c)) 0 (dual 0) ∗ dutyTok ER (barCell (peer 1 c)) 0 (dual 1) ∗ dutyTok ER (barCell (peer 2 c)) 0 (dual 2)
        ∗ dutyTok ER (barCell (peer 3 c)) 0 (dual 3) ∗ dutyTok ER (barCell (peer 4 c)) 0 (dual 4) ∗ dutyTok ER (barCell (peer 5 c)) 0 (dual 5))
      ∗ A3 (fun k => iprop(anyAt (raV k) c ∗ A4 (fun o => anyAt (agB (qA c + k.succ) (tB c + o)) c)))
      ∗ A3 (fun k => iprop(anyAt (rbV k) c ∗ anyAt (agB (qA c) (tB c + k.succ)) c)) ∗ Ow c (D 0))
      ⊢ iprop((Ow c (D 6) -∗ WP c k Q) -∗ WP c (semSignalWord (⟨k0_dev1 c, k0_dev1_lt c⟩ : Dev nD) barS 1#32 >>= fun _ => semSignalWord (⟨k0_dev2 c, k0_dev2_lt c⟩ : Dev nD) barS 1#32 >>= fun _ => semSignalWord (⟨k0_dev3 c, k0_dev3_lt c⟩ : Dev nD) barS 1#32 >>= fun _ => semSignalWord (⟨k0_dev4 c, k0_dev4_lt c⟩ : Dev nD) barS 1#32 >>= fun _ => semSignalWord (⟨k0_dev5 c, k0_dev5_lt c⟩ : Dev nD) barS 1#32 >>= fun _ => semSignalWord (⟨k0_dev6 c, k0_dev6_lt c⟩ : Dev nD) barS 1#32 >>= fun _ => k) Q) := by
  obtain ⟨d1, d2, d3, d4, d5, d6⟩ := devP_eq c
  iintro ⟨#HR, ⟨T0, T1, T2, T3, T4, T5⟩, ⟨B0, B1, B2⟩, ⟨B3, B4, B5⟩, HO⟩ Hk
  ihave P0 := (give_plane (F := F) c 0 0 rfl) $$ B0
  ihave P1 := (give_plane (F := F) c 1 1 rfl) $$ B1
  ihave P2 := (give_plane (F := F) c 2 2 rfl) $$ B2
  ihave P3 := (give_line (F := F) c 3 0 rfl) $$ B3
  ihave P4 := (give_line (F := F) c 4 1 rfl) $$ B4
  ihave P5 := (give_line (F := F) c 5 2 rfl) $$ B5
  iapply (wp_sigD I K c _ 0 d1 0 rfl) $$ [T0 P0 HO]
  · isplitr; · iexact HR
    isplitl [T0]; · iexact T0
    isplitl [P0]; · iexact P0
    iexact HO
  iintro HO
  iapply (wp_sigD I K c _ 1 d2 1 rfl) $$ [T1 P1 HO]
  · isplitr; · iexact HR
    isplitl [T1]; · iexact T1
    isplitl [P1]; · iexact P1
    iexact HO
  iintro HO
  iapply (wp_sigD I K c _ 2 d3 2 rfl) $$ [T2 P2 HO]
  · isplitr; · iexact HR
    isplitl [T2]; · iexact T2
    isplitl [P2]; · iexact P2
    iexact HO
  iintro HO
  iapply (wp_sigD I K c _ 3 d4 3 rfl) $$ [T3 P3 HO]
  · isplitr; · iexact HR
    isplitl [T3]; · iexact T3
    isplitl [P3]; · iexact P3
    iexact HO
  iintro HO
  iapply (wp_sigD I K c _ 4 d5 4 rfl) $$ [T4 P4 HO]
  · isplitr; · iexact HR
    isplitl [T4]; · iexact T4
    isplitl [P4]; · iexact P4
    iexact HO
  iintro HO
  iapply (wp_sigD I K c _ 5 d6 5 rfl) $$ [T5 P5 HO]
  · isplitr; · iexact HR
    isplitl [T5]; · iexact T5
    isplitl [P5]; · iexact P5
    iexact HO
  iintro HO
  iapply Hk; iexact HO

theorem ph_prelude (c : Dev nD) (k : PR F α) {Q : α → sProp 𝕄} :
    iprop(inp I c ∗ (∃ f, wh c cc0_scratch0 f) ∗ (∃ f, wh c cc0_scratch1 f) ∗ (∃ f, wh c cc0_scratch3 f))
      ⊢ iprop((base I c -∗ WP c k Q) -∗ WP c (prelude >>= fun _ => expert 0 >>= fun _ => expert 1 >>= fun _ => expert 2 >>= fun _ => expert 3 >>= fun _ => k) Q) := by
  iintro ⟨Hi, H0, H1, ⟨%f, H3⟩⟩ Hk
  iapply (wp_prelude I c _) $$ [Hi H0 H1]
  · isplitl [Hi]; · iexact Hi
    isplitl [H0]; · iexact H0
    iexact H1
  iintro ⟨Hi, H0, H1⟩
  ihave He : ews I c (0 : Fin 4).val $$ [H3]
  · unfold ews; iexists f; isplitr; · ipureintro; intro l hl; exact absurd hl (Nat.not_lt_zero _)
    iexact H3
  iapply (wp_expert I c 0 _) $$ [Hi He]
  · isplitl [Hi]; · iexact Hi
    iexact He
  iintro ⟨Hi, He⟩
  iapply (wp_expert I c 1 _) $$ [Hi He]
  · isplitl [Hi]; · iexact Hi
    iexact He
  iintro ⟨Hi, He⟩
  iapply (wp_expert I c 2 _) $$ [Hi He]
  · isplitl [Hi]; · iexact Hi
    iexact He
  iintro ⟨Hi, He⟩
  iapply (wp_expert I c 3 _) $$ [Hi He]
  · isplitl [Hi]; · iexact Hi
    iexact He
  iintro ⟨Hi, He⟩
  iapply Hk; unfold base
  isplitl [Hi]; · iexact Hi
  isplitl [H0]; · iexact H0
  isplitl [H1]; · iexact H1
  iexact He

theorem ph_slabs (c : Dev nD) (k : PR F α) {Q : α → sProp 𝕄} :
    iprop(recs I K ∗ base I c ∗ A3 (fun k => anyAt (saV k) c) ∗ A3 (fun k => go (.a k) c) ∗ (atPos ER (barCell c) 0 ∅ 0 ∗ cred (tallyAt (barCell c) () 6)) ∗ Ow c (D 6))
      ⊢ iprop(((base I c ∗ A3 (fun k => wait (false, .a k) c) ∗ semVal (barCell c) 0 ∗ A3 (fun k => iprop(dstAt (.b k) (zline k c) c ∗ dstAt (.z k) (zline k c) c))
            ∗ A3 (fun k => A4 (fun o => dstAt (.p k o) (plane k c) c)) ∗ Ow c (D 9)) -∗ WP c k Q)
        -∗ WP c (quarterA c 1 >>= fun _ => semWaitWord barS 6#32 >>= fun _ => sendD (⟨k0_dev7 c, k0_dev7_lt c⟩ : Dev nD) (saV 1) (raV 1) (saS 1) (raS 1) (saV_words 1) (raV_words 1) >>= fun _ => quarterA c 0 >>= fun _ => sendD (⟨k0_dev8 c, k0_dev8_lt c⟩ : Dev nD) (saV 0) (raV 2) (saS 0) (raS 2) (saV_words 0) (raV_words 2) >>= fun _ => quarterA c 2 >>= fun _ => sendD (⟨k0_dev9 c, k0_dev9_lt c⟩ : Dev nD) (saV 2) (raV 0) (saS 2) (raS 0) (saV_words 2) (raV_words 0) >>= fun _ => k) Q) := by
  obtain ⟨d7, d8, d9, -⟩ := devA_eq c
  iintro ⟨#HR, Hb, ⟨S0, S1, S2⟩, ⟨G0, G1, G2⟩, Hbar, HO⟩ Hk
  iapply (wp_quarterA I c 1 _) $$ [Hb S1]
  · isplitl [Hb]; · iexact Hb
    iexact S1
  iintro ⟨Hb, S1⟩
  iapply (wp_barWaitD I K c 6 (by decide +kernel)) $$ [Hbar HO]
  · isplitr; · iexact HR
    isplitl [Hbar]; · iexact Hbar
    iexact HO
  iintro ⟨Hbar, ⟨P0, P1, P2, P3, P4, P5⟩, HO⟩
  ihave P0 := (bar_plane (F := F) c 0 0 rfl) $$ P0
  ihave P1 := (bar_plane (F := F) c 1 1 rfl) $$ P1
  ihave P2 := (bar_plane (F := F) c 2 2 rfl) $$ P2
  ihave P3 := (bar_line (F := F) c 3 0 rfl) $$ P3
  ihave P4 := (bar_line (F := F) c 4 1 rfl) $$ P4
  ihave P5 := (bar_line (F := F) c 5 2 rfl) $$ P5
  icases P0 with ⟨E0, P0⟩
  icases P1 with ⟨E1, P1⟩
  icases P2 with ⟨E2, P2⟩
  iapply (wp_sendA I K c _ 1 d7 6 rfl rfl rfl rfl) $$ [G1 S1 E1 HO]
  · isplitr; · iexact HR
    isplitl [G1]; · iexact G1
    isplitl [S1]; · iexact S1
    isplitl [E1]; · iexact E1
    iexact HO
  iintro ⟨W1, HO⟩
  iapply (wp_quarterA I c 0 _) $$ [Hb S0]
  · isplitl [Hb]; · iexact Hb
    iexact S0
  iintro ⟨Hb, S0⟩
  iapply (wp_sendA I K c _ 0 d8 7 rfl rfl rfl rfl) $$ [G0 S0 E0 HO]
  · isplitr; · iexact HR
    isplitl [G0]; · iexact G0
    isplitl [S0]; · iexact S0
    isplitl [E0]; · iexact E0
    iexact HO
  iintro ⟨W0, HO⟩
  iapply (wp_quarterA I c 2 _) $$ [Hb S2]
  · isplitl [Hb]; · iexact Hb
    iexact S2
  iintro ⟨Hb, S2⟩
  iapply (wp_sendA I K c _ 2 d9 8 rfl rfl rfl rfl) $$ [G2 S2 E2 HO]
  · isplitr; · iexact HR
    isplitl [G2]; · iexact G2
    isplitl [S2]; · iexact S2
    isplitl [E2]; · iexact E2
    iexact HO
  iintro ⟨W2, HO⟩
  iapply Hk
  isplitl [Hb]; · iexact Hb
  isplitl [W0 W1 W2]
  · isplitl [W0]; · iexact W0
    isplitl [W1]; · iexact W1
    iexact W2
  isplitl [Hbar]; · iexact Hbar
  isplitl [P3 P4 P5]
  · isplitl [P3]; · iexact P3
    isplitl [P4]; · iexact P4
    iexact P5
  isplitl [P0 P1 P2]
  · isplitl [P0]; · iexact P0
    isplitl [P1]; · iexact P1
    iexact P2
  iexact HO

theorem ph_slabsIn (c : Dev nD) (k : FVec F S64x1024 .bf16 → PR F α) {Q : α → sProp 𝕄} :
    iprop(recs I K ∗ base I c ∗ (∃ f, wh c cc0_scratch2 f) ∗ A3 (fun k => wait (false, .a k) c) ∗ A3 (fun k => wait (true, .a k) c) ∗ Ow c (D 9))
      ⊢ iprop(((base2 I c ∗ A3 (fun k => okAt (saV k) (aOK I c k) c) ∗ A3 (fun k => shut (false, .a k) c) ∗ A3 (fun k => shut (true, .a k) c) ∗ Ow c (D 9)) -∗ WP c (k (yO I c)) Q)
        -∗ WP c (quarterO c >>= fun y => waitD (saS 1) (raV 1) (saV 1) (raV_words 1) (saV_words 1) >>= fun _ => waitD (raS 1) (saV 1) (raV 1) (saV_words 1) (raV_words 1) >>= fun _ => waitD (saS 0) (raV 2) (saV 0) (raV_words 2) (saV_words 0) >>= fun _ => waitD (raS 2) (saV 0) (raV 2) (saV_words 0) (raV_words 2) >>= fun _ => waitD (saS 2) (raV 0) (saV 2) (raV_words 0) (saV_words 2) >>= fun _ => waitD (raS 0) (saV 2) (raV 0) (saV_words 2) (raV_words 0) >>= fun _ => k y) Q) := by
  iintro ⟨#HR, Hb, Hp, ⟨W0, W1, W2⟩, ⟨V0, V1, V2⟩, HO⟩ Hk
  iapply (wp_quarterO I c _) $$ [Hb Hp]
  · isplitl [Hb]; · iexact Hb
    iexact Hp
  iintro ⟨Hb, Hp⟩
  iapply (wp_waitD I K c (false, .a 1) 9 (by decide +kernel) rfl (sa_credit _ _)) $$ [W1 HO]
  · isplitr; · iexact HR
    isplitl [W1]; · iexact W1
    iexact HO
  iintro ⟨W1, S1, HO⟩
  ihave S1 := (Entails.of_eq (a_back I c 1)) $$ S1
  iapply (wp_waitD I K c (true, .a 1) 9 (by decide +kernel) rfl (ra_credit _ _)) $$ [V1 HO]
  · isplitr; · iexact HR
    isplitl [V1]; · iexact V1
    iexact HO
  iintro ⟨V1, R1, HO⟩
  ihave R1 := (Entails.of_eq (a_arrived I c 1 1 rfl)) $$ R1
  iapply (wp_waitD I K c (false, .a 0) 9 (by decide +kernel) rfl (sa_credit _ _)) $$ [W0 HO]
  · isplitr; · iexact HR
    isplitl [W0]; · iexact W0
    iexact HO
  iintro ⟨W0, S0, HO⟩
  ihave S0 := (Entails.of_eq (a_back I c 0)) $$ S0
  iapply (wp_waitD I K c (true, .a 0) 9 (by decide +kernel) rfl (ra_credit _ _)) $$ [V0 HO]
  · isplitr; · iexact HR
    isplitl [V0]; · iexact V0
    iexact HO
  iintro ⟨V0, R0, HO⟩
  ihave R0 := (Entails.of_eq (a_arrived I c 2 0 rfl)) $$ R0
  iapply (wp_waitD I K c (false, .a 2) 9 (by decide +kernel) rfl (sa_credit _ _)) $$ [W2 HO]
  · isplitr; · iexact HR
    isplitl [W2]; · iexact W2
    iexact HO
  iintro ⟨W2, S2, HO⟩
  ihave S2 := (Entails.of_eq (a_back I c 2)) $$ S2
  iapply (wp_waitD I K c (true, .a 2) 9 (by decide +kernel) rfl (ra_credit _ _)) $$ [V2 HO]
  · isplitr; · iexact HR
    isplitl [V2]; · iexact V2
    iexact HO
  iintro ⟨V2, R2, HO⟩
  ihave R2 := (Entails.of_eq (a_arrived I c 0 2 rfl)) $$ R2
  iapply Hk; unfold base2
  isplitl [Hb Hp R2 R1 R0]
  · isplitl [Hb]; · iexact Hb
    isplitl [Hp]; · iexact Hp
    isplitl [R2]; · iexact R2
    isplitl [R1]; · iexact R1
    iexact R0
  isplitl [S0 S1 S2]
  · isplitl [S0]; · iexact S0
    isplitl [S1]; · iexact S1
    iexact S2
  isplitl [W0 W1 W2]
  · isplitl [W0]; · iexact W0
    isplitl [W1]; · iexact W1
    iexact W2
  isplitl [V0 V1 V2]
  · isplitl [V0]; · iexact V0
    isplitl [V1]; · iexact V1
    iexact V2
  iexact HO

theorem ph_sums (c : Dev nD) (k : PR F α) {Q : α → sProp 𝕄} :
    iprop(recs I K ∗ base2 I c ∗ A3 (fun k => anyAt (qbB (tB c + k.succ)) c) ∗ A3 (fun k => go (.b k) c) ∗ A3 (fun k => dstAt (.b k) (zline k c) c) ∗ Ow c (D 9))
      ⊢ iprop(((base2 I c ∗ A3 (fun k => wait (false, .b k) c) ∗ Ow c (D 12)) -∗ WP c k Q)
        -∗ WP c (groupB c 1 (yO I c) >>= fun _ => sendD (⟨k0_dev10 c, k0_dev10_lt c⟩ : Dev nD) (qbV (k0_off13 c (BitVec.ofNat 32 (1 + (1 : Fin 3).val))) (k0_off13_inb c 1)) (rbV 1) (saS 4) (raS 4) (qbV_words c 1) (rbV_words 1) >>= fun _ => groupB c 0 (yO I c) >>= fun _ => sendD (⟨k0_dev11 c, k0_dev11_lt c⟩ : Dev nD) (qbV (k0_off13 c (BitVec.ofNat 32 (1 + (0 : Fin 3).val))) (k0_off13_inb c 0)) (rbV 2) (saS 3) (raS 5) (qbV_words c 0) (rbV_words 2) >>= fun _ => groupB c 2 (yO I c) >>= fun _ => sendD (⟨k0_dev12 c, k0_dev12_lt c⟩ : Dev nD) (qbV (k0_off13 c (BitVec.ofNat 32 (1 + (2 : Fin 3).val))) (k0_off13_inb c 2)) (rbV 0) (saS 5) (raS 3) (qbV_words c 2) (rbV_words 0) >>= fun _ => k) Q) := by
  obtain ⟨-, -, -, d1, d0, d2, -⟩ := devA_eq c
  iintro ⟨#HR, Hb, ⟨S0, S1, S2⟩, ⟨G0, G1, G2⟩, ⟨E0, E1, E2⟩, HO⟩ Hk
  iapply (wp_groupB I c 1 _) $$ [Hb S1]
  · isplitl [Hb]; · iexact Hb
    iexact S1
  iintro ⟨Hb, S1⟩
  iapply (wp_sendB I K c _ 1 d1 9 rfl (off13_eq c 1) rfl rfl rfl) $$ [G1 S1 E1 HO]
  · isplitr; · iexact HR
    isplitl [G1]; · iexact G1
    isplitl [S1]; · iexact S1
    isplitl [E1]; · iexact E1
    iexact HO
  iintro ⟨W1, HO⟩
  iapply (wp_groupB I c 0 _) $$ [Hb S0]
  · isplitl [Hb]; · iexact Hb
    iexact S0
  iintro ⟨Hb, S0⟩
  iapply (wp_sendB I K c _ 0 d0 10 rfl (off13_eq c 0) rfl rfl rfl) $$ [G0 S0 E0 HO]
  · isplitr; · iexact HR
    isplitl [G0]; · iexact G0
    isplitl [S0]; · iexact S0
    isplitl [E0]; · iexact E0
    iexact HO
  iintro ⟨W0, HO⟩
  iapply (wp_groupB I c 2 _) $$ [Hb S2]
  · isplitl [Hb]; · iexact Hb
    iexact S2
  iintro ⟨Hb, S2⟩
  iapply (wp_sendB I K c _ 2 d2 11 rfl (off13_eq c 2) rfl rfl rfl) $$ [G2 S2 E2 HO]
  · isplitr; · iexact HR
    isplitl [G2]; · iexact G2
    isplitl [S2]; · iexact S2
    isplitl [E2]; · iexact E2
    iexact HO
  iintro ⟨W2, HO⟩
  iapply Hk
  isplitl [Hb]; · iexact Hb
  isplitl [W0 W1 W2]
  · isplitl [W0]; · iexact W0
    isplitl [W1]; · iexact W1
    iexact W2
  iexact HO

theorem ph_sumsIn (c : Dev nD) (k : FVec F S64x1024 .f32 → PR F α) {Q : α → sProp 𝕄} :
    iprop(recs I K ∗ base2 I c ∗ A3 (fun k => wait (false, .b k) c) ∗ A3 (fun k => wait (true, .b k) c) ∗ Ow c (D 12))
      ⊢ iprop(((base2 I c ∗ (rbOK I c 0 ∗ rbOK I c 1 ∗ rbOK I c 2) ∗ A3 (fun k => okAt (qbB (tB c + k.succ)) (fun w => w = sB I c k) c)
            ∗ A3 (fun k => shut (false, .b k) c) ∗ A3 (fun k => shut (true, .b k) c) ∗ Ow c (D 12)) -∗ WP c (k (sO I c)) Q)
        -∗ WP c (groupO c (yO I c) >>= fun z => waitD (saS 4) (rbV 1) (qbV (k0_off13 c (BitVec.ofNat 32 (1 + (1 : Fin 3).val))) (k0_off13_inb c 1)) (rbV_words 1) (qbV_words c 1) >>= fun _ => waitD (raS 4) (qbV (k0_off13 c (BitVec.ofNat 32 (1 + (1 : Fin 3).val))) (k0_off13_inb c 1)) (rbV 1) (qbV_words c 1) (rbV_words 1) >>= fun _ => waitD (saS 3) (rbV 2) (qbV (k0_off13 c (BitVec.ofNat 32 (1 + (0 : Fin 3).val))) (k0_off13_inb c 0)) (rbV_words 2) (qbV_words c 0) >>= fun _ => waitD (raS 5) (qbV (k0_off13 c (BitVec.ofNat 32 (1 + (0 : Fin 3).val))) (k0_off13_inb c 0)) (rbV 2) (qbV_words c 0) (rbV_words 2) >>= fun _ => waitD (saS 5) (rbV 0) (qbV (k0_off13 c (BitVec.ofNat 32 (1 + (2 : Fin 3).val))) (k0_off13_inb c 2)) (rbV_words 0) (qbV_words c 2) >>= fun _ => waitD (raS 3) (qbV (k0_off13 c (BitVec.ofNat 32 (1 + (2 : Fin 3).val))) (k0_off13_inb c 2)) (rbV 0) (qbV_words c 2) (rbV_words 0) >>= fun _ => k z) Q) := by
  iintro ⟨#HR, Hb, ⟨W0, W1, W2⟩, ⟨V0, V1, V2⟩, HO⟩ Hk
  iapply (wp_groupO I c _) $$ [Hb]
  · iexact Hb
  iintro Hb
  iapply (wp_waitD I K c (false, .b 1) 12 (by decide +kernel) rfl (qb_credit _ _ _)) $$ [W1 HO]
  · isplitr; · iexact HR
    isplitl [W1]; · iexact W1
    iexact HO
  iintro ⟨W1, S1, HO⟩
  ihave S1 := (Entails.of_eq (b_back I c 1)) $$ S1
  iapply (wp_waitD I K c (true, .b 1) 12 (by decide +kernel) rfl (rb_credit _ _)) $$ [V1 HO]
  · isplitr; · iexact HR
    isplitl [V1]; · iexact V1
    iexact HO
  iintro ⟨V1, R1, HO⟩
  ihave R1 := (Entails.of_eq (b_arrived I c 1 1 rfl)) $$ R1
  iapply (wp_waitD I K c (false, .b 0) 12 (by decide +kernel) rfl (qb_credit _ _ _)) $$ [W0 HO]
  · isplitr; · iexact HR
    isplitl [W0]; · iexact W0
    iexact HO
  iintro ⟨W0, S0, HO⟩
  ihave S0 := (Entails.of_eq (b_back I c 0)) $$ S0
  iapply (wp_waitD I K c (true, .b 0) 12 (by decide +kernel) rfl (rb_credit _ _)) $$ [V0 HO]
  · isplitr; · iexact HR
    isplitl [V0]; · iexact V0
    iexact HO
  iintro ⟨V0, R0, HO⟩
  ihave R0 := (Entails.of_eq (b_arrived I c 2 0 rfl)) $$ R0
  iapply (wp_waitD I K c (false, .b 2) 12 (by decide +kernel) rfl (qb_credit _ _ _)) $$ [W2 HO]
  · isplitr; · iexact HR
    isplitl [W2]; · iexact W2
    iexact HO
  iintro ⟨W2, S2, HO⟩
  ihave S2 := (Entails.of_eq (b_back I c 2)) $$ S2
  iapply (wp_waitD I K c (true, .b 2) 12 (by decide +kernel) rfl (rb_credit _ _)) $$ [V2 HO]
  · isplitr; · iexact HR
    isplitl [V2]; · iexact V2
    iexact HO
  iintro ⟨V2, R2, HO⟩
  ihave R2 := (Entails.of_eq (b_arrived I c 0 2 rfl)) $$ R2
  iapply Hk
  isplitl [Hb]; · iexact Hb
  isplitl [R2 R1 R0]
  · isplitl [R2]; · iexact R2
    isplitl [R1]; · iexact R1
    iexact R0
  isplitl [S0 S1 S2]
  · isplitl [S0]; · iexact S0
    isplitl [S1]; · iexact S1
    iexact S2
  isplitl [W0 W1 W2]
  · isplitl [W0]; · iexact W0
    isplitl [W1]; · iexact W1
    iexact W2
  isplitl [V0 V1 V2]
  · isplitl [V0]; · iexact V0
    isplitl [V1]; · iexact V1
    iexact V2
  iexact HO

theorem ph_own (c : Dev nD) (k : PR F α) {Q : α → sProp 𝕄} :
    iprop(recs I K ∗ (rbOK I c 0 ∗ rbOK I c 1 ∗ rbOK I c 2) ∗ anyAt (agB (qA c) (tB c)) c ∗ A3 (fun k => go (.z k) c) ∗ A3 (fun k => dstAt (.z k) (zline k c) c)
        ∗ A3 (fun k => go (.p k 0) c) ∗ A3 (fun k => dstAt (.p k 0) (plane k c) c) ∗ Ow c (D 12))
      ⊢ iprop((((rbOK I c 0 ∗ rbOK I c 1 ∗ rbOK I c 2) ∗ agAt I c (qA c) (tB c) held ∗ A3 (fun k => wait (false, .z k) c) ∗ A3 (fun k => wait (false, .p k 0) c) ∗ Ow c (D 18)) -∗ WP c k Q)
        -∗ WP c (finish c (sO I c) >>= fun _ => sendD (⟨k0_dev13 c, k0_dev13_lt c⟩ : Dev nD) (agV (k0_off18 c) (k0_off18_inb c)) (agV (k0_off18 c) (k0_off18_inb c)) (zsS 1) (zrS 1) (ag18_words c) (ag18_words c) >>= fun _ => sendD (⟨k0_dev14 c, k0_dev14_lt c⟩ : Dev nD) (agV (k0_off18 c) (k0_off18_inb c)) (agV (k0_off18 c) (k0_off18_inb c)) (zsS 0) (zrS 0) (ag18_words c) (ag18_words c) >>= fun _ => sendD (⟨k0_dev15 c, k0_dev15_lt c⟩ : Dev nD) (agV (k0_off18 c) (k0_off18_inb c)) (agV (k0_off18 c) (k0_off18_inb c)) (zsS 2) (zrS 2) (ag18_words c) (ag18_words c) >>= fun _ => sendD (⟨k0_dev16 c, k0_dev16_lt c⟩ : Dev nD) (agV (k0_off18 c) (k0_off18_inb c)) (agV (k0_off18 c) (k0_off18_inb c)) (psS 0) (prS 0) (ag18_words c) (ag18_words c) >>= fun _ => sendD (⟨k0_dev17 c, k0_dev17_lt c⟩ : Dev nD) (agV (k0_off18 c) (k0_off18_inb c)) (agV (k0_off18 c) (k0_off18_inb c)) (psS 4) (prS 4) (ag18_words c) (ag18_words c) >>= fun _ => sendD (⟨k0_dev18 c, k0_dev18_lt c⟩ : Dev nD) (agV (k0_off18 c) (k0_off18_inb c)) (agV (k0_off18 c) (k0_off18_inb c)) (psS 8) (prS 8) (ag18_words c) (ag18_words c) >>= fun _ => k) Q) := by
  obtain ⟨-, -, -, -, -, -, d1, d0, d2⟩ := devA_eq c
  obtain ⟨e0, e1, e2, -⟩ := devQ_eq c
  iintro ⟨#HR, Hr, Ha, ⟨G0, G1, G2⟩, ⟨E0, E1, E2⟩, ⟨J0, J1, J2⟩, ⟨L0, L1, L2⟩, HO⟩ Hk
  iapply (wp_finish I c _) $$ [Hr Ha]
  · isplitl [Hr]; · iexact Hr
    iexact Ha
  iintro ⟨Hr, Ha⟩
  ihave Ha := (Entails.of_eq (ag_tokens I c (qA c) (tB c))) $$ Ha
  icases Ha with ⟨Ha, ⟨T0, T1, T2⟩, T3, T4, T5⟩
  iapply (wp_sendZ I K c _ 1 d1 12 rfl (off18_eq c) ⟨(1 : Fin 3).val, by decide⟩ rfl rfl rfl) $$ [G1 T1 E1 HO]
  · isplitr; · iexact HR
    isplitl [G1]; · iexact G1
    isplitl [T1]; · iexact T1
    isplitl [E1]; · iexact E1
    iexact HO
  iintro ⟨W1, HO⟩
  iapply (wp_sendZ I K c _ 0 d0 13 rfl (off18_eq c) ⟨(0 : Fin 3).val, by decide⟩ rfl rfl rfl) $$ [G0 T0 E0 HO]
  · isplitr; · iexact HR
    isplitl [G0]; · iexact G0
    isplitl [T0]; · iexact T0
    isplitl [E0]; · iexact E0
    iexact HO
  iintro ⟨W0, HO⟩
  iapply (wp_sendZ I K c _ 2 d2 14 rfl (off18_eq c) ⟨(2 : Fin 3).val, by decide⟩ rfl rfl rfl) $$ [G2 T2 E2 HO]
  · isplitr; · iexact HR
    isplitl [G2]; · iexact G2
    isplitl [T2]; · iexact T2
    isplitl [E2]; · iexact E2
    iexact HO
  iintro ⟨W2, HO⟩
  iapply (wp_sendP I K c _ 0 0 e0 15 rfl ((off18_eq c).trans (by rw [add0 (tB c)])) ⟨3 + (0 : Fin 3).val, by decide⟩ rfl rfl rfl) $$ [J0 T3 L0 HO]
  · isplitr; · iexact HR
    isplitl [J0]; · iexact J0
    isplitl [T3]; · rw [add0 (tB c)]; iexact T3
    isplitl [L0]; · iexact L0
    iexact HO
  iintro ⟨U0, HO⟩
  iapply (wp_sendP I K c _ 1 0 e1 16 rfl ((off18_eq c).trans (by rw [add0 (tB c)])) ⟨3 + (1 : Fin 3).val, by decide⟩ rfl rfl rfl) $$ [J1 T4 L1 HO]
  · isplitr; · iexact HR
    isplitl [J1]; · iexact J1
    isplitl [T4]; · rw [add0 (tB c)]; iexact T4
    isplitl [L1]; · iexact L1
    iexact HO
  iintro ⟨U1, HO⟩
  iapply (wp_sendP I K c _ 2 0 e2 17 rfl ((off18_eq c).trans (by rw [add0 (tB c)])) ⟨3 + (2 : Fin 3).val, by decide⟩ rfl rfl rfl) $$ [J2 T5 L2 HO]
  · isplitr; · iexact HR
    isplitl [J2]; · iexact J2
    isplitl [T5]; · rw [add0 (tB c)]; iexact T5
    isplitl [L2]; · iexact L2
    iexact HO
  iintro ⟨U2, HO⟩
  iapply Hk
  isplitl [Hr]; · iexact Hr
  isplitl [Ha]; · iexact Ha
  isplitl [W0 W1 W2]
  · isplitl [W0]; · iexact W0
    isplitl [W1]; · iexact W1
    iexact W2
  isplitl [U0 U1 U2]
  · isplitl [U0]; · iexact U0
    isplitl [U1]; · iexact U1
    iexact U2
  iexact HO

theorem ph_pass0 (c : Dev nD) (k : PR F α) {Q : α → sProp 𝕄} :
    iprop(recs I K ∗ wait (true, .z 2) c ∗ A3 (fun k => go (.p k 1) c) ∗ A3 (fun k => dstAt (.p k 1) (plane k c) c) ∗ Ow c (D 18))
      ⊢ iprop(((shut (true, .z 2) c ∗ (agAt I c (qA c) (tB c + 1) held ∗ A3 (fun k => agAt I c (qA c) (tB c + 1) (tok ⟨k.val, by omega⟩)))
          ∗ A3 (fun k => wait (false, .p k 1) c) ∗ Ow c (D 21)) -∗ WP c k Q)
        -∗ WP c (waitD (zrS 2) (agV (k0_off18 c) (k0_off18_inb c)) (agV (k0_off18 c) (k0_off18_inb c)) (ag18_words c) (ag18_words c) >>= fun _ => sendD (⟨k0_dev19 c, k0_dev19_lt c⟩ : Dev nD) (agV (k0_off19 c (BitVec.ofNat 32 (1 + (0 : Fin 3).val))) (k0_off19_inb c 0)) (agV (k0_off19 c (BitVec.ofNat 32 (1 + (0 : Fin 3).val))) (k0_off19_inb c 0)) (psS 1) (prS 1) (ag19_words c 0) (ag19_words c 0) >>= fun _ => sendD (⟨k0_dev20 c, k0_dev20_lt c⟩ : Dev nD) (agV (k0_off19 c (BitVec.ofNat 32 (1 + (0 : Fin 3).val))) (k0_off19_inb c 0)) (agV (k0_off19 c (BitVec.ofNat 32 (1 + (0 : Fin 3).val))) (k0_off19_inb c 0)) (psS 5) (prS 5) (ag19_words c 0) (ag19_words c 0) >>= fun _ => sendD (⟨k0_dev21 c, k0_dev21_lt c⟩ : Dev nD) (agV (k0_off19 c (BitVec.ofNat 32 (1 + (0 : Fin 3).val))) (k0_off19_inb c 0)) (agV (k0_off19 c (BitVec.ofNat 32 (1 + (0 : Fin 3).val))) (k0_off19_inb c 0)) (psS 9) (prS 9) (ag19_words c 0) (ag19_words c 0) >>= fun _ => k) Q) := by
  obtain ⟨-, -, -, e0, e1, e2, -⟩ := devQ_eq c
  iintro ⟨#HR, V, ⟨J0, J1, J2⟩, ⟨L0, L1, L2⟩, HO⟩ Hk
  iapply (wp_waitD I K c (true, .z 2) 18 (by decide +kernel) rfl (ag_creditz _ _ _)) $$ [V HO]
  · isplitr; · iexact HR
    isplitl [V]; · iexact V
    iexact HO
  iintro ⟨V, Ha, HO⟩
  ihave Ha := (Entails.of_eq (z_arrived I c 0 2 rfl 1 rfl)) $$ Ha
  ihave Ha := (Entails.of_eq (ag_tokens I c (qA c) (tB c + 1))) $$ Ha
  icases Ha with ⟨Ha, Ht, T0, T1, T2⟩
  iapply (wp_sendP I K c _ 0 1 e0 18 rfl (off19_eq c 0) ⟨3 + (0 : Fin 3).val, by decide⟩ rfl rfl rfl) $$ [J0 T0 L0 HO]
  · isplitr; · iexact HR
    isplitl [J0]; · iexact J0
    isplitl [T0]; · iexact T0
    isplitl [L0]; · iexact L0
    iexact HO
  iintro ⟨U0, HO⟩
  iapply (wp_sendP I K c _ 1 1 e1 19 rfl (off19_eq c 0) ⟨3 + (1 : Fin 3).val, by decide⟩ rfl rfl rfl) $$ [J1 T1 L1 HO]
  · isplitr; · iexact HR
    isplitl [J1]; · iexact J1
    isplitl [T1]; · iexact T1
    isplitl [L1]; · iexact L1
    iexact HO
  iintro ⟨U1, HO⟩
  iapply (wp_sendP I K c _ 2 1 e2 20 rfl (off19_eq c 0) ⟨3 + (2 : Fin 3).val, by decide⟩ rfl rfl rfl) $$ [J2 T2 L2 HO]
  · isplitr; · iexact HR
    isplitl [J2]; · iexact J2
    isplitl [T2]; · iexact T2
    isplitl [L2]; · iexact L2
    iexact HO
  iintro ⟨U2, HO⟩
  iapply Hk
  isplitl [V]; · iexact V
  isplitl [Ha Ht]
  · isplitl [Ha]; · iexact Ha
    iexact Ht
  isplitl [U0 U1 U2]
  · isplitl [U0]; · iexact U0
    isplitl [U1]; · iexact U1
    iexact U2
  iexact HO

theorem ph_pass2 (c : Dev nD) (k : PR F α) {Q : α → sProp 𝕄} :
    iprop(recs I K ∗ wait (true, .z 0) c ∗ A3 (fun k => go (.p k 3) c) ∗ A3 (fun k => dstAt (.p k 3) (plane k c) c) ∗ Ow c (D 21))
      ⊢ iprop(((shut (true, .z 0) c ∗ (agAt I c (qA c) (tB c + 3) held ∗ A3 (fun k => agAt I c (qA c) (tB c + 3) (tok ⟨k.val, by omega⟩)))
          ∗ A3 (fun k => wait (false, .p k 3) c) ∗ Ow c (D 24)) -∗ WP c k Q)
        -∗ WP c (waitD (zrS 0) (agV (k0_off18 c) (k0_off18_inb c)) (agV (k0_off18 c) (k0_off18_inb c)) (ag18_words c) (ag18_words c) >>= fun _ => sendD (⟨k0_dev22 c, k0_dev22_lt c⟩ : Dev nD) (agV (k0_off19 c (BitVec.ofNat 32 (1 + (2 : Fin 3).val))) (k0_off19_inb c 2)) (agV (k0_off19 c (BitVec.ofNat 32 (1 + (2 : Fin 3).val))) (k0_off19_inb c 2)) (psS 3) (prS 3) (ag19_words c 2) (ag19_words c 2) >>= fun _ => sendD (⟨k0_dev23 c, k0_dev23_lt c⟩ : Dev nD) (agV (k0_off19 c (BitVec.ofNat 32 (1 + (2 : Fin 3).val))) (k0_off19_inb c 2)) (agV (k0_off19 c (BitVec.ofNat 32 (1 + (2 : Fin 3).val))) (k0_off19_inb c 2)) (psS 7) (prS 7) (ag19_words c 2) (ag19_words c 2) >>= fun _ => sendD (⟨k0_dev24 c, k0_dev24_lt c⟩ : Dev nD) (agV (k0_off19 c (BitVec.ofNat 32 (1 + (2 : Fin 3).val))) (k0_off19_inb c 2)) (agV (k0_off19 c (BitVec.ofNat 32 (1 + (2 : Fin 3).val))) (k0_off19_inb c 2)) (psS 11) (prS 11) (ag19_words c 2) (ag19_words c 2) >>= fun _ => k) Q) := by
  obtain ⟨-, -, -, -, -, -, e0, e1, e2, -⟩ := devQ_eq c
  iintro ⟨#HR, V, ⟨J0, J1, J2⟩, ⟨L0, L1, L2⟩, HO⟩ Hk
  iapply (wp_waitD I K c (true, .z 0) 21 (by decide +kernel) rfl (ag_creditz _ _ _)) $$ [V HO]
  · isplitr; · iexact HR
    isplitl [V]; · iexact V
    iexact HO
  iintro ⟨V, Ha, HO⟩
  ihave Ha := (Entails.of_eq (z_arrived I c 2 0 rfl 3 rfl)) $$ Ha
  ihave Ha := (Entails.of_eq (ag_tokens I c (qA c) (tB c + 3))) $$ Ha
  icases Ha with ⟨Ha, Ht, T0, T1, T2⟩
  iapply (wp_sendP I K c _ 0 3 e0 21 rfl (off19_eq c 2) ⟨3 + (0 : Fin 3).val, by decide⟩ rfl rfl rfl) $$ [J0 T0 L0 HO]
  · isplitr; · iexact HR
    isplitl [J0]; · iexact J0
    isplitl [T0]; · iexact T0
    isplitl [L0]; · iexact L0
    iexact HO
  iintro ⟨U0, HO⟩
  iapply (wp_sendP I K c _ 1 3 e1 22 rfl (off19_eq c 2) ⟨3 + (1 : Fin 3).val, by decide⟩ rfl rfl rfl) $$ [J1 T1 L1 HO]
  · isplitr; · iexact HR
    isplitl [J1]; · iexact J1
    isplitl [T1]; · iexact T1
    isplitl [L1]; · iexact L1
    iexact HO
  iintro ⟨U1, HO⟩
  iapply (wp_sendP I K c _ 2 3 e2 23 rfl (off19_eq c 2) ⟨3 + (2 : Fin 3).val, by decide⟩ rfl rfl rfl) $$ [J2 T2 L2 HO]
  · isplitr; · iexact HR
    isplitl [J2]; · iexact J2
    isplitl [T2]; · iexact T2
    isplitl [L2]; · iexact L2
    iexact HO
  iintro ⟨U2, HO⟩
  iapply Hk
  isplitl [V]; · iexact V
  isplitl [Ha Ht]
  · isplitl [Ha]; · iexact Ha
    iexact Ht
  isplitl [U0 U1 U2]
  · isplitl [U0]; · iexact U0
    isplitl [U1]; · iexact U1
    iexact U2
  iexact HO

theorem ph_pass1 (c : Dev nD) (k : PR F α) {Q : α → sProp 𝕄} :
    iprop(recs I K ∗ wait (true, .z 1) c ∗ A3 (fun k => go (.p k 2) c) ∗ A3 (fun k => dstAt (.p k 2) (plane k c) c) ∗ Ow c (D 24))
      ⊢ iprop(((shut (true, .z 1) c ∗ (agAt I c (qA c) (tB c + 2) held ∗ A3 (fun k => agAt I c (qA c) (tB c + 2) (tok ⟨k.val, by omega⟩)))
          ∗ A3 (fun k => wait (false, .p k 2) c) ∗ Ow c (D 27)) -∗ WP c k Q)
        -∗ WP c (waitD (zrS 1) (agV (k0_off18 c) (k0_off18_inb c)) (agV (k0_off18 c) (k0_off18_inb c)) (ag18_words c) (ag18_words c) >>= fun _ => sendD (⟨k0_dev25 c, k0_dev25_lt c⟩ : Dev nD) (agV (k0_off19 c (BitVec.ofNat 32 (1 + (1 : Fin 3).val))) (k0_off19_inb c 1)) (agV (k0_off19 c (BitVec.ofNat 32 (1 + (1 : Fin 3).val))) (k0_off19_inb c 1)) (psS 2) (prS 2) (ag19_words c 1) (ag19_words c 1) >>= fun _ => sendD (⟨k0_dev26 c, k0_dev26_lt c⟩ : Dev nD) (agV (k0_off19 c (BitVec.ofNat 32 (1 + (1 : Fin 3).val))) (k0_off19_inb c 1)) (agV (k0_off19 c (BitVec.ofNat 32 (1 + (1 : Fin 3).val))) (k0_off19_inb c 1)) (psS 6) (prS 6) (ag19_words c 1) (ag19_words c 1) >>= fun _ => sendD (⟨k0_dev27 c, k0_dev27_lt c⟩ : Dev nD) (agV (k0_off19 c (BitVec.ofNat 32 (1 + (1 : Fin 3).val))) (k0_off19_inb c 1)) (agV (k0_off19 c (BitVec.ofNat 32 (1 + (1 : Fin 3).val))) (k0_off19_inb c 1)) (psS 10) (prS 10) (ag19_words c 1) (ag19_words c 1) >>= fun _ => k) Q) := by
  obtain ⟨-, -, -, -, -, -, -, -, -, e0, e1, e2⟩ := devQ_eq c
  iintro ⟨#HR, V, ⟨J0, J1, J2⟩, ⟨L0, L1, L2⟩, HO⟩ Hk
  iapply (wp_waitD I K c (true, .z 1) 24 (by decide +kernel) rfl (ag_creditz _ _ _)) $$ [V HO]
  · isplitr; · iexact HR
    isplitl [V]; · iexact V
    iexact HO
  iintro ⟨V, Ha, HO⟩
  ihave Ha := (Entails.of_eq (z_arrived I c 1 1 rfl 2 rfl)) $$ Ha
  ihave Ha := (Entails.of_eq (ag_tokens I c (qA c) (tB c + 2))) $$ Ha
  icases Ha with ⟨Ha, Ht, T0, T1, T2⟩
  iapply (wp_sendP I K c _ 0 2 e0 24 rfl (off19_eq c 1) ⟨3 + (0 : Fin 3).val, by decide⟩ rfl rfl rfl) $$ [J0 T0 L0 HO]
  · isplitr; · iexact HR
    isplitl [J0]; · iexact J0
    isplitl [T0]; · iexact T0
    isplitl [L0]; · iexact L0
    iexact HO
  iintro ⟨U0, HO⟩
  iapply (wp_sendP I K c _ 1 2 e1 25 rfl (off19_eq c 1) ⟨3 + (1 : Fin 3).val, by decide⟩ rfl rfl rfl) $$ [J1 T1 L1 HO]
  · isplitr; · iexact HR
    isplitl [J1]; · iexact J1
    isplitl [T1]; · iexact T1
    isplitl [L1]; · iexact L1
    iexact HO
  iintro ⟨U1, HO⟩
  iapply (wp_sendP I K c _ 2 2 e2 26 rfl (off19_eq c 1) ⟨3 + (2 : Fin 3).val, by decide⟩ rfl rfl rfl) $$ [J2 T2 L2 HO]
  · isplitr; · iexact HR
    isplitl [J2]; · iexact J2
    isplitl [T2]; · iexact T2
    isplitl [L2]; · iexact L2
    iexact HO
  iintro ⟨U2, HO⟩
  iapply Hk
  isplitl [V]; · iexact V
  isplitl [Ha Ht]
  · isplitl [Ha]; · iexact Ha
    iexact Ht
  isplitl [U0 U1 U2]
  · isplitl [U0]; · iexact U0
    isplitl [U1]; · iexact U1
    iexact U2
  iexact HO

theorem wp_recv (c : Dev nD) (kk : Fin 3) (o : Fin 4) (l : List ℕ) {ss : DmaSem sig} (hs : ss = semOf (true, .p kk o)) {a b : Memref sig .tc .vmem S64x1024 .bf16} {h1 h2}
    (hN : b.view.dmaCredit = amt (.p kk o)) (k : PUnit → PR F α) {Q : α → sProp 𝕄} :
    iprop(recs I K ∗ wait (true, .p kk o) c ∗ outs I c l ∗ Ow c (D 27))
      ⊢ iprop(((shut (true, .p kk o) c ∗ agAt I c (qR kk c) (tR o c) fullShare ∗ outs I c (nR c kk o :: l) ∗ Ow c (D 27)) -∗ WP c (k ⟨⟩) Q)
        -∗ WP c (waitD ss a b h1 h2 >>= fun _ => outRecv c kk o >>= k) Q) := by
  iintro ⟨#HR, V, Ho, HO⟩ Hk
  iapply (wp_waitD I K c (true, .p kk o) 27 (fun d hd => absurd hd List.not_mem_nil) hs hN) $$ [V HO]
  · isplitr; · iexact HR
    isplitl [V]; · iexact V
    iexact HO
  iintro ⟨V, Ha, HO⟩
  ihave Ha := (Entails.of_eq (p_arrived I c kk o)) $$ Ha
  iapply (wp_outRecv I c kk o l _) $$ [Ha Ho]
  · isplitl [Ha]; · iexact Ha
    iexact Ho
  iintro ⟨Ha, Ho⟩
  iapply Hk
  isplitl [V]; · iexact V
  isplitl [Ha]; · iexact Ha
  isplitl [Ho]; · iexact Ho
  iexact HO

theorem ph_recv0 (c : Dev nD) (l : List ℕ) (k : PR F α) {Q : α → sProp 𝕄} :
    iprop(recs I K ∗ A3 (fun k => wait (true, .p k 0) c) ∗ outs I c l ∗ Ow c (D 27))
      ⊢ iprop(((A3 (fun k => shut (true, .p k 0) c) ∗ A3 (fun k => agAt I c (qR k c) (tR 0 c) fullShare) ∗ outs I c (nR c 2 0 :: nR c 1 0 :: nR c 0 0 :: l) ∗ Ow c (D 27)) -∗ WP c k Q)
        -∗ WP c (waitD (prS 0) (agV ![0, 0, 0, 0] ag0_inb) (agV ![0, 0, 0, 0] ag0_inb) ag0_words ag0_words >>= fun _ => outRecv c 0 0 >>= fun _ => waitD (prS 4) (agV ![0, 0, 0, 0] ag0_inb) (agV ![0, 0, 0, 0] ag0_inb) ag0_words ag0_words >>= fun _ => outRecv c 1 0 >>= fun _ => waitD (prS 8) (agV ![0, 0, 0, 0] ag0_inb) (agV ![0, 0, 0, 0] ag0_inb) ag0_words ag0_words >>= fun _ => outRecv c 2 0 >>= fun _ => k) Q) := by
  iintro ⟨#HR, ⟨V0, V1, V2⟩, Ho, HO⟩ Hk
  iapply (wp_recv I K c 0 0 _ rfl (ag_creditp _ _ _ _) _) $$ [V0 Ho HO]
  · isplitr; · iexact HR
    isplitl [V0]; · iexact V0
    isplitl [Ho]; · iexact Ho
    iexact HO
  iintro ⟨V0, A0, Ho, HO⟩
  iapply (wp_recv I K c 1 0 _ rfl (ag_creditp _ _ _ _) _) $$ [V1 Ho HO]
  · isplitr; · iexact HR
    isplitl [V1]; · iexact V1
    isplitl [Ho]; · iexact Ho
    iexact HO
  iintro ⟨V1, A1, Ho, HO⟩
  iapply (wp_recv I K c 2 0 _ rfl (ag_creditp _ _ _ _) _) $$ [V2 Ho HO]
  · isplitr; · iexact HR
    isplitl [V2]; · iexact V2
    isplitl [Ho]; · iexact Ho
    iexact HO
  iintro ⟨V2, A2, Ho, HO⟩
  iapply Hk
  isplitl [V0 V1 V2]
  · isplitl [V0]; · iexact V0
    isplitl [V1]; · iexact V1
    iexact V2
  isplitl [A0 A1 A2]
  · isplitl [A0]; · iexact A0
    isplitl [A1]; · iexact A1
    iexact A2
  isplitl [Ho]; · iexact Ho
  iexact HO

theorem ph_recv1 (c : Dev nD) (l : List ℕ) (k : PR F α) {Q : α → sProp 𝕄} :
    iprop(recs I K ∗ A3 (fun k => wait (true, .p k 1) c) ∗ outs I c l ∗ Ow c (D 27))
      ⊢ iprop(((A3 (fun k => shut (true, .p k 1) c) ∗ A3 (fun k => agAt I c (qR k c) (tR 1 c) fullShare) ∗ outs I c (nR c 2 1 :: nR c 1 1 :: nR c 0 1 :: l) ∗ Ow c (D 27)) -∗ WP c k Q)
        -∗ WP c (waitD (prS 1) (agV ![0, 0, 0, 0] ag0_inb) (agV ![0, 0, 0, 0] ag0_inb) ag0_words ag0_words >>= fun _ => outRecv c 0 1 >>= fun _ => waitD (prS 5) (agV ![0, 0, 0, 0] ag0_inb) (agV ![0, 0, 0, 0] ag0_inb) ag0_words ag0_words >>= fun _ => outRecv c 1 1 >>= fun _ => waitD (prS 9) (agV ![0, 0, 0, 0] ag0_inb) (agV ![0, 0, 0, 0] ag0_inb) ag0_words ag0_words >>= fun _ => outRecv c 2 1 >>= fun _ => k) Q) := by
  iintro ⟨#HR, ⟨V0, V1, V2⟩, Ho, HO⟩ Hk
  iapply (wp_recv I K c 0 1 _ rfl (ag_creditp _ _ _ _) _) $$ [V0 Ho HO]
  · isplitr; · iexact HR
    isplitl [V0]; · iexact V0
    isplitl [Ho]; · iexact Ho
    iexact HO
  iintro ⟨V0, A0, Ho, HO⟩
  iapply (wp_recv I K c 1 1 _ rfl (ag_creditp _ _ _ _) _) $$ [V1 Ho HO]
  · isplitr; · iexact HR
    isplitl [V1]; · iexact V1
    isplitl [Ho]; · iexact Ho
    iexact HO
  iintro ⟨V1, A1, Ho, HO⟩
  iapply (wp_recv I K c 2 1 _ rfl (ag_creditp _ _ _ _) _) $$ [V2 Ho HO]
  · isplitr; · iexact HR
    isplitl [V2]; · iexact V2
    isplitl [Ho]; · iexact Ho
    iexact HO
  iintro ⟨V2, A2, Ho, HO⟩
  iapply Hk
  isplitl [V0 V1 V2]
  · isplitl [V0]; · iexact V0
    isplitl [V1]; · iexact V1
    iexact V2
  isplitl [A0 A1 A2]
  · isplitl [A0]; · iexact A0
    isplitl [A1]; · iexact A1
    iexact A2
  isplitl [Ho]; · iexact Ho
  iexact HO

theorem ph_recv3 (c : Dev nD) (l : List ℕ) (k : PR F α) {Q : α → sProp 𝕄} :
    iprop(recs I K ∗ A3 (fun k => wait (true, .p k 3) c) ∗ outs I c l ∗ Ow c (D 27))
      ⊢ iprop(((A3 (fun k => shut (true, .p k 3) c) ∗ A3 (fun k => agAt I c (qR k c) (tR 3 c) fullShare) ∗ outs I c (nR c 2 3 :: nR c 1 3 :: nR c 0 3 :: l) ∗ Ow c (D 27)) -∗ WP c k Q)
        -∗ WP c (waitD (prS 3) (agV ![0, 0, 0, 0] ag0_inb) (agV ![0, 0, 0, 0] ag0_inb) ag0_words ag0_words >>= fun _ => outRecv c 0 3 >>= fun _ => waitD (prS 7) (agV ![0, 0, 0, 0] ag0_inb) (agV ![0, 0, 0, 0] ag0_inb) ag0_words ag0_words >>= fun _ => outRecv c 1 3 >>= fun _ => waitD (prS 11) (agV ![0, 0, 0, 0] ag0_inb) (agV ![0, 0, 0, 0] ag0_inb) ag0_words ag0_words >>= fun _ => outRecv c 2 3 >>= fun _ => k) Q) := by
  iintro ⟨#HR, ⟨V0, V1, V2⟩, Ho, HO⟩ Hk
  iapply (wp_recv I K c 0 3 _ rfl (ag_creditp _ _ _ _) _) $$ [V0 Ho HO]
  · isplitr; · iexact HR
    isplitl [V0]; · iexact V0
    isplitl [Ho]; · iexact Ho
    iexact HO
  iintro ⟨V0, A0, Ho, HO⟩
  iapply (wp_recv I K c 1 3 _ rfl (ag_creditp _ _ _ _) _) $$ [V1 Ho HO]
  · isplitr; · iexact HR
    isplitl [V1]; · iexact V1
    isplitl [Ho]; · iexact Ho
    iexact HO
  iintro ⟨V1, A1, Ho, HO⟩
  iapply (wp_recv I K c 2 3 _ rfl (ag_creditp _ _ _ _) _) $$ [V2 Ho HO]
  · isplitr; · iexact HR
    isplitl [V2]; · iexact V2
    isplitl [Ho]; · iexact Ho
    iexact HO
  iintro ⟨V2, A2, Ho, HO⟩
  iapply Hk
  isplitl [V0 V1 V2]
  · isplitl [V0]; · iexact V0
    isplitl [V1]; · iexact V1
    iexact V2
  isplitl [A0 A1 A2]
  · isplitl [A0]; · iexact A0
    isplitl [A1]; · iexact A1
    iexact A2
  isplitl [Ho]; · iexact Ho
  iexact HO

theorem ph_recv2 (c : Dev nD) (l : List ℕ) (k : PR F α) {Q : α → sProp 𝕄} :
    iprop(recs I K ∗ A3 (fun k => wait (true, .p k 2) c) ∗ outs I c l ∗ Ow c (D 27))
      ⊢ iprop(((A3 (fun k => shut (true, .p k 2) c) ∗ A3 (fun k => agAt I c (qR k c) (tR 2 c) fullShare) ∗ outs I c (nR c 2 2 :: nR c 1 2 :: nR c 0 2 :: l) ∗ Ow c (D 27)) -∗ WP c k Q)
        -∗ WP c (waitD (prS 2) (agV ![0, 0, 0, 0] ag0_inb) (agV ![0, 0, 0, 0] ag0_inb) ag0_words ag0_words >>= fun _ => outRecv c 0 2 >>= fun _ => waitD (prS 6) (agV ![0, 0, 0, 0] ag0_inb) (agV ![0, 0, 0, 0] ag0_inb) ag0_words ag0_words >>= fun _ => outRecv c 1 2 >>= fun _ => waitD (prS 10) (agV ![0, 0, 0, 0] ag0_inb) (agV ![0, 0, 0, 0] ag0_inb) ag0_words ag0_words >>= fun _ => outRecv c 2 2 >>= fun _ => k) Q) := by
  iintro ⟨#HR, ⟨V0, V1, V2⟩, Ho, HO⟩ Hk
  iapply (wp_recv I K c 0 2 _ rfl (ag_creditp _ _ _ _) _) $$ [V0 Ho HO]
  · isplitr; · iexact HR
    isplitl [V0]; · iexact V0
    isplitl [Ho]; · iexact Ho
    iexact HO
  iintro ⟨V0, A0, Ho, HO⟩
  iapply (wp_recv I K c 1 2 _ rfl (ag_creditp _ _ _ _) _) $$ [V1 Ho HO]
  · isplitr; · iexact HR
    isplitl [V1]; · iexact V1
    isplitl [Ho]; · iexact Ho
    iexact HO
  iintro ⟨V1, A1, Ho, HO⟩
  iapply (wp_recv I K c 2 2 _ rfl (ag_creditp _ _ _ _) _) $$ [V2 Ho HO]
  · isplitr; · iexact HR
    isplitl [V2]; · iexact V2
    isplitl [Ho]; · iexact Ho
    iexact HO
  iintro ⟨V2, A2, Ho, HO⟩
  iapply Hk
  isplitl [V0 V1 V2]
  · isplitl [V0]; · iexact V0
    isplitl [V1]; · iexact V1
    iexact V2
  isplitl [A0 A1 A2]
  · isplitl [A0]; · iexact A0
    isplitl [A1]; · iexact A1
    iexact A2
  isplitl [Ho]; · iexact Ho
  iexact HO

theorem ph_drain (c : Dev nD) (k : PR F α) {Q : α → sProp 𝕄} :
    iprop(recs I K ∗ agAt I c (qA c) (tB c) held ∗ A3 (fun k => wait (false, .z k) c) ∗ A3 (fun k => wait (false, .p k 0) c) ∗ Ow c (D 27))
      ⊢ iprop(((A3 (fun k => shut (false, .z k) c) ∗ A3 (fun k => shut (false, .p k 0) c) ∗ agAt I c (qA c) (tB c) fullShare ∗ Ow c (D 27)) -∗ WP c k Q)
        -∗ WP c (waitD (zsS 0) (agV (k0_off18 c) (k0_off18_inb c)) (agV (k0_off18 c) (k0_off18_inb c)) (ag18_words c) (ag18_words c) >>= fun _ => waitD (zsS 1) (agV (k0_off18 c) (k0_off18_inb c)) (agV (k0_off18 c) (k0_off18_inb c)) (ag18_words c) (ag18_words c) >>= fun _ => waitD (zsS 2) (agV (k0_off18 c) (k0_off18_inb c)) (agV (k0_off18 c) (k0_off18_inb c)) (ag18_words c) (ag18_words c) >>= fun _ => waitD (psS 0) (agV (k0_off18 c) (k0_off18_inb c)) (agV (k0_off18 c) (k0_off18_inb c)) (ag18_words c) (ag18_words c) >>= fun _ => waitD (psS 4) (agV (k0_off18 c) (k0_off18_inb c)) (agV (k0_off18 c) (k0_off18_inb c)) (ag18_words c) (ag18_words c) >>= fun _ => waitD (psS 8) (agV (k0_off18 c) (k0_off18_inb c)) (agV (k0_off18 c) (k0_off18_inb c)) (ag18_words c) (ag18_words c) >>= fun _ => k) Q) := by
  iintro ⟨#HR, Ha, ⟨W0, W1, W2⟩, ⟨U0, U1, U2⟩, HO⟩ Hk
  iapply (wp_waitD I K c (false, .z 0) 27 (fun d hd => absurd hd List.not_mem_nil) rfl (ag_creditz _ _ _)) $$ [W0 HO]
  · isplitr; · iexact HR
    isplitl [W0]; · iexact W0
    iexact HO
  iintro ⟨W0, T0, HO⟩
  iapply (wp_waitD I K c (false, .z 1) 27 (fun d hd => absurd hd List.not_mem_nil) rfl (ag_creditz _ _ _)) $$ [W1 HO]
  · isplitr; · iexact HR
    isplitl [W1]; · iexact W1
    iexact HO
  iintro ⟨W1, T1, HO⟩
  iapply (wp_waitD I K c (false, .z 2) 27 (fun d hd => absurd hd List.not_mem_nil) rfl (ag_creditz _ _ _)) $$ [W2 HO]
  · isplitr; · iexact HR
    isplitl [W2]; · iexact W2
    iexact HO
  iintro ⟨W2, T2, HO⟩
  iapply (wp_waitD I K c (false, .p 0 0) 27 (fun d hd => absurd hd List.not_mem_nil) rfl (ag_creditp _ _ _ _)) $$ [U0 HO]
  · isplitr; · iexact HR
    isplitl [U0]; · iexact U0
    iexact HO
  iintro ⟨U0, T3, HO⟩
  iapply (wp_waitD I K c (false, .p 1 0) 27 (fun d hd => absurd hd List.not_mem_nil) rfl (ag_creditp _ _ _ _)) $$ [U1 HO]
  · isplitr; · iexact HR
    isplitl [U1]; · iexact U1
    iexact HO
  iintro ⟨U1, T4, HO⟩
  iapply (wp_waitD I K c (false, .p 2 0) 27 (fun d hd => absurd hd List.not_mem_nil) rfl (ag_creditp _ _ _ _)) $$ [U2 HO]
  · isplitr; · iexact HR
    isplitl [U2]; · iexact U2
    iexact HO
  iintro ⟨U2, T5, HO⟩
  ihave T0 := (Entails.of_eq (z_back I c 0)) $$ T0
  ihave T1 := (Entails.of_eq (z_back I c 1)) $$ T1
  ihave T2 := (Entails.of_eq (z_back I c 2)) $$ T2
  ihave T3 := (Entails.of_eq ((p_back I c 0 0).trans (by rw [add0 (tB c)]))) $$ T3
  ihave T4 := (Entails.of_eq ((p_back I c 1 0).trans (by rw [add0 (tB c)]))) $$ T4
  ihave T5 := (Entails.of_eq ((p_back I c 2 0).trans (by rw [add0 (tB c)]))) $$ T5
  ihave Ha : agAt I c (qA c) (tB c) fullShare $$ [Ha T0 T1 T2 T3 T4 T5]
  · rw [ag_tokens I c (qA c) (tB c)]
    isplitl [Ha]; · iexact Ha
    isplitl [T0 T1 T2]
    · isplitl [T0]; · iexact T0
      isplitl [T1]; · iexact T1
      iexact T2
    isplitl [T3]; · iexact T3
    isplitl [T4]; · iexact T4
    iexact T5
  iapply Hk
  isplitl [W0 W1 W2]
  · isplitl [W0]; · iexact W0
    isplitl [W1]; · iexact W1
    iexact W2
  isplitl [U0 U1 U2]
  · isplitl [U0]; · iexact U0
    isplitl [U1]; · iexact U1
    iexact U2
  isplitl [Ha]; · iexact Ha
  iexact HO

theorem ph_drain0 (c : Dev nD) (k : PR F α) {Q : α → sProp 𝕄} :
    iprop(recs I K ∗ agAt I c (qA c) (tB c + 1) held ∗ A3 (fun k => agAt I c (qA c) (tB c + 1) (tok ⟨k.val, by omega⟩)) ∗ A3 (fun k => wait (false, .p k 1) c) ∗ Ow c (D 27))
      ⊢ iprop(((A3 (fun k => shut (false, .p k 1) c) ∗ agAt I c (qA c) (tB c + 1) fullShare ∗ Ow c (D 27)) -∗ WP c k Q)
        -∗ WP c (waitD (psS 1) (agV (k0_off19 c (BitVec.ofNat 32 (1 + (0 : Fin 3).val))) (k0_off19_inb c 0)) (agV (k0_off19 c (BitVec.ofNat 32 (1 + (0 : Fin 3).val))) (k0_off19_inb c 0)) (ag19_words c 0) (ag19_words c 0) >>= fun _ => waitD (psS 5) (agV (k0_off19 c (BitVec.ofNat 32 (1 + (0 : Fin 3).val))) (k0_off19_inb c 0)) (agV (k0_off19 c (BitVec.ofNat 32 (1 + (0 : Fin 3).val))) (k0_off19_inb c 0)) (ag19_words c 0) (ag19_words c 0) >>= fun _ => waitD (psS 9) (agV (k0_off19 c (BitVec.ofNat 32 (1 + (0 : Fin 3).val))) (k0_off19_inb c 0)) (agV (k0_off19 c (BitVec.ofNat 32 (1 + (0 : Fin 3).val))) (k0_off19_inb c 0)) (ag19_words c 0) (ag19_words c 0) >>= fun _ => k) Q) := by
  iintro ⟨#HR, Ha, Ht, ⟨U0, U1, U2⟩, HO⟩ Hk
  iapply (wp_waitD I K c (false, .p 0 1) 27 (fun d hd => absurd hd List.not_mem_nil) rfl (ag_creditp _ _ _ _)) $$ [U0 HO]
  · isplitr; · iexact HR
    isplitl [U0]; · iexact U0
    iexact HO
  iintro ⟨U0, T0, HO⟩
  iapply (wp_waitD I K c (false, .p 1 1) 27 (fun d hd => absurd hd List.not_mem_nil) rfl (ag_creditp _ _ _ _)) $$ [U1 HO]
  · isplitr; · iexact HR
    isplitl [U1]; · iexact U1
    iexact HO
  iintro ⟨U1, T1, HO⟩
  iapply (wp_waitD I K c (false, .p 2 1) 27 (fun d hd => absurd hd List.not_mem_nil) rfl (ag_creditp _ _ _ _)) $$ [U2 HO]
  · isplitr; · iexact HR
    isplitl [U2]; · iexact U2
    iexact HO
  iintro ⟨U2, T2, HO⟩
  ihave T0 := (Entails.of_eq (p_back I c 0 1)) $$ T0
  ihave T1 := (Entails.of_eq (p_back I c 1 1)) $$ T1
  ihave T2 := (Entails.of_eq (p_back I c 2 1)) $$ T2
  ihave Ha : agAt I c (qA c) (tB c + 1) fullShare $$ [Ha Ht T0 T1 T2]
  · rw [ag_tokens I c (qA c) (tB c + 1)]
    isplitl [Ha]; · iexact Ha
    isplitl [Ht]; · iexact Ht
    isplitl [T0]; · iexact T0
    isplitl [T1]; · iexact T1
    iexact T2
  iapply Hk
  isplitl [U0 U1 U2]
  · isplitl [U0]; · iexact U0
    isplitl [U1]; · iexact U1
    iexact U2
  isplitl [Ha]; · iexact Ha
  iexact HO

theorem ph_drain2 (c : Dev nD) (k : PR F α) {Q : α → sProp 𝕄} :
    iprop(recs I K ∗ agAt I c (qA c) (tB c + 3) held ∗ A3 (fun k => agAt I c (qA c) (tB c + 3) (tok ⟨k.val, by omega⟩)) ∗ A3 (fun k => wait (false, .p k 3) c) ∗ Ow c (D 27))
      ⊢ iprop(((A3 (fun k => shut (false, .p k 3) c) ∗ agAt I c (qA c) (tB c + 3) fullShare ∗ Ow c (D 27)) -∗ WP c k Q)
        -∗ WP c (waitD (psS 3) (agV (k0_off19 c (BitVec.ofNat 32 (1 + (2 : Fin 3).val))) (k0_off19_inb c 2)) (agV (k0_off19 c (BitVec.ofNat 32 (1 + (2 : Fin 3).val))) (k0_off19_inb c 2)) (ag19_words c 2) (ag19_words c 2) >>= fun _ => waitD (psS 7) (agV (k0_off19 c (BitVec.ofNat 32 (1 + (2 : Fin 3).val))) (k0_off19_inb c 2)) (agV (k0_off19 c (BitVec.ofNat 32 (1 + (2 : Fin 3).val))) (k0_off19_inb c 2)) (ag19_words c 2) (ag19_words c 2) >>= fun _ => waitD (psS 11) (agV (k0_off19 c (BitVec.ofNat 32 (1 + (2 : Fin 3).val))) (k0_off19_inb c 2)) (agV (k0_off19 c (BitVec.ofNat 32 (1 + (2 : Fin 3).val))) (k0_off19_inb c 2)) (ag19_words c 2) (ag19_words c 2) >>= fun _ => k) Q) := by
  iintro ⟨#HR, Ha, Ht, ⟨U0, U1, U2⟩, HO⟩ Hk
  iapply (wp_waitD I K c (false, .p 0 3) 27 (fun d hd => absurd hd List.not_mem_nil) rfl (ag_creditp _ _ _ _)) $$ [U0 HO]
  · isplitr; · iexact HR
    isplitl [U0]; · iexact U0
    iexact HO
  iintro ⟨U0, T0, HO⟩
  iapply (wp_waitD I K c (false, .p 1 3) 27 (fun d hd => absurd hd List.not_mem_nil) rfl (ag_creditp _ _ _ _)) $$ [U1 HO]
  · isplitr; · iexact HR
    isplitl [U1]; · iexact U1
    iexact HO
  iintro ⟨U1, T1, HO⟩
  iapply (wp_waitD I K c (false, .p 2 3) 27 (fun d hd => absurd hd List.not_mem_nil) rfl (ag_creditp _ _ _ _)) $$ [U2 HO]
  · isplitr; · iexact HR
    isplitl [U2]; · iexact U2
    iexact HO
  iintro ⟨U2, T2, HO⟩
  ihave T0 := (Entails.of_eq (p_back I c 0 3)) $$ T0
  ihave T1 := (Entails.of_eq (p_back I c 1 3)) $$ T1
  ihave T2 := (Entails.of_eq (p_back I c 2 3)) $$ T2
  ihave Ha : agAt I c (qA c) (tB c + 3) fullShare $$ [Ha Ht T0 T1 T2]
  · rw [ag_tokens I c (qA c) (tB c + 3)]
    isplitl [Ha]; · iexact Ha
    isplitl [Ht]; · iexact Ht
    isplitl [T0]; · iexact T0
    isplitl [T1]; · iexact T1
    iexact T2
  iapply Hk
  isplitl [U0 U1 U2]
  · isplitl [U0]; · iexact U0
    isplitl [U1]; · iexact U1
    iexact U2
  isplitl [Ha]; · iexact Ha
  iexact HO

theorem ph_drain1 (c : Dev nD) (k : PR F α) {Q : α → sProp 𝕄} :
    iprop(recs I K ∗ agAt I c (qA c) (tB c + 2) held ∗ A3 (fun k => agAt I c (qA c) (tB c + 2) (tok ⟨k.val, by omega⟩)) ∗ A3 (fun k => wait (false, .p k 2) c) ∗ Ow c (D 27))
      ⊢ iprop(((A3 (fun k => shut (false, .p k 2) c) ∗ agAt I c (qA c) (tB c + 2) fullShare ∗ Ow c (D 27)) -∗ WP c k Q)
        -∗ WP c (waitD (psS 2) (agV (k0_off19 c (BitVec.ofNat 32 (1 + (1 : Fin 3).val))) (k0_off19_inb c 1)) (agV (k0_off19 c (BitVec.ofNat 32 (1 + (1 : Fin 3).val))) (k0_off19_inb c 1)) (ag19_words c 1) (ag19_words c 1) >>= fun _ => waitD (psS 6) (agV (k0_off19 c (BitVec.ofNat 32 (1 + (1 : Fin 3).val))) (k0_off19_inb c 1)) (agV (k0_off19 c (BitVec.ofNat 32 (1 + (1 : Fin 3).val))) (k0_off19_inb c 1)) (ag19_words c 1) (ag19_words c 1) >>= fun _ => waitD (psS 10) (agV (k0_off19 c (BitVec.ofNat 32 (1 + (1 : Fin 3).val))) (k0_off19_inb c 1)) (agV (k0_off19 c (BitVec.ofNat 32 (1 + (1 : Fin 3).val))) (k0_off19_inb c 1)) (ag19_words c 1) (ag19_words c 1) >>= fun _ => k) Q) := by
  iintro ⟨#HR, Ha, Ht, ⟨U0, U1, U2⟩, HO⟩ Hk
  iapply (wp_waitD I K c (false, .p 0 2) 27 (fun d hd => absurd hd List.not_mem_nil) rfl (ag_creditp _ _ _ _)) $$ [U0 HO]
  · isplitr; · iexact HR
    isplitl [U0]; · iexact U0
    iexact HO
  iintro ⟨U0, T0, HO⟩
  iapply (wp_waitD I K c (false, .p 1 2) 27 (fun d hd => absurd hd List.not_mem_nil) rfl (ag_creditp _ _ _ _)) $$ [U1 HO]
  · isplitr; · iexact HR
    isplitl [U1]; · iexact U1
    iexact HO
  iintro ⟨U1, T1, HO⟩
  iapply (wp_waitD I K c (false, .p 2 2) 27 (fun d hd => absurd hd List.not_mem_nil) rfl (ag_creditp _ _ _ _)) $$ [U2 HO]
  · isplitr; · iexact HR
    isplitl [U2]; · iexact U2
    iexact HO
  iintro ⟨U2, T2, HO⟩
  ihave T0 := (Entails.of_eq (p_back I c 0 2)) $$ T0
  ihave T1 := (Entails.of_eq (p_back I c 1 2)) $$ T1
  ihave T2 := (Entails.of_eq (p_back I c 2 2)) $$ T2
  ihave Ha : agAt I c (qA c) (tB c + 2) fullShare $$ [Ha Ht T0 T1 T2]
  · rw [ag_tokens I c (qA c) (tB c + 2)]
    isplitl [Ha]; · iexact Ha
    isplitl [Ht]; · iexact Ht
    isplitl [T0]; · iexact T0
    isplitl [T1]; · iexact T1
    iexact T2
  iapply Hk
  isplitl [U0 U1 U2]
  · isplitl [U0]; · iexact U0
    isplitl [U1]; · iexact U1
    iexact U2
  isplitl [Ha]; · iexact Ha
  iexact HO

end Cert.Moe

end
-- ==== Proof.Places.lean ====
module

public import proofs.«01_k».proof.Proof.Phases
public import Idealize.ShloMosaic.Lib.Ring

/-!
# Places

The buffers cut into the places the copies use, and put together again.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

theorem chs_flat (Φ : Ch → sProp 𝕄) :
    iprop(Φ (.a 0) ∗ Φ (.a 1) ∗ Φ (.a 2) ∗ Φ (.b 0) ∗ Φ (.b 1) ∗ Φ (.b 2) ∗ Φ (.z 0) ∗ Φ (.z 1) ∗ Φ (.z 2) ∗ Φ (.p 0 0) ∗ Φ (.p 0 1) ∗ Φ (.p 0 2) ∗ Φ (.p 0 3) ∗ Φ (.p 1 0) ∗ Φ (.p 1 1) ∗ Φ (.p 1 2) ∗ Φ (.p 1 3) ∗ Φ (.p 2 0) ∗ Φ (.p 2 1) ∗ Φ (.p 2 2) ∗ Φ (.p 2 3))
      = iprop(A3 (fun k => Φ (.a k)) ∗ A3 (fun k => Φ (.b k)) ∗ A3 (fun k => Φ (.z k)) ∗ A3 (fun k => Φ (.p k 0)) ∗ A3 (fun k => Φ (.p k 1)) ∗ A3 (fun k => Φ (.p k 2)) ∗ A3 (fun k => Φ (.p k 3))) := by
  have l : iprop(Φ (.a 0) ∗ Φ (.a 1) ∗ Φ (.a 2) ∗ Φ (.b 0) ∗ Φ (.b 1) ∗ Φ (.b 2) ∗ Φ (.z 0) ∗ Φ (.z 1) ∗ Φ (.z 2) ∗ Φ (.p 0 0) ∗ Φ (.p 0 1) ∗ Φ (.p 0 2) ∗ Φ (.p 0 3) ∗ Φ (.p 1 0) ∗ Φ (.p 1 1) ∗ Φ (.p 1 2) ∗ Φ (.p 1 3) ∗ Φ (.p 2 0) ∗ Φ (.p 2 1) ∗ Φ (.p 2 2) ∗ Φ (.p 2 3)) ⊢ iprop(A3 (fun k => Φ (.a k)) ∗ A3 (fun k => Φ (.b k)) ∗ A3 (fun k => Φ (.z k)) ∗ A3 (fun k => Φ (.p k 0)) ∗ A3 (fun k => Φ (.p k 1)) ∗ A3 (fun k => Φ (.p k 2)) ∗ A3 (fun k => Φ (.p k 3))) := by
    iintro ⟨Xa0, Xa1, Xa2, Xb0, Xb1, Xb2, Xz0, Xz1, Xz2, Xp00, Xp01, Xp02, Xp03, Xp10, Xp11, Xp12, Xp13, Xp20, Xp21, Xp22, Xp23⟩
    isplitl [Xa0 Xa1 Xa2]
    · isplitl [Xa0]; · iexact Xa0
      isplitl [Xa1]; · iexact Xa1
      iexact Xa2
    isplitl [Xb0 Xb1 Xb2]
    · isplitl [Xb0]; · iexact Xb0
      isplitl [Xb1]; · iexact Xb1
      iexact Xb2
    isplitl [Xz0 Xz1 Xz2]
    · isplitl [Xz0]; · iexact Xz0
      isplitl [Xz1]; · iexact Xz1
      iexact Xz2
    isplitl [Xp00 Xp10 Xp20]
    · isplitl [Xp00]; · iexact Xp00
      isplitl [Xp10]; · iexact Xp10
      iexact Xp20
    isplitl [Xp01 Xp11 Xp21]
    · isplitl [Xp01]; · iexact Xp01
      isplitl [Xp11]; · iexact Xp11
      iexact Xp21
    isplitl [Xp02 Xp12 Xp22]
    · isplitl [Xp02]; · iexact Xp02
      isplitl [Xp12]; · iexact Xp12
      iexact Xp22
    isplitl [Xp03]; · iexact Xp03
    isplitl [Xp13]; · iexact Xp13
    iexact Xp23
  have r : iprop(A3 (fun k => Φ (.a k)) ∗ A3 (fun k => Φ (.b k)) ∗ A3 (fun k => Φ (.z k)) ∗ A3 (fun k => Φ (.p k 0)) ∗ A3 (fun k => Φ (.p k 1)) ∗ A3 (fun k => Φ (.p k 2)) ∗ A3 (fun k => Φ (.p k 3))) ⊢ iprop(Φ (.a 0) ∗ Φ (.a 1) ∗ Φ (.a 2) ∗ Φ (.b 0) ∗ Φ (.b 1) ∗ Φ (.b 2) ∗ Φ (.z 0) ∗ Φ (.z 1) ∗ Φ (.z 2) ∗ Φ (.p 0 0) ∗ Φ (.p 0 1) ∗ Φ (.p 0 2) ∗ Φ (.p 0 3) ∗ Φ (.p 1 0) ∗ Φ (.p 1 1) ∗ Φ (.p 1 2) ∗ Φ (.p 1 3) ∗ Φ (.p 2 0) ∗ Φ (.p 2 1) ∗ Φ (.p 2 2) ∗ Φ (.p 2 3)) := by
    iintro ⟨⟨Xa0, Xa1, Xa2⟩, ⟨Xb0, Xb1, Xb2⟩, ⟨Xz0, Xz1, Xz2⟩, ⟨Xp00, Xp10, Xp20⟩, ⟨Xp01, Xp11, Xp21⟩, ⟨Xp02, Xp12, Xp22⟩, ⟨Xp03, Xp13, Xp23⟩⟩
    isplitl [Xa0]; · iexact Xa0
    isplitl [Xa1]; · iexact Xa1
    isplitl [Xa2]; · iexact Xa2
    isplitl [Xb0]; · iexact Xb0
    isplitl [Xb1]; · iexact Xb1
    isplitl [Xb2]; · iexact Xb2
    isplitl [Xz0]; · iexact Xz0
    isplitl [Xz1]; · iexact Xz1
    isplitl [Xz2]; · iexact Xz2
    isplitl [Xp00]; · iexact Xp00
    isplitl [Xp01]; · iexact Xp01
    isplitl [Xp02]; · iexact Xp02
    isplitl [Xp03]; · iexact Xp03
    isplitl [Xp10]; · iexact Xp10
    isplitl [Xp11]; · iexact Xp11
    isplitl [Xp12]; · iexact Xp12
    isplitl [Xp13]; · iexact Xp13
    isplitl [Xp20]; · iexact Xp20
    isplitl [Xp21]; · iexact Xp21
    isplitl [Xp22]; · iexact Xp22
    iexact Xp23
  exact Idealize.SL.BI.Entails.antisymm l r

theorem chs_eq (Φ : Ch → sProp 𝕄) : bigSep Finset.univ Φ
      = iprop(A3 (fun k => Φ (.a k)) ∗ A3 (fun k => Φ (.b k)) ∗ A3 (fun k => Φ (.z k)) ∗ A3 (fun k => Φ (.p k 0)) ∗ A3 (fun k => Φ (.p k 1)) ∗ A3 (fun k => Φ (.p k 2)) ∗ A3 (fun k => Φ (.p k 3))) := by
  rw [← chs_flat Φ, bigSep_univ_eq_bigSepL allCh univ_ch nodup_allCh]
  unfold allCh
  simp only [bigSepL_cons_cons, bigSepL_singleton]
  rfl

theorem grid_flat (X : Fin 4 → Fin 4 → sProp 𝕄) :
    A4 (fun a => A4 (fun b => X a b))
      = iprop(X 0 0 ∗ (X 0 1 ∗ X 0 2 ∗ X 0 3) ∗ (X 1 0 ∗ X 1 1 ∗ X 1 2 ∗ X 1 3) ∗ (X 2 0 ∗ X 2 1 ∗ X 2 2 ∗ X 2 3) ∗ (X 3 0 ∗ X 3 1 ∗ X 3 2 ∗ X 3 3)) := by
  have l : A4 (fun a => A4 (fun b => X a b)) ⊢ iprop(X 0 0 ∗ (X 0 1 ∗ X 0 2 ∗ X 0 3) ∗ (X 1 0 ∗ X 1 1 ∗ X 1 2 ∗ X 1 3) ∗ (X 2 0 ∗ X 2 1 ∗ X 2 2 ∗ X 2 3) ∗ (X 3 0 ∗ X 3 1 ∗ X 3 2 ∗ X 3 3)) := by
    iintro ⟨⟨X00, X01, X02, X03⟩, ⟨X10, X11, X12, X13⟩, ⟨X20, X21, X22, X23⟩, ⟨X30, X31, X32, X33⟩⟩
    isplitl [X00]; · iexact X00
    isplitl [X01 X02 X03]
    · isplitl [X01]; · iexact X01
      isplitl [X02]; · iexact X02
      iexact X03
    isplitl [X10 X11 X12 X13]
    · isplitl [X10]; · iexact X10
      isplitl [X11]; · iexact X11
      isplitl [X12]; · iexact X12
      iexact X13
    isplitl [X20 X21 X22 X23]
    · isplitl [X20]; · iexact X20
      isplitl [X21]; · iexact X21
      isplitl [X22]; · iexact X22
      iexact X23
    isplitl [X30]; · iexact X30
    isplitl [X31]; · iexact X31
    isplitl [X32]; · iexact X32
    iexact X33
  have r : iprop(X 0 0 ∗ (X 0 1 ∗ X 0 2 ∗ X 0 3) ∗ (X 1 0 ∗ X 1 1 ∗ X 1 2 ∗ X 1 3) ∗ (X 2 0 ∗ X 2 1 ∗ X 2 2 ∗ X 2 3) ∗ (X 3 0 ∗ X 3 1 ∗ X 3 2 ∗ X 3 3)) ⊢ A4 (fun a => A4 (fun b => X a b)) := by
    iintro ⟨X00, ⟨X01, X02, X03⟩, ⟨X10, X11, X12, X13⟩, ⟨X20, X21, X22, X23⟩, ⟨X30, X31, X32, X33⟩⟩
    isplitl [X00 X01 X02 X03]
    · isplitl [X00]; · iexact X00
      isplitl [X01]; · iexact X01
      isplitl [X02]; · iexact X02
      iexact X03
    isplitl [X10 X11 X12 X13]
    · isplitl [X10]; · iexact X10
      isplitl [X11]; · iexact X11
      isplitl [X12]; · iexact X12
      iexact X13
    isplitl [X20 X21 X22 X23]
    · isplitl [X20]; · iexact X20
      isplitl [X21]; · iexact X21
      isplitl [X22]; · iexact X22
      iexact X23
    isplitl [X30]; · iexact X30
    isplitl [X31]; · iexact X31
    isplitl [X32]; · iexact X32
    iexact X33
  exact Idealize.SL.BI.Entails.antisymm l r

theorem sep3 (Φ : Fin 3 → sProp 𝕄) : bigSep Finset.univ Φ = A3 Φ := by
  rw [bigSep_univ_eq_bigSepL [0, 1, 2] (by decide) (by decide)]
  simp only [bigSepL_cons_cons, bigSepL_singleton]
  rfl
theorem sep4 (Φ : Fin 4 → sProp 𝕄) : bigSep Finset.univ Φ = A4 Φ := by
  rw [bigSep_univ_eq_bigSepL [0, 1, 2, 3] (by decide) (by decide)]
  simp only [bigSepL_cons_cons, bigSepL_singleton]
  rfl
theorem grid_eq (X : Fin 4 → Fin 4 → sProp 𝕄) : bigSep Finset.univ (fun p : Fin 4 × Fin 4 => X p.1 p.2)
    = iprop(X 0 0 ∗ A3 (fun k => X 0 k.succ) ∗ A3 (fun k => A4 (fun o => X k.succ o))) := by
  rw [bigSep_univ_prod (fun p : Fin 4 × Fin 4 => X p.1 p.2), sep4]
  simp only [sep4]
  exact grid_flat X

section
variable {B : Type} [Fintype B] [DecidableEq B] {ℓ : Loc nD τ sig} (S : B → Finset (Idx ℓ)) (g : Idx ℓ → B) (hS : ∀ b i, i ∈ S b ↔ g i = b)
include hS
theorem blk_disj (b b' : B) (h : b ≠ b') : Disjoint (S b) (S b') :=
  Finset.disjoint_left.mpr fun i hi hi' => h (((hS b i).mp hi).symm.trans ((hS b' i).mp hi'))
theorem blk_cover : (Finset.univ : Finset B).biUnion S = Finset.univ :=
  Finset.eq_univ_iff_forall.mpr fun i => Finset.mem_biUnion.mpr ⟨g i, Finset.mem_univ _, (hS (g i) i).mpr rfl⟩
/-- A buffer held whole is held place by place; -/
theorem blk_split : (iprop(∃ f, ℓ ↦{fullShare} f) : sProp 𝕄) ⊢ bigSep Finset.univ fun b => iprop(∃ f, ℓ ↦[S b]{fullShare} f) := by
  iintro ⟨%f, H⟩
  ihave H1 := (Entails.of_eq (Idealize.ShloMosaic.Ring.pointsTo_blocks S (blk_disj S g hS) (blk_cover S g hS) f)) $$ H
  have m : (bigSep Finset.univ fun b => (ℓ ↦[S b]{fullShare} f : sProp 𝕄)) ⊢ bigSep Finset.univ fun b => iprop(∃ f, ℓ ↦[S b]{fullShare} f) :=
    bigSep_mono fun b _ => by show (ℓ ↦[S b]{fullShare} f : sProp 𝕄) ⊢ iprop(∃ f, ℓ ↦[S b]{fullShare} f); iintro H; iexists f; iexact H
  iapply m
  iexact H1
/-- and held place by place, it is held whole. -/
theorem blk_join (f₀ : Buf (Elt F) ℓ) : (bigSep Finset.univ fun b => iprop(∃ f, ℓ ↦[S b]{fullShare} f)) ⊢ (iprop(∃ f, ℓ ↦{fullShare} f) : sProp 𝕄) :=
  Idealize.ShloMosaic.Ring.pointsTo_blocks_join_exists S (blk_disj S g hS) (blk_cover S g hS) f₀
end

section
variable (c : Dev nD)
theorem sa_key (s : Fin 3) (i : S3x80x1024.Idx) : i ∈ (saV s).view.set ↔ (i 0 : Fin 3) = s :=
  (iff_of_eq (congrArg (i ∈ ·) (sa_set s))).trans ((mem_slab s i).trans Fin.ext_iff.symm)
theorem ra_key (s : Fin 3) (i : S3x80x1024.Idx) : i ∈ (raV s).view.set ↔ (i 0 : Fin 3) = s :=
  (iff_of_eq (congrArg (i ∈ ·) (ra_set s))).trans ((mem_slab s i).trans Fin.ext_iff.symm)
theorem rb_key (s : Fin 3) (i : S3x64x1024.Idx) : i ∈ (rbV s).view.set ↔ (i 0 : Fin 3) = s :=
  (iff_of_eq (congrArg (i ∈ ·) (rb_set s))).trans ((mem_blk s i).trans Fin.ext_iff.symm)
theorem cancel4 : ∀ a b d : Fin 4, a + b = a + d → b = d := by decide
theorem sub_key : ∀ q x a : Fin 4, x = q + a ↔ x - q = a := by decide
theorem qb_key (a : Fin 4) (i : S256x1024.Idx) :
    i ∈ (qbB (tB c + a)).view.set ↔ (⟨(i 0).val / 64, by have h : (i 0).val < 256 := (i 0).isLt; omega⟩ : Fin 4) - tB c = a :=
  (iff_of_eq (congrArg (i ∈ ·) (qb_set _))).trans ((mem_qb _ i).trans (Iff.trans (Fin.ext_iff (a := (⟨(i 0).val / 64, by have h : (i 0).val < 256 := (i 0).isLt; omega⟩ : Fin 4)) (b := tB c + a)).symm (sub_key _ _ _)))
/-- The first two coordinates of an index of the blocks that come home. -/
def ag0 (i : S4x4x64x1024.Idx) : Fin 4 := i 0
def ag1 (i : S4x4x64x1024.Idx) : Fin 4 := i 1
theorem ag_key (p : Fin 4 × Fin 4) (i : S4x4x64x1024.Idx) :
    i ∈ (agB (qA c + p.1) (tB c + p.2)).view.set ↔ (ag0 i - qA c, ag1 i - tB c) = p :=
  (iff_of_eq (congrArg (i ∈ ·) (ag_set (qA c + p.1) (tB c + p.2)))).trans ((mem_ag _ _ i).trans
    ((and_congr (Fin.ext_iff (a := ag0 i) (b := qA c + p.1)).symm (Fin.ext_iff (a := ag1 i) (b := tB c + p.2)).symm).trans
      ((and_congr (sub_key _ _ _) (sub_key _ _ _)).trans ⟨fun h => Prod.ext h.1 h.2, fun h => ⟨congrArg Prod.fst h, congrArg Prod.snd h⟩⟩)))

theorem sa_cut : iprop(∃ f, wh (F := F) c cc0_scratch4 f) ⊢ A3 (fun k => anyAt (saV k) c) := by
  rw [← sep3]
  exact blk_split (ℓ := (c : Thread nD τ).loc cc0_scratch4) (fun s => (saV s).view.set) (fun i : S3x80x1024.Idx => (i 0 : Fin 3)) sa_key
theorem sa_whole : A3 (fun k => anyAt (saV k) c) ⊢ iprop(∃ f, wh (F := F) c cc0_scratch4 f) := by
  rw [← sep3]
  iintro H
  iapply (blk_join (F := F) (ℓ := (c : Thread nD τ).loc cc0_scratch4) (fun s => (saV s).view.set) (fun i : S3x80x1024.Idx => (i 0 : Fin 3)) sa_key (fun _ => Classical.arbitrary _))
  iexact H
theorem ra_cut : iprop(∃ f, wh (F := F) c cc0_scratch5 f) ⊢ A3 (fun k => anyAt (raV k) c) := by
  rw [← sep3]
  exact blk_split (ℓ := (c : Thread nD τ).loc cc0_scratch5) (fun s => (raV s).view.set) (fun i : S3x80x1024.Idx => (i 0 : Fin 3)) ra_key
theorem ra_whole : A3 (fun k => anyAt (raV k) c) ⊢ iprop(∃ f, wh (F := F) c cc0_scratch5 f) := by
  rw [← sep3]
  iintro H
  iapply (blk_join (F := F) (ℓ := (c : Thread nD τ).loc cc0_scratch5) (fun s => (raV s).view.set) (fun i : S3x80x1024.Idx => (i 0 : Fin 3)) ra_key (fun _ => Classical.arbitrary _))
  iexact H
theorem rb_cut : iprop(∃ f, wh (F := F) c cc0_scratch7 f) ⊢ A3 (fun k => anyAt (rbV k) c) := by
  rw [← sep3]
  exact blk_split (ℓ := (c : Thread nD τ).loc cc0_scratch7) (fun s => (rbV s).view.set) (fun i : S3x64x1024.Idx => (i 0 : Fin 3)) rb_key
theorem rb_whole : A3 (fun k => anyAt (rbV k) c) ⊢ iprop(∃ f, wh (F := F) c cc0_scratch7 f) := by
  rw [← sep3]
  iintro H
  iapply (blk_join (F := F) (ℓ := (c : Thread nD τ).loc cc0_scratch7) (fun s => (rbV s).view.set) (fun i : S3x64x1024.Idx => (i 0 : Fin 3)) rb_key (fun _ => Classical.arbitrary _))
  iexact H
theorem qb_cut : iprop(∃ f, wh (F := F) c cc0_scratch6 f) ⊢ A4 (fun a => anyAt (qbB (tB c + a)) c) := by
  rw [← sep4]
  exact blk_split (ℓ := (c : Thread nD τ).loc cc0_scratch6) (fun a => (qbB (tB c + a)).view.set) _ (qb_key c)
theorem qb_whole : A4 (fun a => anyAt (qbB (tB c + a)) c) ⊢ iprop(∃ f, wh (F := F) c cc0_scratch6 f) := by
  rw [← sep4]
  iintro H
  iapply (blk_join (F := F) (ℓ := (c : Thread nD τ).loc cc0_scratch6) (fun a => (qbB (tB c + a)).view.set) _ (qb_key c) (fun _ => Classical.arbitrary _))
  iexact H
theorem ag_cut : iprop(∃ f, wh (F := F) c cc0_scratch8 f) ⊢ iprop(anyAt (agB (qA c) (tB c)) c ∗ A3 (fun k => anyAt (agB (qA c) (tB c + k.succ)) c)
    ∗ A3 (fun k => A4 (fun o => anyAt (agB (qA c + k.succ) (tB c + o)) c))) := by
  have h := blk_split (F := F) (ℓ := (c : Thread nD τ).loc cc0_scratch8) (fun p : Fin 4 × Fin 4 => (agB (qA c + p.1) (tB c + p.2)).view.set) _ (ag_key c)
  refine h.trans (Entails.of_eq ((grid_eq (fun a b => anyAt (F := F) (agB (qA c + a) (tB c + b)) c)).trans ?_))
  rw [add0 (qA c), add0 (tB c)]
theorem ag_whole : iprop(anyAt (agB (qA c) (tB c)) c ∗ A3 (fun k => anyAt (agB (qA c) (tB c + k.succ)) c)
    ∗ A3 (fun k => A4 (fun o => anyAt (agB (qA c + k.succ) (tB c + o)) c))) ⊢ iprop(∃ f, wh (F := F) c cc0_scratch8 f) := by
  have h := blk_join (F := F) (ℓ := (c : Thread nD τ).loc cc0_scratch8) (fun p : Fin 4 × Fin 4 => (agB (qA c + p.1) (tB c + p.2)).view.set) _ (ag_key c) (fun _ => Classical.arbitrary _)
  refine (Entails.of_eq (((grid_eq (fun a b => anyAt (F := F) (agB (qA c + a) (tB c + b)) c)).trans ?_).symm)).trans h
  rw [add0 (qA c), add0 (tB c)]

theorem ok_any {s : Shape} (M : Memref sig .tc .vmem s .bf16) (P : (s.Idx → Elt F .bf16) → Prop) : okAt M P c ⊢ anyAt M c := by
  unfold okAt anyAt; iintro ⟨%f, -, H⟩; iexists f; iexact H
theorem ag_any (q t : Fin 4) : agAt I c q t fullShare ⊢ anyAt (agB q t) c := by
  unfold agAt anyAt; iintro H; iexists _; iexact H
theorem recv_any (k k' : Fin 3) (h : k' = rev3 k) (o : Fin 4) : agAt I c (qR k c) (tR o c) fullShare ⊢ anyAt (agB (qA c + k'.succ) (tB c + o)) c := by
  subst h
  have e : qR k c = qA c + (rev3 k).succ := qA_plane (rev3 k) c
  have e' : tR o c = tB c + o := rfl
  rw [e, e']
  exact ag_any I c _ _

/-- The own quarter's blocks, as held while they are read, are one region. -/
theorem own_region : ∃ S : Finset S4x4x64x1024.Idx, (∀ i : S4x4x64x1024.Idx, (i 0).val = (qA c).val → i ∈ S) ∧
    (iprop(agAt I c (qA c) (tB c) held ∗ A3 (fun k => agAt I c (qA c) (tB c + k.succ) held)) : sProp 𝕄)
      = (agM.view.loc (c : Thread nD τ) ↦[S]{held} (AGv I)) := by
  refine ⟨(Finset.univ : Finset (Fin 4)).biUnion fun b => (agB (qA c) (tB c + b)).view.set, fun i hi => ?_, ?_⟩
  · refine Finset.mem_biUnion.mpr ⟨ag1 i - tB c, Finset.mem_univ _, ?_⟩
    rw [show tB c + (ag1 i - tB c) = ag1 i from by generalize ag1 i = u; generalize tB c = v; revert u v; decide]
    exact (iff_of_eq (congrArg (i ∈ ·) (ag_set _ _))).mpr ((mem_ag _ _ i).mpr ⟨hi, rfl⟩)
  · rw [pointsTo_biUnion (ℓ := agM.view.loc (c : Thread nD τ)) Finset.univ (fun b : Fin 4 => (agB (qA c) (tB c + b)).view.set) ?_]
    · rw [sep4]; unfold A4 A3; dsimp only; rw [add0 (tB c)]; rfl
    · intro t _ t' _ h
      refine Finset.disjoint_left.mpr fun i hi hi' => h ?_
      have a := ((mem_ag _ _ i).mp ((ag_set (qA c) (tB c + t)) ▸ hi)).2
      have b := ((mem_ag _ _ i).mp ((ag_set (qA c) (tB c + t')) ▸ hi')).2
      exact cancel4 _ _ _ (Fin.ext (a.symm.trans b))
end

end Cert.Moe

end
-- ==== Proof.Body.lean ====
module

public import proofs.«01_k».proof.Proof.Places

/-!
# The whole body

The body's run from the state the launch leaves a device in to the state it ends in: the phases one after another,
with what each one passes on regrouped for the next.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

theorem ends_ret : ∀ e : PR F PUnit, (e >>= fun _ => Prog.ret ⟨⟩) = e
  | .ret _ => rfl
  | .op o k => congrArg (Prog.op o) (funext fun x => ends_ret (k x))
theorem wp_done (c : Dev nD) {Q : PUnit → sProp 𝕄} : Q ⟨⟩ ⊢ WP c (Prog.ret ⟨⟩ : PR F PUnit) Q := by
  unfold WP
  rw [wp_ret]
  iintro H; imodintro; iexact H
/-- A program of three operations, its last followed by nothing. -/
theorem wp_tail (c : Dev nD) (a b e : PR F PUnit) {Q : PUnit → sProp 𝕄} :
    WP c (a >>= fun _ => b >>= fun _ => e >>= fun _ => Prog.ret ⟨⟩) Q ⊢ WP c (a >>= fun _ => b >>= fun _ => e) Q := by
  rw [ends_ret e]
/-- The state the launch leaves a device in, at the start of its body, -/
def before (c : Dev nD) : sProp 𝕄 := iprop(
  (dutyTok ER (barCell (peer 0 c)) 0 (dual 0) ∗ dutyTok ER (barCell (peer 1 c)) 0 (dual 1) ∗ dutyTok ER (barCell (peer 2 c)) 0 (dual 2)
    ∗ dutyTok ER (barCell (peer 3 c)) 0 (dual 3) ∗ dutyTok ER (barCell (peer 4 c)) 0 (dual 4) ∗ dutyTok ER (barCell (peer 5 c)) 0 (dual 5))
  ∗ (bigSep Finset.univ fun x : Ch => go x c) ∗ (bigSep Finset.univ fun x : Ch => wait (true, x) c)
  ∗ (atPos ER (barCell c) 0 ∅ 0 ∗ cred (tallyAt (barCell c) () 6)) ∗ Ow c (D 0) ∗ inp I c
  ∗ (∃ f, wh (F := F) c cc0_scratch0 f) ∗ (∃ f, wh (F := F) c cc0_scratch1 f) ∗ (∃ f, wh (F := F) c cc0_scratch2 f)
  ∗ (∃ f, wh (F := F) c cc0_scratch3 f) ∗ (∃ f, wh (F := F) c cc0_scratch4 f) ∗ (∃ f, wh (F := F) c cc0_scratch5 f)
  ∗ (∃ f, wh (F := F) c cc0_scratch6 f) ∗ (∃ f, wh (F := F) c cc0_scratch7 f) ∗ (∃ f, wh (F := F) c cc0_scratch8 f)
  ∗ (∃ f, wh (F := F) c cc0_stg4_0 f))
/-- and the state the body ends in: the arguments as they were, the result written, every end closed. -/
def afterwards (c : Dev nD) : sProp 𝕄 := iprop(
  inp I c ∗ wh c cc0_stg4_0 (OUT I c)
  ∗ (∃ f, wh (F := F) c cc0_scratch0 f) ∗ (∃ f, wh (F := F) c cc0_scratch1 f) ∗ (∃ f, wh (F := F) c cc0_scratch2 f)
  ∗ (∃ f, wh (F := F) c cc0_scratch3 f) ∗ (∃ f, wh (F := F) c cc0_scratch4 f) ∗ (∃ f, wh (F := F) c cc0_scratch5 f)
  ∗ (∃ f, wh (F := F) c cc0_scratch6 f) ∗ (∃ f, wh (F := F) c cc0_scratch7 f) ∗ (∃ f, wh (F := F) c cc0_scratch8 f)
  ∗ semVal (barCell c) 0 ∗ (bigSep Finset.univ fun x : Ch => shut (false, x) c) ∗ (bigSep Finset.univ fun x : Ch => shut (true, x) c) ∗ Ow c (D 27))

set_option maxHeartbeats 4000000 in
theorem run_stretches (c : Dev nD) : iprop(recs I K ∗ before I c) ⊢ WP c (stretches c) (fun _ => afterwards I c) := by
  obtain ⟨S, hS, eS⟩ := own_region I c
  unfold stretches before
  iintro ⟨#HR, ⟨T0, T1, T2, T3, T4, T5⟩, HG, HV, HB, HO, Hi, S0, S1, S2, S3, S4, S5, S6, S7, S8, Ho⟩
  ihave HG := (Entails.of_eq (chs_eq (fun x => go (F := F) x c))) $$ HG
  ihave HV := (Entails.of_eq (chs_eq (fun x => wait (F := F) (true, x) c))) $$ HV
  icases HG with ⟨GA, GB, GZ, GP0, GP1, GP2, GP3⟩
  icases HV with ⟨VA, VB, ⟨VZ0, VZ1, VZ2⟩, VP0, VP1, VP2, VP3⟩
  ihave SA := (sa_cut (F := F) c) $$ S4
  ihave RA := (ra_cut (F := F) c) $$ S5
  ihave QB := (qb_cut (F := F) c) $$ S6
  ihave RB := (rb_cut (F := F) c) $$ S7
  ihave AG := (ag_cut (F := F) c) $$ S8
  icases RA with ⟨RA0, RA1, RA2⟩
  icases RB with ⟨RB0, RB1, RB2⟩
  icases QB with ⟨Q0, Q1, Q2, Q3⟩
  icases AG with ⟨AO, ⟨AL0, AL1, AL2⟩, AP0, AP1, AP2⟩
  iapply (ph_signal I K c _) $$ [T0 T1 T2 T3 T4 T5 RA0 AP0 RA1 AP1 RA2 AP2 RB0 AL0 RB1 AL1 RB2 AL2 HO]
  · isplitr; · iexact HR
    isplitl [T0 T1 T2 T3 T4 T5]
    · isplitl [T0]; · iexact T0
      isplitl [T1]; · iexact T1
      isplitl [T2]; · iexact T2
      isplitl [T3]; · iexact T3
      isplitl [T4]; · iexact T4
      iexact T5
    isplitl [RA0 AP0 RA1 AP1 RA2 AP2]
    · isplitl [RA0 AP0]
      · isplitl [RA0]; · iexact RA0
        iexact AP0
      isplitl [RA1 AP1]
      · isplitl [RA1]; · iexact RA1
        iexact AP1
      isplitl [RA2]; · iexact RA2
      iexact AP2
    isplitl [RB0 AL0 RB1 AL1 RB2 AL2]
    · isplitl [RB0 AL0]
      · isplitl [RB0]; · iexact RB0
        iexact AL0
      isplitl [RB1 AL1]
      · isplitl [RB1]; · iexact RB1
        iexact AL1
      isplitl [RB2]; · iexact RB2
      iexact AL2
    iexact HO
  iintro HO
  iapply (ph_prelude I c _) $$ [Hi S0 S1 S3]
  · isplitl [Hi]; · iexact Hi
    isplitl [S0]; · iexact S0
    isplitl [S1]; · iexact S1
    iexact S3
  iintro Hb
  iapply (ph_slabs I K c _) $$ [Hb SA GA HB HO]
  · isplitr; · iexact HR
    isplitl [Hb]; · iexact Hb
    isplitl [SA]; · iexact SA
    isplitl [GA]; · iexact GA
    isplitl [HB]; · iexact HB
    iexact HO
  iintro ⟨Hb, WA, HB, ⟨⟨DB0, DZ0⟩, ⟨DB1, DZ1⟩, DB2, DZ2⟩, ⟨⟨E00, E01, E02, E03⟩, ⟨E10, E11, E12, E13⟩, E20, E21, E22, E23⟩, HO⟩
  iapply (ph_slabsIn I K c _) $$ [Hb S2 WA VA HO]
  · isplitr; · iexact HR
    isplitl [Hb]; · iexact Hb
    isplitl [S2]; · iexact S2
    isplitl [WA]; · iexact WA
    isplitl [VA]; · iexact VA
    iexact HO
  iintro ⟨Hb, SA, UA, UA', HO⟩
  iapply (ph_sums I K c _) $$ [Hb Q1 Q2 Q3 GB DB0 DB1 DB2 HO]
  · isplitr; · iexact HR
    isplitl [Hb]; · iexact Hb
    isplitl [Q1 Q2 Q3]
    · isplitl [Q1]; · iexact Q1
      isplitl [Q2]; · iexact Q2
      iexact Q3
    isplitl [GB]; · iexact GB
    isplitl [DB0 DB1 DB2]
    · isplitl [DB0]; · iexact DB0
      isplitl [DB1]; · iexact DB1
      iexact DB2
    iexact HO
  iintro ⟨Hb, WB, HO⟩
  iapply (ph_sumsIn I K c _) $$ [Hb WB VB HO]
  · isplitr; · iexact HR
    isplitl [Hb]; · iexact Hb
    isplitl [WB]; · iexact WB
    isplitl [VB]; · iexact VB
    iexact HO
  iintro ⟨Hb, RB, QB, UB, UB', HO⟩
  iapply (ph_own I K c _) $$ [RB AO GZ DZ0 DZ1 DZ2 GP0 E00 E10 E20 HO]
  · isplitr; · iexact HR
    isplitl [RB]; · iexact RB
    isplitl [AO]; · iexact AO
    isplitl [GZ]; · iexact GZ
    isplitl [DZ0 DZ1 DZ2]
    · isplitl [DZ0]; · iexact DZ0
      isplitl [DZ1]; · iexact DZ1
      iexact DZ2
    isplitl [GP0]; · iexact GP0
    isplitl [E00 E10 E20]
    · isplitl [E00]; · iexact E00
      isplitl [E10]; · iexact E10
      iexact E20
    iexact HO
  iintro ⟨RB, AO, WZ, WP0, HO⟩
  iapply (ph_pass0 I K c _) $$ [VZ2 GP1 E01 E11 E21 HO]
  · isplitr; · iexact HR
    isplitl [VZ2]; · iexact VZ2
    isplitl [GP1]; · iexact GP1
    isplitl [E01 E11 E21]
    · isplitl [E01]; · iexact E01
      isplitl [E11]; · iexact E11
      iexact E21
    iexact HO
  iintro ⟨UZ2, ⟨AH1, AT1⟩, WP1, HO⟩
  iapply (ph_pass2 I K c _) $$ [VZ0 GP3 E03 E13 E23 HO]
  · isplitr; · iexact HR
    isplitl [VZ0]; · iexact VZ0
    isplitl [GP3]; · iexact GP3
    isplitl [E03 E13 E23]
    · isplitl [E03]; · iexact E03
      isplitl [E13]; · iexact E13
      iexact E23
    iexact HO
  iintro ⟨UZ0, ⟨AH3, AT3⟩, WP3, HO⟩
  iapply (ph_pass1 I K c _) $$ [VZ1 GP2 E02 E12 E22 HO]
  · isplitr; · iexact HR
    isplitl [VZ1]; · iexact VZ1
    isplitl [GP2]; · iexact GP2
    isplitl [E02 E12 E22]
    · isplitl [E02]; · iexact E02
      isplitl [E12]; · iexact E12
      iexact E22
    iexact HO
  iintro ⟨UZ1, ⟨AH2, AT2⟩, WP2, HO⟩
  ihave HQ := (Entails.of_eq eS) $$ [AO AH1 AH2 AH3]
  · isplitl [AO]; · iexact AO
    isplitl [AH1]; · iexact AH1
    isplitl [AH2]; · iexact AH2
    iexact AH3
  iapply (wp_outOwn I c held S hS _) $$ [HQ Ho]
  · isplitl [HQ]; · iexact HQ
    iexact Ho
  iintro ⟨HQ, Ho⟩
  ihave HQ := (Entails.of_eq eS.symm) $$ HQ
  icases HQ with ⟨AO, AH1, AH2, AH3⟩
  iapply (ph_recv0 I K c _ _) $$ [VP0 Ho HO]
  · isplitr; · iexact HR
    isplitl [VP0]; · iexact VP0
    isplitl [Ho]; · iexact Ho
    iexact HO
  iintro ⟨UP0, ⟨AR00, AR10, AR20⟩, Ho, HO⟩
  iapply (ph_recv1 I K c _ _) $$ [VP1 Ho HO]
  · isplitr; · iexact HR
    isplitl [VP1]; · iexact VP1
    isplitl [Ho]; · iexact Ho
    iexact HO
  iintro ⟨UP1, ⟨AR01, AR11, AR21⟩, Ho, HO⟩
  iapply (ph_recv3 I K c _ _) $$ [VP3 Ho HO]
  · isplitr; · iexact HR
    isplitl [VP3]; · iexact VP3
    isplitl [Ho]; · iexact Ho
    iexact HO
  iintro ⟨UP3, ⟨AR03, AR13, AR23⟩, Ho, HO⟩
  iapply (ph_recv2 I K c _ _) $$ [VP2 Ho HO]
  · isplitr; · iexact HR
    isplitl [VP2]; · iexact VP2
    isplitl [Ho]; · iexact Ho
    iexact HO
  iintro ⟨UP2, ⟨AR02, AR12, AR22⟩, Ho, HO⟩
  iapply (ph_drain I K c _) $$ [AO WZ WP0 HO]
  · isplitr; · iexact HR
    isplitl [AO]; · iexact AO
    isplitl [WZ]; · iexact WZ
    isplitl [WP0]; · iexact WP0
    iexact HO
  iintro ⟨UZ, UQ0, AO, HO⟩
  iapply (ph_drain0 I K c _) $$ [AH1 AT1 WP1 HO]
  · isplitr; · iexact HR
    isplitl [AH1]; · iexact AH1
    isplitl [AT1]; · iexact AT1
    isplitl [WP1]; · iexact WP1
    iexact HO
  iintro ⟨UQ1, AF1, HO⟩
  iapply (ph_drain2 I K c _) $$ [AH3 AT3 WP3 HO]
  · isplitr; · iexact HR
    isplitl [AH3]; · iexact AH3
    isplitl [AT3]; · iexact AT3
    isplitl [WP3]; · iexact WP3
    iexact HO
  iintro ⟨UQ3, AF3, HO⟩
  iapply (wp_tail c _ _ _)
  iapply (ph_drain1 I K c (Prog.ret ⟨⟩)) $$ [AH2 AT2 WP2 HO]
  · isplitr; · iexact HR
    isplitl [AH2]; · iexact AH2
    isplitl [AT2]; · iexact AT2
    isplitl [WP2]; · iexact WP2
    iexact HO
  iintro ⟨UQ2, AF2, HO⟩
  iapply (wp_done c)
  unfold afterwards base2 base ews raOK rbOK outs
  icases Hb with ⟨⟨Hi, S0, S1, ⟨%fe, -, S3⟩⟩, S2, RA0, RA1, RA2⟩
  icases SA with ⟨SA0, SA1, SA2⟩
  icases RB with ⟨RB0, RB1, RB2⟩
  icases QB with ⟨Q1, Q2, Q3⟩
  icases Ho with ⟨%fo, %hfo, Ho⟩
  have eo : fo = OUT I c := outOK_all I c fo hfo
  subst eo
  ihave RA0 := (ok_any c (raV 0) _) $$ RA0
  ihave SA0 := (ok_any c (saV 0) _) $$ SA0
  ihave RB0 := (ok_any c (rbV 0) _) $$ RB0
  ihave Q1 := (ok_any c (qbB (tB c + (0 : Fin 3).succ)) (fun w => w = sB I c 0)) $$ Q1
  ihave RA1 := (ok_any c (raV 1) _) $$ RA1
  ihave SA1 := (ok_any c (saV 1) _) $$ SA1
  ihave RB1 := (ok_any c (rbV 1) _) $$ RB1
  ihave Q2 := (ok_any c (qbB (tB c + (1 : Fin 3).succ)) (fun w => w = sB I c 1)) $$ Q2
  ihave RA2 := (ok_any c (raV 2) _) $$ RA2
  ihave SA2 := (ok_any c (saV 2) _) $$ SA2
  ihave RB2 := (ok_any c (rbV 2) _) $$ RB2
  ihave Q3 := (ok_any c (qbB (tB c + (2 : Fin 3).succ)) (fun w => w = sB I c 2)) $$ Q3
  ihave AO := (ag_any I c _ _) $$ AO
  ihave AF1 := (ag_any I c (qA c) (tB c + 1)) $$ AF1
  ihave AF2 := (ag_any I c (qA c) (tB c + 2)) $$ AF2
  ihave AF3 := (ag_any I c (qA c) (tB c + 3)) $$ AF3
  ihave AR00 := (recv_any I c 0 2 rfl 0) $$ AR00
  ihave AR01 := (recv_any I c 0 2 rfl 1) $$ AR01
  ihave AR02 := (recv_any I c 0 2 rfl 2) $$ AR02
  ihave AR03 := (recv_any I c 0 2 rfl 3) $$ AR03
  ihave AR10 := (recv_any I c 1 1 rfl 0) $$ AR10
  ihave AR11 := (recv_any I c 1 1 rfl 1) $$ AR11
  ihave AR12 := (recv_any I c 1 1 rfl 2) $$ AR12
  ihave AR13 := (recv_any I c 1 1 rfl 3) $$ AR13
  ihave AR20 := (recv_any I c 2 0 rfl 0) $$ AR20
  ihave AR21 := (recv_any I c 2 0 rfl 1) $$ AR21
  ihave AR22 := (recv_any I c 2 0 rfl 2) $$ AR22
  ihave AR23 := (recv_any I c 2 0 rfl 3) $$ AR23
  ihave S4 := (sa_whole (F := F) c) $$ [SA0 SA1 SA2]
  · isplitl [SA0]; · iexact SA0
    isplitl [SA1]; · iexact SA1
    iexact SA2
  ihave S5 := (ra_whole (F := F) c) $$ [RA0 RA1 RA2]
  · isplitl [RA0]; · iexact RA0
    isplitl [RA1]; · iexact RA1
    iexact RA2
  ihave S6 := (qb_whole (F := F) c) $$ [Q0 Q1 Q2 Q3]
  · isplitl [Q0]; · iexact Q0
    isplitl [Q1]; · iexact Q1
    isplitl [Q2]; · iexact Q2
    iexact Q3
  ihave S7 := (rb_whole (F := F) c) $$ [RB0 RB1 RB2]
  · isplitl [RB0]; · iexact RB0
    isplitl [RB1]; · iexact RB1
    iexact RB2
  ihave S8 := (ag_whole (F := F) c) $$ [AO AF1 AF2 AF3 AR20 AR21 AR22 AR23 AR10 AR11 AR12 AR13 AR00 AR01 AR02 AR03]
  · isplitl [AO]; · iexact AO
    isplitl [AF1 AF2 AF3]
    · isplitl [AF1]; · iexact AF1
      isplitl [AF2]; · iexact AF2
      iexact AF3
    isplitl [AR20 AR21 AR22 AR23]
    · isplitl [AR20]; · iexact AR20
      isplitl [AR21]; · iexact AR21
      isplitl [AR22]; · iexact AR22
      iexact AR23
    isplitl [AR10 AR11 AR12 AR13]
    · isplitl [AR10]; · iexact AR10
      isplitl [AR11]; · iexact AR11
      isplitl [AR12]; · iexact AR12
      iexact AR13
    isplitl [AR00]; · iexact AR00
    isplitl [AR01]; · iexact AR01
    isplitl [AR02]; · iexact AR02
    iexact AR03
  ihave HU := (Entails.of_eq (chs_eq (fun x => shut (F := F) (false, x) c)).symm) $$ [UA UB UZ UQ0 UQ1 UQ2 UQ3]
  · isplitl [UA]; · iexact UA
    isplitl [UB]; · iexact UB
    isplitl [UZ]; · iexact UZ
    isplitl [UQ0]; · iexact UQ0
    isplitl [UQ1]; · iexact UQ1
    isplitl [UQ2]; · iexact UQ2
    iexact UQ3
  ihave HU' := (Entails.of_eq (chs_eq (fun x => shut (F := F) (true, x) c)).symm) $$ [UA' UB' UZ0 UZ1 UZ2 UP0 UP1 UP2 UP3]
  · isplitl [UA']; · iexact UA'
    isplitl [UB']; · iexact UB'
    isplitl [UZ0 UZ1 UZ2]
    · isplitl [UZ0]; · iexact UZ0
      isplitl [UZ1]; · iexact UZ1
      iexact UZ2
    isplitl [UP0]; · iexact UP0
    isplitl [UP1]; · iexact UP1
    isplitl [UP2]; · iexact UP2
    iexact UP3
  isplitl [Hi]; · iexact Hi
  isplitl [Ho]; · iexact Ho
  isplitl [S0]; · iexists _; iexact S0
  isplitl [S1]; · iexists _; iexact S1
  isplitl [S2]; · iexists _; iexact S2
  isplitl [S3]; · iexists _; iexact S3
  isplitl [S4]; · iexact S4
  isplitl [S5]; · iexact S5
  isplitl [S6]; · iexact S6
  isplitl [S7]; · iexact S7
  isplitl [S8]; · iexact S8
  isplitl [HB]; · iexact HB
  isplitl [HU]; · iexact HU
  isplitl [HU']; · iexact HU'
  iexact HO
end Cert.Moe

end
-- ==== Proof.Text.lean ====
module

public import proofs.«01_k».proof.Proof.Stretches

/-!
# The printed body is its stretches
-/

@[expose] public section

set_option maxRecDepth 1000000

noncomputable section

namespace Cert.Moe

open Cert.KernelIdeal Cert.KernelIdeal.Gen
open Idealize.ShloMosaic Idealize.ShloMosaic.TcCoe
open Idealize.SL Idealize.SL.Sem

variable {F : FTy → Type} [FloatOps F]

set_option maxHeartbeats 0 in
/-- The printed body is the stretches in order. -/
theorem body_stretches : cc0_body (F := F) xM (Memref.isWhole_whole _) rwM (Memref.isWhole_whole _) idxM (Memref.isWhole_whole _) ewM (Memref.isWhole_whole _) outM (Memref.isWhole_whole _) g0M (Memref.isWhole_whole _) g1M (Memref.isWhole_whole _) posM (Memref.isWhole_whole _) ewbM (Memref.isWhole_whole _) saM (Memref.isWhole_whole _) raM (Memref.isWhole_whole _) qbM (Memref.isWhole_whole _) rbM (Memref.isWhole_whole _) agM (Memref.isWhole_whole _) cc0_scratch9 cc0_scratch10 cc0_scratch11 cc0_scratch12 cc0_scratch13 cc0_scratch14
    = (Prog.lift .deviceId >>= fun d => stretches d) := by
  rw [cc0_body_eq_skeleton]
  simp only [cc0_body_skel, semSignalWord, semWaitWord, storeSubelements, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, Prog.lift, Prog.bind_op, Prog.bind_ret, Prog.pure_eq_ret]
  simp only [stretches, prelude, expert, quarterA, quarterO, quarterIn, groupIn, groupB, groupO, finish, outOwn, outRecv, sendD, waitD, load, semSignalWord, semWaitWord, storeSubelements, Prog.lift, Prog.bind_op, Prog.bind_ret, Prog.pure_eq_ret]
  simp only [selV, ycV, rowV, yoV, poV, segV, segbV, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126]
  chain_rfl

end Cert.Moe

end
-- ==== Proof.Launch.lean ====
module

public import proofs.«01_k».proof.Proof.Body
public import proofs.«01_k».proof.Proof.Text
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

/-!
# The launch

What the launch hands each device, the body's run inside it, and the run of the whole program from any memory with
zero counters: the arguments stay, the result is what the blocks' contents say, and every counter ends at zero.
-/

@[expose] public section

set_option maxRecDepth 16384

noncomputable section

namespace Cert.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Cells
/-- A device's cells: the barrier's, the leaving ends, the arriving ends. -/
def ciEquiv : Unit ⊕ (Ch ⊕ Ch) ≃ CI where
  toFun | .inl _ => none | .inr (.inl x) => some (false, x) | .inr (.inr x) => some (true, x)
  invFun | none => .inl () | some (false, x) => .inr (.inl x) | some (true, x) => .inr (.inr x)
  left_inv | .inl _ => rfl | .inr (.inl _) => rfl | .inr (.inr _) => rfl
  right_inv | none => rfl | some (false, _) => rfl | some (true, _) => rfl
def endEquiv : Ch ⊕ Ch ≃ Bool × Ch where
  toFun | .inl x => (false, x) | .inr x => (true, x)
  invFun | (false, x) => .inl x | (true, x) => .inr x
  left_inv | .inl _ => rfl | .inr _ => rfl
  right_inv | (false, _) => rfl | (true, _) => rfl
theorem ci_eq (Φ : CI → sProp 𝕄) : bigSep Finset.univ Φ
    = iprop(Φ none ∗ (bigSep Finset.univ fun x : Ch => Φ (some (false, x))) ∗ (bigSep Finset.univ fun x : Ch => Φ (some (true, x)))) := by
  rw [bigSep_univ_equiv ciEquiv Φ, bigSep_univ_sum, bigSep_univ_sum, bigSep_univ_of_subsingleton ()]
  rfl
theorem ends_eq (Φ : Bool × Ch → sProp 𝕄) : bigSep Finset.univ Φ
    = iprop((bigSep Finset.univ fun x : Ch => Φ (false, x)) ∗ (bigSep Finset.univ fun x : Ch => Φ (true, x))) := by
  rw [bigSep_univ_equiv endEquiv Φ, bigSep_univ_sum]
  rfl

theorem reg_ne_dma (b : DmaSem sig) : (SemLoc.reg barS : SemLoc sig) ≠ .dma b := fun h => by cases h
theorem csem_injective : Function.Injective csem
  | none, none, _ => rfl
  | none, some _, h => absurd h (reg_ne_dma _)
  | some _, none, h => absurd h.symm (reg_ne_dma _)
  | some _, some _, h => congrArg some (semOf_inj (SemLoc.dma.inj h))
theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]
def allCells : Finset (GSem nD τ sig) := Finset.univ.map ⟨kcell, kcell_injective⟩

/-- The duty tokens of a device's own cells as minted. -/
abbrev tokOf (cj : Dev nD × (Fin 6 ⊕ (Bool × Ch))) : GSem nD τ sig × ℕ × Fin 6 := match cj.2 with
  | .inl i => (barCell cj.1, 0, i) | .inr p => (chCell p cj.1, 0, 0)
theorem tokOf_injective : Function.Injective tokOf := by
  rintro ⟨c, j⟩ ⟨c', j'⟩ h
  have h1 : c = c' := by
    have := congrArg (fun x : GSem nD τ sig × ℕ × Fin 6 => x.1.1.1) h
    cases j <;> cases j' <;> exact this
  subst h1
  have h2 := congrArg (fun x : GSem nD τ sig × ℕ × Fin 6 => x.1.2) h
  have h3 := congrArg (fun x : GSem nD τ sig × ℕ × Fin 6 => x.2.2) h
  cases j with
  | inl i => cases j' with
    | inl i' => exact congrArg (fun i => (c, Sum.inl i)) h3
    | inr p' => exact absurd h2 (reg_ne_dma _)
  | inr p => cases j' with
    | inl i' => exact absurd h2.symm (reg_ne_dma _)
    | inr p' => exact congrArg (fun p => (c, Sum.inr p)) (semOf_inj (SemLoc.dma.inj h2))
def allToks : Finset (GSem nD τ sig × ℕ × Fin 6) := Finset.univ.map ⟨tokOf, tokOf_injective⟩

def u₀ : UU := (initOf (Pipeline.cells cfgs cellOf_inj) (Pipeline.launchToks cfgs cellOf_inj), initOf allCells allToks)
end Cells

section Ghost
variable (I : Inp F)

/-- The duty tokens of device `c`'s own cells; -/
def toks (c : Dev nD) : sProp 𝕄 := iprop((bigSep Finset.univ fun i : Fin 6 => dutyTok ER (barCell c) 0 i) ∗ (bigSep Finset.univ fun p : Bool × Ch => dutyTok ER (chCell p c) 0 0))
/-- those of the duties device `c` pays. -/
def payToks (c : Dev nD) : sProp 𝕄 :=
  iprop((bigSep Finset.univ fun i : Fin 6 => dutyTok ER (barCell (peer i c)) 0 (dual i)) ∗ (bigSep Finset.univ fun x : Ch => ready (F := F) x c))

/-- What the launch element deals device `c`. -/
def G (c : Dev nD) : sProp 𝕄 :=
  iprop((bigSep Finset.univ fun k : CI => roundState ER (Rd I) (kcell (c, k)) 0)
    ∗ (bigSep Finset.univ fun k : CI => iprop(atPos ER (kcell (c, k)) 0 ∅ 0 ∗ reached ER (kcell (c, k)) 0)) ∗ toks c)
/-- What stays with device `c`: its positions, and the tokens of the duties it pays. -/
def linear (c : Dev nD) : sProp 𝕄 := iprop((bigSep Finset.univ fun k : CI => atPos ER (kcell (c, k)) 0 ∅ 0) ∗ payToks c)
def records (K : Dev nD × CI → ℕ) : sProp 𝕄 :=
  iprop((bigSep Finset.univ fun ck : Dev nD × CI => cellInv ER (Rd I) (K ck) (kcell ck))
    ∗ bigSep Finset.univ fun ck : Dev nD × CI => reached ER (kcell ck) 0)
instance records_persistent (K : Dev nD × CI → ℕ) : BI.Persistent (records I K) := by unfold records; infer_instance
def G' (c : Dev nD) : sProp 𝕄 := iprop(∃ K, records I K ∗ linear c)

theorem fund_all : BI.own (ER (initOf allCells allToks)) ⊢ (|==> bigSep Finset.univ (G I) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum]; rfl
  iintro HX
  imod (Rounds.fund ER (Rd I) allCells allToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The kernel's own semaphores: the channels' ends. -/
abbrev osem : Bool × Ch → SemLoc sig := fun p => .dma (semOf p)
theorem own_disj : ∀ x ∈ allCh, ∀ (w : Fin 5) (s : Fin (spec0 w).nbuf), (SemLoc.dma (sndS x) : SemLoc sig) ≠ .dma ((spec0 w).sem s) ∧ (SemLoc.dma (rcvS x) : SemLoc sig) ≠ .dma ((spec0 w).sem s) := by decide +kernel
theorem own_scoped : ∀ x ∈ allCh, (SemLoc.dma (sndS x) : SemLoc sig).isScoped .tc = true ∧ (SemLoc.dma (rcvS x) : SemLoc sig).isScoped .tc = true := by decide +kernel
theorem ownSemFacts : Pipeline.OwnSemFacts cfg0.spec osem where
  isScoped | (false, x) => (own_scoped x (mem_allCh x)).1 | (true, x) => (own_scoped x (mem_allCh x)).2
  inj _ _ h := semOf_inj (SemLoc.dma.inj h)
  disj | (false, x) => fun w s => (own_disj x (mem_allCh x) w s).1 | (true, x) => fun w s => (own_disj x (mem_allCh x) w s).2

theorem ownSems0_eq (c : Dev nD) : (Pipeline.ownSems0 (Ix := Unit) (Name := ℕ) (U := UU) (Lvl := ℕ) (Val := Elt F) (τ := τ) osem c : sProp 𝕄)
    = iprop((bigSep Finset.univ fun x : Ch => shut (F := F) (false, x) c) ∗ (bigSep Finset.univ fun x : Ch => shut (F := F) (true, x) c)) := by
  unfold Pipeline.ownSems0
  rw [ends_eq]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [ownSems0_eq, unscopedSems0_eq, ci_eq]
  iintro ⟨⟨HS, HV⟩, HB⟩
  isplitl [HB]; · iexact HB
  isplitl [HS]; · iexact HS
  iexact HV

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun k : CI => iprop(∃ κ : ℕ, cellInv ER (Rd I) κ (kcell (c, k))))
          ∗ (bigSep Finset.univ fun k : CI => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd I) (kcell (c, k)) 0)
      ⊢ (|={Set.univ}=> bigSep Finset.univ fun k : CI => iprop(∃ κ : ℕ, cellInv ER (Rd I) κ (kcell (c, k))) : sProp 𝕄) from by
        rw [← bigSep_sep']
        exact (bigSep_mono fun k _ => (Rounds.body_intro ER (Rd I) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A barrier token and the signal that pays it, device by device. -/
def barEquiv : Dev nD × Fin 6 ≃ Dev nD × Fin 6 where
  toFun p := (peer p.2 p.1, dual p.2)
  invFun p := (peer p.2 p.1, dual p.2)
  left_inv p := Prod.ext (peer_dual p.2 p.1) (dual_dual p.2)
  right_inv p := Prod.ext (peer_dual p.2 p.1) (dual_dual p.2)

theorem bar_around : (bigSep Finset.univ fun c : Dev nD => bigSep Finset.univ fun i : Fin 6 => (dutyTok ER (barCell c) 0 i : sProp 𝕄))
    = bigSep Finset.univ fun c : Dev nD => bigSep Finset.univ fun i : Fin 6 => dutyTok ER (barCell (peer i c)) 0 (dual i) := by
  rw [← bigSep_univ_prod (fun p : Dev nD × Fin 6 => (dutyTok ER (barCell p.1) 0 p.2 : sProp 𝕄)),
    ← bigSep_univ_prod (fun p : Dev nD × Fin 6 => (dutyTok ER (barCell (peer p.2 p.1)) 0 (dual p.2) : sProp 𝕄)), bigSep_univ_equiv barEquiv]
  rfl
theorem ch_around : (bigSep Finset.univ fun c : Dev nD => bigSep Finset.univ fun x : Ch => (dutyTok ER (chCell (true, x) c) 0 0 : sProp 𝕄))
    = bigSep Finset.univ fun c : Dev nD => bigSep Finset.univ fun x : Ch => dutyTok ER (chCell (true, x) (tgt x c)) 0 0 := by
  rw [bigSep_univ_comm, bigSep_univ_comm (fun (c : Dev nD) (x : Ch) => (dutyTok ER (chCell (true, x) (tgt x c)) 0 0 : sProp 𝕄))]
  exact bigSep_congr fun x _ => bigSep_univ_equiv (tgtEquiv x) (fun c : Dev nD => (dutyTok ER (chCell (true, x) c) 0 0 : sProp 𝕄))
/-- The tokens dealt out to the devices that pay. -/
theorem toks_around : (bigSep Finset.univ fun c : Dev nD => (toks c : sProp 𝕄)) ⊢ bigSep Finset.univ fun c : Dev nD => payToks c := by
  unfold toks payToks ready
  rw [bigSep_sep', bigSep_sep', bar_around, bigSep_congr (s := Finset.univ) (fun (c : Dev nD) _ => ends_eq (fun p : Bool × Ch => (dutyTok ER (chCell p c) 0 0 : sProp 𝕄))),
    bigSep_sep', ch_around,
    bigSep_congr (s := Finset.univ) (fun (c : Dev nD) _ => bigSep_sep' Finset.univ (fun x : Ch => (dutyTok ER (chCell (false, x) c) 0 0 : sProp 𝕄)) (fun x => dutyTok ER (chCell (true, x) (tgt x c)) 0 0)),
    bigSep_sep']

theorem bigSep_with {J : Type} [DecidableEq J] {S : Finset J} {R : sProp 𝕄} [BI.Persistent R] {Φ Ψ : J → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)
theorem ghost_intro (K : Dev nD × CI → ℕ) (c : Dev nD) : iprop(records I K ∗ linear c) ⊢ G' I c := by
  unfold G'; iintro H; iexists K; iexact H

theorem regroup :
    (bigSep Finset.univ fun c : Dev nD => iprop((bigSep Finset.univ fun k : CI => iprop(∃ κ : ℕ, cellInv ER (Rd I) κ (kcell (c, k))))
          ∗ (bigSep Finset.univ fun k : CI => iprop(atPos ER (kcell (c, k)) 0 ∅ 0 ∗ reached ER (kcell (c, k)) 0)) ∗ toks c) : sProp 𝕄)
      ⊢ bigSep Finset.univ (G' I) := by
  rw [bigSep_sep', bigSep_sep', ← bigSep_univ_prod (fun ck : Dev nD × CI => iprop(∃ κ : ℕ, cellInv ER (Rd I) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HK := (BI.bigSep_exists_pi Finset.univ (fun (ck : Dev nD × CI) (κ : ℕ) => (cellInv ER (Rd I) κ (kcell ck) : sProp 𝕄))) $$ HI
  icases HK with ⟨%K, #HI⟩
  ihave Htk := (toks_around (F := F)) $$ Htok
  iapply (bigSep_with (R := records I K) fun c _ => ghost_intro I K c)
  isplitr
  · unfold records; isplitl; · iexact HI
    iexact HR
  · iapply (Entails.of_eq (bigSep_sep' Finset.univ (fun c : Dev nD => bigSep Finset.univ fun k : CI => (atPos ER (kcell (c, k)) 0 ∅ 0 : sProp 𝕄)) payToks).symm)
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))
end Ghost

/-! ## What the launch lends each device -/

section Credit
abbrev O₀ (c : Dev nD) : CellTallies nD τ sig Unit := owedL c (D 0)

theorem owedL_apply (d : Dev nD) (g : GSem nD τ sig) : ∀ l, owedL d l g () = (l.map fun e => if g = dueCell d e then dueN e else 0).sum
  | [] => rfl
  | e :: l => by
    unfold owedL
    rw [Pi.add_apply, Finsupp.add_apply, owedL_apply d g l, tallyAt_apply, List.map_cons, List.sum_cons, add_comm]
    congr 1
    by_cases h : g = dueCell d e
    · rw [if_pos ⟨h, rfl⟩, if_pos h]
    · rw [if_neg (fun h' => h h'.1), if_neg h]
theorem sum_list (f : Dev nD → Due → ℕ) : ∀ l : List Due, (∑ d, (l.map (f d)).sum) = (l.map fun e => ∑ d, f d e).sum
  | [] => by simp
  | e :: l => by simp only [List.map_cons, List.sum_cons, Finset.sum_add_distrib, sum_list f l]

theorem due_bar (c : Dev nD) (i : Fin 6) : (∑ d, if barCell c = dueCell d (.bar i) then dueN (.bar i) else 0) = 1 := by
  rw [Finset.sum_eq_single (peer (dual i) c)]
  · exact if_pos (by show barCell c = barCell (peer i (peer (dual i) c)); rw [dual_peer])
  · intro d _ h
    refine if_neg fun e => h ?_
    have : c = peer i d := congrArg (fun g : GSem nD τ sig => g.1.1) e
    rw [this, peer_dual]
  · exact fun h => absurd (Finset.mem_univ _) h
theorem due_bar_ch (c : Dev nD) (x : Ch) : (∑ d, if barCell c = dueCell d (.ch x) then dueN (.ch x) else 0) = 0 := by
  refine Finset.sum_eq_zero fun d _ => if_neg fun e => ?_
  have h : (SemLoc.reg barS : SemLoc sig) = .dma (semOf (true, x)) := congrArg Prod.snd e
  exact reg_ne_dma _ h
theorem due_ch_bar (c : Dev nD) (x : Ch) (i : Fin 6) : (∑ d, if chCell (true, x) c = dueCell d (.bar i) then dueN (.bar i) else 0) = 0 := by
  refine Finset.sum_eq_zero fun d _ => if_neg fun e => ?_
  have h : (SemLoc.dma (semOf (true, x)) : SemLoc sig) = .reg barS := congrArg Prod.snd e
  exact reg_ne_dma _ h.symm
theorem due_ch (c : Dev nD) (x y : Ch) : (∑ d, if chCell (true, x) c = dueCell d (.ch y) then dueN (.ch y) else 0) = if x = y then amt y else 0 := by
  by_cases h : x = y
  · subst h
    rw [if_pos rfl, Finset.sum_eq_single (frm x c)]
    · exact if_pos (by show chCell (true, x) c = chCell (true, x) (tgt x (frm x c)); rw [tgt_frm])
    · intro d _ h
      refine if_neg fun e => h ?_
      have : c = tgt x d := congrArg (fun g : GSem nD τ sig => g.1.1) e
      rw [this, frm_tgt]
    · exact fun h => absurd (Finset.mem_univ _) h
  · rw [if_neg h]
    refine Finset.sum_eq_zero fun d _ => if_neg fun e => h ?_
    have e2 : (SemLoc.dma (semOf (true, x)) : SemLoc sig) = .dma (semOf (true, y)) := congrArg Prod.snd e
    exact congrArg Prod.snd (semOf_inj (SemLoc.dma.inj e2))

theorem D0 : D 0 = allDue := rfl
theorem lent_bar (c : Dev nD) : (∑ d, O₀ d (barCell c) ()) = 6 := by
  simp only [O₀, D0, owedL_apply]
  rw [sum_list (fun d e => if barCell c = dueCell d e then dueN e else 0)]
  unfold allDue
  simp only [List.map_cons, List.map_nil, due_bar, due_bar_ch]
  rfl
theorem once : ∀ x ∈ allCh, (allDue.map fun e => match e with | .bar _ => 0 | .ch y => if x = y then amt y else 0).sum = amt x := by
  intro x hx
  unfold allCh at hx
  fin_cases hx <;> (unfold allDue; simp)
theorem lent_ch (c : Dev nD) (x : Ch) : (∑ d, O₀ d (chCell (true, x) c) ()) = amt x := by
  simp only [O₀, D0, owedL_apply]
  rw [sum_list (fun d e => if chCell (true, x) c = dueCell d e then dueN e else 0), ← once x (mem_allCh x)]
  refine congrArg List.sum (List.map_congr_left fun e _ => ?_)
  cases e with
  | bar i => exact due_ch_bar c x i
  | ch y => exact due_ch c x y

theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, lent_bar]
theorem launch_ch (c : Dev nD) (x : Ch) :
    tallyOn (chCell (true, x) c) (launchCredit (Pipeline.owing O₀) 0 (chCell (true, x) c)) = (tallyAt (chCell (true, x) c) () (amt x) : CellTallies nD τ sig Unit) := by
  unfold tallyAt; refine congrArg _ (Finsupp.ext fun u => ?_); cases u
  rw [Pipeline.launchCredit_owing, Finsupp.single_eq_same, lent_ch]

def arrEmb : Ch ↪ SemLoc sig := ⟨fun x => .dma (semOf (true, x)), fun x y h => congrArg Prod.snd (semOf_inj (SemLoc.dma.inj h))⟩
theorem creds (c : Dev nD) :
    (Pipeline.launchCred O₀ c : sProp 𝕄) ⊢ iprop(cred (tallyAt (barCell c) () 6) ∗ bigSep Finset.univ fun x : Ch => cred (tallyAt (chCell (true, x) c) () (amt x))) := by
  unfold Pipeline.launchCred
  rw [bigSep_univ_at _ (SemLoc.reg barS), launch_bar]
  refine sep_mono_right ?_
  refine (bigSep_subset (t := Finset.univ.map arrEmb) fun g hg => ?_).trans ?_
  · obtain ⟨x, -, rfl⟩ := Finset.mem_map.mp hg
    exact Finset.mem_erase.mpr ⟨fun h => reg_ne_dma _ h.symm, Finset.mem_univ _⟩
  · rw [bigSep_map]
    exact Entails.of_eq (bigSep_congr fun x _ => congrArg cred (launch_ch c x))
end Credit

/-! ## The body inside the launch -/

variable (m : (ℓ : Loc nD τ sig) → Buf (Elt F) ℓ) (ρ : Dev nD → PrngReg)

/-- The memory at the start. -/
def s₀ : MemSt nD τ sig (Elt F) := ⟨m, fun _ => 0, ρ⟩

/-- The arguments, device by device, as staged. -/
def inputs : Inp F where
  x c := (win0_0.blk (0 : Fin 1)).view.read (Elt F) (m ((c : Thread nD τ).loc main_arg0))
  rw c := (win0_1.blk (0 : Fin 1)).view.read (Elt F) (m ((c : Thread nD τ).loc main_arg1))
  idx c := (win0_2.blk (0 : Fin 1)).view.read (Elt F) (m ((c : Thread nD τ).loc main_arg2))
  ew c := (win0_3.blk (0 : Fin 1)).view.read (Elt F) (m ((c : Thread nD τ).loc main_arg3))

def scratch (c : Dev nD) : sProp 𝕄 := iprop(
  (∃ f, wh (F := F) c cc0_scratch0 f) ∗ (∃ f, wh (F := F) c cc0_scratch1 f) ∗ (∃ f, wh (F := F) c cc0_scratch2 f)
  ∗ (∃ f, wh (F := F) c cc0_scratch3 f) ∗ (∃ f, wh (F := F) c cc0_scratch4 f) ∗ (∃ f, wh (F := F) c cc0_scratch5 f)
  ∗ (∃ f, wh (F := F) c cc0_scratch6 f) ∗ (∃ f, wh (F := F) c cc0_scratch7 f) ∗ (∃ f, wh (F := F) c cc0_scratch8 f))
def sixToks (c : Dev nD) : sProp 𝕄 := iprop(dutyTok ER (barCell (peer 0 c)) 0 (dual 0) ∗ dutyTok ER (barCell (peer 1 c)) 0 (dual 1) ∗ dutyTok ER (barCell (peer 2 c)) 0 (dual 2)
    ∗ dutyTok ER (barCell (peer 3 c)) 0 (dual 3) ∗ dutyTok ER (barCell (peer 4 c)) 0 (dual 4) ∗ dutyTok ER (barCell (peer 5 c)) 0 (dual 5))
/-- What device `c`'s body starts from. -/
def start (c : Dev nD) : sProp 𝕄 := iprop((∃ K, recs (inputs m) K)
  ∗ sixToks c ∗ (bigSep Finset.univ fun x : Ch => go (F := F) x c) ∗ (bigSep Finset.univ fun x : Ch => wait (F := F) (true, x) c)
  ∗ (atPos ER (barCell c) 0 ∅ 0 ∗ cred (tallyAt (barCell c) () 6)))
def Φ₀ (c : Dev nD) : sProp 𝕄 := iprop(start m c ∗ scratch c)
def Φ₁ (c : Dev nD) : sProp 𝕄 := iprop(scratch (F := F) c ∗ semVal (barCell c) 0
  ∗ (bigSep Finset.univ fun x : Ch => shut (F := F) (false, x) c) ∗ (bigSep Finset.univ fun x : Ch => shut (F := F) (true, x) c))

def dats (_ : Fin 1) (c : Dev nD) : Dat τ (Elt F) Unit ℕ UU ℕ cfg0 c where
  A w := m ((cfg0.win w).arr.view.loc (c : Thread nD τ))
  after w _ := match w with
    | ⟨0, _⟩ => (inputs m).x c
    | ⟨1, _⟩ => (inputs m).rw c
    | ⟨2, _⟩ => (inputs m).idx c
    | ⟨3, _⟩ => (inputs m).ew c
    | ⟨4, _⟩ => OUT (inputs m) c
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))
def bodyPost (c : Dev nD) : sProp 𝕄 :=
  iprop(Φ₁ c ∗ (dats m 0 c).owesAt () t0_0.succ ∗ stg c cc0_stg0_0 ((inputs m).x c) ∗ stg c cc0_stg1_0 ((inputs m).rw c)
    ∗ stg c cc0_stg2_0 ((inputs m).idx c) ∗ stg c cc0_stg3_0 ((inputs m).ew c) ∗ stg c cc0_stg4_0 (OUT (inputs m) c))

/-- The printed body runs as the stretches do. -/
theorem wp_body (c : Dev nD) {Q : PUnit → sProp 𝕄} : WP c (stretches c) Q ⊢ WP c (cc0_body (F := F) xM (Memref.isWhole_whole _) rwM (Memref.isWhole_whole _) idxM (Memref.isWhole_whole _) ewM (Memref.isWhole_whole _) outM (Memref.isWhole_whole _) g0M (Memref.isWhole_whole _) g1M (Memref.isWhole_whole _) posM (Memref.isWhole_whole _) ewbM (Memref.isWhole_whole _) saM (Memref.isWhole_whole _) raM (Memref.isWhole_whole _) qbM (Memref.isWhole_whole _) rbM (Memref.isWhole_whole _) agM (Memref.isWhole_whole _) cc0_scratch9 cc0_scratch10 cc0_scratch11 cc0_scratch12 cc0_scratch13 cc0_scratch14) Q := by
  rw [body_stretches]
  unfold WP
  simp only [Prog.lift, Prog.bind_op, Prog.bind_ret, wp_deviceId]
  exact Entails.refl _

theorem after_post (c : Dev nD) : afterwards (inputs m) c ⊢ bodyPost m c := by
  unfold afterwards inp Ow bodyPost Φ₁ scratch Dat.owesAt Pipeline.owesWithin
  iintro ⟨⟨Hx, Hr, Hi, He⟩, Hout, S0, S1, S2, S3, S4, S5, S6, S7, S8, HB, HU, HU', ⟨%W', HO⟩⟩
  isplitl [S0 S1 S2 S3 S4 S5 S6 S7 S8 HB HU HU']
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    isplitl [HB]; · iexact HB
    isplitl [HU]; · iexact HU
    iexact HU'
  isplitl [HO]
  · iexists W'
    isplitr; · ipureintro; exact fun _ _ => Or.inl trivial
    iexact HO
  isplitl [Hx]
  · iexists _; isplitr; · (ipureintro; rfl)
    iexact Hx
  isplitl [Hr]
  · iexists _; isplitr; · (ipureintro; rfl)
    iexact Hr
  isplitl [Hi]
  · iexists _; isplitr; · (ipureintro; rfl)
    iexact Hi
  isplitl [He]
  · iexists _; isplitr; · (ipureintro; rfl)
    iexact He
  iexists _; isplitr; · (ipureintro; rfl)
  iexact Hout

theorem run_body (c : Dev nD) : bodyPre m c ⊢ WP c (stretches c) (fun _ => bodyPost m c) := by
  unfold bodyPre Φ₀ start sixToks scratch
  iintro ⟨⟨⟨⟨%K, #HR⟩, HT, HG, HV, HB⟩, HS⟩, Ho, ⟨%d0, %g0, %hg0, Hx⟩, ⟨%d1, %g1, %hg1, Hr⟩, ⟨%d2, %g2, %hg2, Hi⟩, ⟨%d3, %g3, %hg3, He⟩, ⟨%d4, %g4, %hg4, Hout⟩⟩
  have h0 : g0 = (inputs m).x c := by rw [hg0]; unfold Dat.before; rw [if_pos (fetch0_0 t0_0)]; rfl
  have h1 : g1 = (inputs m).rw c := by rw [hg1]; unfold Dat.before; rw [if_pos (fetch0_1 t0_0)]; rfl
  have h2 : g2 = (inputs m).idx c := by rw [hg2]; unfold Dat.before; rw [if_pos (fetch0_2 t0_0)]; rfl
  have h3 : g3 = (inputs m).ew c := by rw [hg3]; unfold Dat.before; rw [if_pos (fetch0_3 t0_0)]; rfl
  subst h0 h1 h2 h3
  unfold Dat.owesAt Pipeline.owesWithin
  icases Ho with ⟨%W, %hW, HO⟩
  icases HS with ⟨S0, S1, S2, S3, S4, S5, S6, S7, S8⟩
  ihave HW := (run_stretches (inputs m) K c) $$ [HT HG HV HB HO Hx Hr Hi He Hout S0 S1 S2 S3 S4 S5 S6 S7 S8]
  · isplitr; · iexact HR
    unfold before inp Ow
    isplitl [HT]; · iexact HT
    isplitl [HG]; · iexact HG
    isplitl [HV]; · iexact HV
    isplitl [HB]; · iexact HB
    isplitl [HO]; · iexists W; iexact HO
    isplitl [Hx Hr Hi He]
    · isplitl [Hx]; · iexact Hx
      isplitl [Hr]; · iexact Hr
      isplitl [Hi]; · iexact Hi
      iexact He
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexists g4; iexact Hout
  iapply (show WP c (stretches c) (fun _ => afterwards (inputs m) c) ⊢ WP c (stretches c) (fun _ => bodyPost m c) from Idealize.SL.Sem.wp_mono _ _ _ (fun _ => after_post m c))
  iexact HW

/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact (run_body m c).trans (wp_body c)

theorem share_eq (c : Dev nD) (w : Fin cfg0.W) : (dats m 0 c).share w = fullShare := by unfold Dat.share; split <;> rfl

/-! ## The launch's side conditions -/

theorem six_eq (c : Dev nD) : (bigSep Finset.univ fun i : Fin 6 => (dutyTok ER (barCell (peer i c)) 0 (dual i) : sProp 𝕄)) = sixToks c := by
  rw [bigSep_univ_eq_bigSepL [0, 1, 2, 3, 4, 5] (by decide) (by decide)]
  simp only [bigSepL_cons_cons, bigSepL_singleton]
  rfl
theorem inv_at (I : Inp F) (K : Dev nD × CI → ℕ) (ck : Dev nD × CI) :
    (bigSep Finset.univ fun ck : Dev nD × CI => (cellInv ER (Rd I) (K ck) (kcell ck) : sProp 𝕄)) ⊢ cellInv ER (Rd I) (K ck) (kcell ck) :=
  bigSep_elim (Finset.mem_univ ck)
theorem reached_at (ck : Dev nD × CI) :
    (bigSep Finset.univ fun ck : Dev nD × CI => (reached ER (kcell ck) 0 : sProp 𝕄)) ⊢ reached ER (kcell ck) 0 :=
  bigSep_elim (Finset.mem_univ ck)
theorem recs_intro (I : Inp F) (K : Dev nD × CI → ℕ) : iprop(records I K ∗ levAts L lv) ⊢ recs I K := by
  unfold records recs
  iintro ⟨⟨#HI, #HR⟩, #HL⟩
  isplitr; · iintro %ck; iapply (inv_at I K ck); iexact HI
  isplitr; · iintro %ck; iapply (reached_at (F := F) ck); iexact HR
  iexact HL

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inputs m) c)
      ⊢ |={Set.univ}=> iprop(start m c ∗ emp) := by
  unfold G' linear payToks
  iintro ⟨-, Hlev, Hcr, -, ⟨%K, HR, Hat, HT, Hready⟩⟩
  ihave Hc := (creds (F := F) c) $$ Hcr
  icases Hc with ⟨HcB, HcV⟩
  ihave Hat := (Entails.of_eq (ci_eq (fun k : CI => (atPos ER (kcell (c, k)) 0 ∅ 0 : sProp 𝕄)))) $$ Hat
  icases Hat with ⟨HaB, HaS, HaV⟩
  ihave HT := (Entails.of_eq (six_eq (F := F) c)) $$ HT
  ihave HG := (Entails.of_eq (bigSep_sep' Finset.univ (fun x : Ch => (ready x c : sProp 𝕄)) (fun x => idle x c)).symm) $$ [Hready HaS]
  · isplitl [Hready]; · iexact Hready
    iexact HaS
  ihave HV := (Entails.of_eq (bigSep_sep' Finset.univ (fun x : Ch => (atPos ER (chCell (true, x) c) 0 ∅ 0 : sProp 𝕄)) (fun x => cred (tallyAt (chCell (true, x) c) () (amt x)))).symm) $$ [HaV HcV]
  · isplitl [HaV]; · iexact HaV
    iexact HcV
  imodintro
  isplitl
  · unfold start
    isplitl [HR Hlev]
    · iexists K; iapply (recs_intro (inputs m) K)
      isplitl [HR]; · iexact HR
      iexact Hlev
    isplitl [HT]; · iexact HT
    isplitl [HG]; · iexact HG
    isplitl [HV]; · iexact HV
    isplitl [HaB]; · iexact HaB
    iexact HcB
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁ scratch
  iintro ⟨Hr, HzB, HzS, HzV⟩
  isplitl [HzB]; · iexact HzB
  isplitl [HzS HzV]
  · isplitl [HzS] <;> iassumption
  iexact Hr

theorem lv_stage : ∀ (w : Fin 5) (s : Fin (spec0 w).nbuf), lvR (role (.dma ((spec0 w).sem s))) = 0 := by decide +kernel
theorem due_pos (d : Due) : 0 < lvD d := by
  cases d with
  | bar _ => exact Nat.one_pos
  | ch x => cases x <;> exact Nat.succ_pos _
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ (D 0) fun d _ => lt_of_eq_of_lt (lv_stage w s) (due_pos d)
    · exact mayWait c _ [] fun d h => absurd h List.not_mem_nil

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with zero counters every weakly fair execution ends, each array as `finalA` says and every counter
    at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (inputs m)) (G' := G' (inputs m)) (u₀ := u₀)
    (hu₀ := by
      unfold u₀
      iintro Hu
      ihave H := (ownU_pair _ _) $$ Hu
      icases H with ⟨HP, HX⟩
      imod (fund_all (inputs m)) $$ HX with HG
      imodintro
      isplitl [HP] <;> iassumption)
    (hglob := glob (inputs m))
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- An argument's array after the run holds what it held. -/
theorem finalA_in0 (c : Dev nD) : finalA m c (0 : Fin 5) = m (win0_0.arr.view.loc (c : Thread nD τ)) := (dats (F := F) m 0 c).arrAt_in (0 : Fin 5) rfl _
theorem finalA_in1 (c : Dev nD) : finalA m c (1 : Fin 5) = m (win0_1.arr.view.loc (c : Thread nD τ)) := (dats (F := F) m 0 c).arrAt_in (1 : Fin 5) rfl _
theorem finalA_in2 (c : Dev nD) : finalA m c (2 : Fin 5) = m (win0_2.arr.view.loc (c : Thread nD τ)) := (dats (F := F) m 0 c).arrAt_in (2 : Fin 5) rfl _
theorem finalA_in3 (c : Dev nD) : finalA m c (3 : Fin 5) = m (win0_3.arr.view.loc (c : Thread nD τ)) := (dats (F := F) m 0 c).arrAt_in (3 : Fin 5) rfl _

/-! ## The frames -/

/-- Every argument's array ends as it was, on every device, and every counter ends at zero. -/
theorem quiet (r : PUnit × MemSt nD τ sig (Elt F)) (h : QC m r ∧ r.2.sem = fun _ => 0) :
    (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  ⟨fun c => ⟨(h.1 c (0 : Fin 5)).trans (finalA_in0 m c), (h.1 c (1 : Fin 5)).trans (finalA_in1 m c),
    (h.1 c (2 : Fin 5)).trans (finalA_in2 m c), (h.1 c (3 : Fin 5)).trans (finalA_in3 m c)⟩, h.2⟩

end Cert.Moe

end
-- ==== Proof.Slots.lean ====
module

public import proofs.«01_k».proof.Proof.Vals
public import Idealize.ShloMosaic.Lib.Pointwise
public import Idealize.ShloMosaic.Lib.Affine

/-!
# Compacting a quarter's tokens into slots, and finding them again

Of a quarter's 256 tokens a device takes those routed to one of its four experts, in order, into at most 64 slots. Here
a token's slot is the number of the device's tokens before it, and a sum over the slots that asks for the token's slot
finds exactly that token. All sums are over extended reals.
-/

@[expose] public section

set_option maxRecDepth 16384

noncomputable section

namespace Cert.Moe

open Cert.KernelIdeal Cert.KernelIdeal.Gen
open Idealize.ShloMosaic Idealize.ShloMosaic.TcCoe

/-! ## Words -/

/-- A choice by a one-bit word. -/
theorem sel_def {α : Type} (c : BitVec 1) (a b : α) : Scalar.select c a b = if c = 1#1 then a else b := rfl

/-- A word divided by four, rounding down, as the kernel spells it. -/
def fl4 (i : BitVec 32) : BitVec 32 :=
  Scalar.select
    (IntOp.andi
      (IntOp.cmpi .ne (IntOp.subi (BitVec.setWidth 32 (IntOp.cmpi .sgt i 0#32)) (BitVec.setWidth 32 (IntOp.cmpi .slt i 0#32)))
        (Scalar.subi (Scalar.extui (Scalar.cmpi .sgt 4#32 0#32)) (Scalar.extui (Scalar.cmpi .slt 4#32 0#32))))
      (IntOp.cmpi .ne (IntOp.remsi ArithUnit.vector i 4#32) 0#32))
    (IntOp.subi (IntOp.divsi ArithUnit.vector i 4#32) 1#32)
    (IntOp.divsi ArithUnit.vector i 4#32)

/-- On an expert's number it is the number of the device that holds the expert. -/
theorem fl4_ofNat : ∀ k : Fin 64, fl4 (BitVec.ofNat 32 k.val) = BitVec.ofNat 32 (k.val / 4) := by decide +kernel

theorem fl4_eq {i : BitVec 32} (h : i.toNat < 64) : fl4 i = BitVec.ofNat 32 (i.toNat / 4) := by
  have := fl4_ofNat ⟨i.toNat, h⟩
  rwa [show BitVec.ofNat 32 (⟨i.toNat, h⟩ : Fin 64).val = i from by simp] at this

/-- Whether a token with these two experts is one of device `w`'s. -/
def hitB (w i0 i1 : BitVec 32) : BitVec 1 := IntOp.ori (IntOp.cmpi .eq (fl4 i0) w) (IntOp.cmpi .eq (fl4 i1) w)

/-- A device's number as the body computes it is its number. -/
theorem w2_eq : ∀ d : Dev nD, w2 d = BitVec.ofNat 32 d.val := by decide +kernel

theorem hitB_iff (d : Dev nD) {i0 i1 : BitVec 32} (h0 : i0.toNat < 64) (h1 : i1.toNat < 64) :
    hitB (w2 d) i0 i1 = 1#1 ↔ i0.toNat / 4 = d.val ∨ i1.toNat / 4 = d.val := by
  have hd : d.val < 16 := d.isLt
  have key : ∀ {i : BitVec 32}, i.toNat < 64 → (BitVec.ofNat 32 (i.toNat / 4) = BitVec.ofNat 32 d.val ↔ i.toNat / 4 = d.val) := by
    intro i hi
    constructor
    · intro e
      have := congrArg BitVec.toNat e
      simp only [BitVec.toNat_ofNat] at this
      omega
    · intro e; rw [e]
  unfold hitB
  rw [IntOp.ori_eq_one, IntOp.cmpi_eq, IntOp.cmpi_eq, fl4_eq h0, fl4_eq h1, w2_eq, key h0, key h1]

/-- The real number a count reads as, turned into a word, is the count. -/
theorem fptosi_nat {n : ℕ} (h : n < 2 ^ 31) : Ideal.fptosi 32 ((n : ℝ) : EReal) = BitVec.ofNat 32 n := by
  unfold Ideal.fptosi
  rw [show ((n : ℝ) : EReal) = (((n : ℝ)) : EReal) from rfl]
  show BitVec.ofInt 32 (max _ (min _ (if (0 : ℝ) ≤ (n : ℝ) then ⌊(n : ℝ)⌋ else ⌈(n : ℝ)⌉))) = _
  rw [if_pos (Nat.cast_nonneg n), Int.floor_natCast]
  rw [min_eq_right (by push_cast; omega), max_eq_right (by push_cast; omega)]
  simp

/-! ## Slots -/

/-- How many of the device's tokens there are up to and including token `r`. -/
def cnt (m : Fin 256 → BitVec 1) (r : Fin 256) : ℕ := (Finset.univ.filter fun x : Fin 256 => x ≤ r ∧ m x = 1#1).card

theorem cnt_le (m : Fin 256 → BitVec 1) (r : Fin 256) : cnt m r ≤ (Finset.univ.filter fun x : Fin 256 => m x = 1#1).card :=
  Finset.card_le_card fun x hx => by
    rw [Finset.mem_filter] at hx ⊢; exact ⟨hx.1, hx.2.2⟩

theorem cnt_pos {m : Fin 256 → BitVec 1} {r : Fin 256} (h : m r = 1#1) : 0 < cnt m r :=
  Finset.card_pos.mpr ⟨r, by rw [Finset.mem_filter]; exact ⟨Finset.mem_univ _, le_refl _, h⟩⟩

theorem cnt_lt {m : Fin 256 → BitVec 1} {r r' : Fin 256} (h : m r' = 1#1) (hlt : r < r') : cnt m r < cnt m r' := by
  refine Finset.card_lt_card ⟨fun x hx => ?_, fun hs => ?_⟩
  · rw [Finset.mem_filter] at hx ⊢; exact ⟨hx.1, le_trans hx.2.1 hlt.le, hx.2.2⟩
  · have := hs (show r' ∈ _ from by rw [Finset.mem_filter]; exact ⟨Finset.mem_univ _, le_refl _, h⟩)
    rw [Finset.mem_filter] at this
    exact absurd this.2.1 (not_le.mpr hlt)

/-- Two of the device's tokens with one count are one token. -/
theorem cnt_inj {m : Fin 256 → BitVec 1} {r r' : Fin 256} (h : m r = 1#1) (h' : m r' = 1#1) (e : cnt m r = cnt m r') : r = r' := by
  rcases lt_trichotomy r r' with hlt | he | hlt
  · exact absurd e (cnt_lt h' hlt).ne
  · exact he
  · exact absurd e.symm (cnt_lt h hlt).ne

/-- The running count as the kernel forms it: a product with a triangle of ones. -/
def posB (m : Fin 256 → BitVec 1) (r : Fin 256) : EReal :=
  ∑ x : Fin 256, Scalar.select (m x) (Scalar.select (IntOp.cmpi .sge (BitVec.ofNat 32 r.val) (BitVec.ofNat 32 x.val)) 1 0) 0

theorem sge_iff (r x : Fin 256) : IntOp.cmpi .sge (BitVec.ofNat 32 r.val) (BitVec.ofNat 32 x.val) = 1#1 ↔ x ≤ r := by
  rw [IntOp.cmpi_sge, Fin.le_def]
  have h1 := r.isLt; have h2 := x.isLt
  rw [BitVec.toInt_eq_toNat_of_lt (by simp only [BitVec.toNat_ofNat]; omega), BitVec.toInt_eq_toNat_of_lt (by simp only [BitVec.toNat_ofNat]; omega)]
  simp only [BitVec.toNat_ofNat]
  omega

theorem posB_eq (m : Fin 256 → BitVec 1) (r : Fin 256) : posB m r = ((cnt m r : ℝ) : EReal) := by
  have h : posB m r = ∑ x : Fin 256, if x ≤ r ∧ m x = 1#1 then (1 : EReal) else 0 := by
    unfold posB
    refine Finset.sum_congr rfl fun x _ => ?_
    rw [sel_def, sel_def]
    by_cases h1 : m x = 1#1
    · by_cases h2 : x ≤ r
      · rw [if_pos h1, if_pos ((sge_iff r x).mpr h2), if_pos ⟨h2, h1⟩]
      · rw [if_pos h1, if_neg (fun e => h2 ((sge_iff r x).mp e)), if_neg (fun e => h2 e.1)]
    · rw [if_neg h1, if_neg (fun e => h1 e.2)]
  rw [h, Finset.sum_boole]
  unfold cnt
  simp

theorem fptosi_posB (m : Fin 256 → BitVec 1) (r : Fin 256) : Ideal.fptosi 32 (posB m r) = BitVec.ofNat 32 (cnt m r) := by
  rw [posB_eq, fptosi_nat]
  have := cnt_le m r
  have h2 : (Finset.univ.filter fun x : Fin 256 => m x = 1#1).card ≤ 256 := (Finset.card_filter_le _ _).trans (by simp)
  omega

/-- Whether token `r` is in slot `s`, given its count as a real number. -/
def selB (m : Fin 256 → BitVec 1) (r : Fin 256) (s : Fin 64) : BitVec 1 :=
  IntOp.andi (IntOp.cmpi .eq (BitVec.ofNat 32 s.val) (IntOp.subi (Ideal.fptosi 32 (posB m r)) 1#32)) (m r)

theorem selB_iff (m : Fin 256 → BitVec 1) (r : Fin 256) (s : Fin 64) : selB m r s = 1#1 ↔ m r = 1#1 ∧ cnt m r = s.val + 1 := by
  unfold selB
  rw [IntOp.andi_eq_one, IntOp.cmpi_eq, fptosi_posB]
  have hs := s.isLt
  have h2 : (Finset.univ.filter fun x : Fin 256 => m x = 1#1).card ≤ 256 := (Finset.card_filter_le _ _).trans (by simp)
  have h3 := cnt_le m r
  constructor
  · rintro ⟨e, h⟩
    refine ⟨h, ?_⟩
    have := cnt_pos h
    have e' := congrArg BitVec.toNat e
    change (BitVec.ofNat 32 s.val).toNat = (BitVec.ofNat 32 (cnt m r) - 1#32).toNat at e'
    rw [BitVec.toNat_sub] at e'
    simp only [BitVec.toNat_ofNat] at e'
    omega
  · rintro ⟨h, e⟩
    refine ⟨?_, h⟩
    rw [e]
    apply BitVec.eq_of_toNat_eq
    show _ = (BitVec.ofNat 32 (s.val + 1) - 1#32).toNat
    rw [BitVec.toNat_sub]
    simp only [BitVec.toNat_ofNat]
    omega

/-- The slot of one of the device's tokens. -/
def slot (m : Fin 256 → BitVec 1) (hc : (Finset.univ.filter fun x : Fin 256 => m x = 1#1).card ≤ 64) (r : Fin 256) (h : m r = 1#1) : Fin 64 :=
  ⟨cnt m r - 1, by have := cnt_le m r; have := cnt_pos h; omega⟩

section Sums
variable {m : Fin 256 → BitVec 1} (hc : (Finset.univ.filter fun x : Fin 256 => m x = 1#1).card ≤ 64)

theorem selB_slot {r : Fin 256} (h : m r = 1#1) : selB m r (slot m hc r h) = 1#1 :=
  (selB_iff ..).mpr ⟨h, by have := cnt_pos h; show _ = cnt m r - 1 + 1; omega⟩

/-- A sum over the tokens in a token's slot is over that token alone. -/
theorem sum_tokens {M : Type} [AddCommMonoid M] {r : Fin 256} (h : m r = 1#1) (f : Fin 256 → M) :
    (∑ r', Scalar.select (selB m r' (slot m hc r h)) (f r') 0) = f r := by
  rw [Finset.sum_eq_single r]
  · rw [sel_def, if_pos (selB_slot hc h)]
  · intro r' _ hne
    rw [sel_def, if_neg]
    intro e
    have e1 := (selB_iff ..).mp e
    have e2 := (selB_iff ..).mp (selB_slot hc h)
    exact hne (cnt_inj e1.1 h (by omega))
  · intro hn; exact absurd (Finset.mem_univ _) hn

/-- A sum over the slots that hold a token is over its slot alone, and empty for another device's token. -/
theorem sum_slots {M : Type} [AddCommMonoid M] (r : Fin 256) (f : Fin 64 → M) :
    (∑ s, Scalar.select (selB m r s) (f s) 0) = if h : m r = 1#1 then f (slot m hc r h) else 0 := by
  split
  · rename_i h
    rw [Finset.sum_eq_single (slot m hc r h)]
    · rw [sel_def, if_pos (selB_slot hc h)]
    · intro s _ hne
      rw [sel_def, if_neg]
      intro e
      have e1 := (selB_iff ..).mp e
      refine hne (Fin.ext ?_)
      show s.val = cnt m r - 1
      omega
    · intro hn; exact absurd (Finset.mem_univ _) hn
  · rename_i h
    refine Finset.sum_eq_zero fun s _ => ?_
    rw [sel_def, if_neg]
    intro e
    exact h ((selB_iff ..).mp e).1

/-- The number (from 1) of the token in a slot, zero where there is none. -/
def idB (m : Fin 256 → BitVec 1) (s : Fin 64) : EReal :=
  ∑ r : Fin 256, Scalar.select (selB m r s) (((IntOp.addi (BitVec.ofNat 32 r.val) 1#32).toInt : ℝ) : EReal) 0

theorem idB_slot {r : Fin 256} (h : m r = 1#1) : Ideal.fptosi 32 (idB m (slot m hc r h)) = BitVec.ofNat 32 (r.val + 1) := by
  unfold idB
  rw [sum_tokens hc h]
  have hr := r.isLt
  have e : (IntOp.addi (BitVec.ofNat 32 r.val) 1#32) = BitVec.ofNat 32 (r.val + 1) := by
    apply BitVec.eq_of_toNat_eq
    show (BitVec.ofNat 32 r.val + 1#32).toNat = _
    rw [BitVec.toNat_add]; simp
  rw [e, BitVec.toInt_eq_toNat_of_lt (by simp only [BitVec.toNat_ofNat]; omega)]
  rw [show ((((BitVec.ofNat 32 (r.val + 1)).toNat : ℤ)) : ℝ) = ((r.val + 1 : ℕ) : ℝ) from by
    simp only [BitVec.toNat_ofNat]; rw [Nat.mod_eq_of_lt (by omega)]; push_cast; rfl]
  exact fptosi_nat (by omega)

include hc in
/-- A slot's number is a token's exactly where the token is the device's and the slot is its. -/
theorem idB_iff (r : Fin 256) (s : Fin 64) :
    BitVec.ofNat 32 (r.val + 1) = Ideal.fptosi 32 (idB m s) ↔ selB m r s = 1#1 := by
  constructor
  · intro e
    by_cases hs : ∃ r', selB m r' s = 1#1
    · obtain ⟨r', hr'⟩ := hs
      have h' := (selB_iff ..).mp hr'
      have hsl : s = slot m hc r' h'.1 := Fin.ext (by show s.val = cnt m r' - 1; omega)
      rw [hsl, idB_slot hc h'.1] at e
      have := congrArg BitVec.toNat e
      simp only [BitVec.toNat_ofNat] at this
      have h1 := r.isLt; have h2 := r'.isLt
      have : r = r' := Fin.ext (by omega)
      rw [this]; exact hr'
    · exfalso
      have hz : idB m s = ((0 : ℕ) : ℝ) := by
        unfold idB
        rw [Finset.sum_eq_zero fun r' _ => by rw [sel_def, if_neg fun e => hs ⟨r', e⟩]]
        simp
      rw [hz, fptosi_nat (by omega)] at e
      have := congrArg BitVec.toNat e
      simp only [BitVec.toNat_ofNat] at this
      have h1 := r.isLt
      omega
  · intro hs
    have h' := (selB_iff ..).mp hs
    have hsl : s = slot m hc r h'.1 := Fin.ext (by show s.val = cnt m r - 1; omega)
    rw [hsl, idB_slot hc h'.1]

/-- A sum over the slots whose number is the token's: its slot alone, or nothing. -/
theorem sum_ids {M : Type} [AddCommMonoid M] (r : Fin 256) (f : Fin 64 → M) :
    (∑ s, Scalar.select (IntOp.cmpi .eq (BitVec.ofNat 32 (r.val + 1)) (Ideal.fptosi 32 (idB m s))) (f s) 0)
      = if h : m r = 1#1 then f (slot m hc r h) else 0 := by
  rw [← sum_slots hc r f]
  refine Finset.sum_congr rfl fun s _ => ?_
  rw [sel_def, sel_def]
  by_cases h : selB m r s = 1#1
  · rw [if_pos h, if_pos (IntOp.cmpi_eq.mpr ((idB_iff hc r s).mpr h))]
  · rw [if_neg h, if_neg fun e => h ((idB_iff hc r s).mp (IntOp.cmpi_eq.mp e))]

end Sums

end Cert.Moe

end
-- ==== Proof.Reads.lean ====
module

public import proofs.«01_k».proof.Proof.Slots

/-!
# The kernel's vectors, read at an index

Each vector of the kernel that the exchange moves, over extended reals, at an index: the gates, the compacted products,
the numbers of the tokens in the slots, and the sums over a plane.
-/

@[expose] public section

set_option maxRecDepth 16384

noncomputable section

namespace Cert.Moe

open Cert.KernelIdeal Cert.KernelIdeal.Gen
open Idealize.ShloMosaic Idealize.ShloMosaic.TcCoe

/-- Whether token `r` of the quarter is device `w`'s. -/
def mB (w : BitVec 32) (v : QIn Ideal) (r : Fin 256) : BitVec 1 := hitB w (v.i0 (ix2 r 0)) (v.i1 (ix2 r 0))

/-- Token `r`'s gate for expert `l` of device `w`. -/
def gB (w : BitVec 32) (l : BitVec 32) (v : QIn Ideal) (r : Fin 256) : EReal :=
  Scalar.select (IntOp.cmpi .eq (v.i0 (ix2 r 0)) (Scalar.addi (Scalar.muli w 4#32) l)) (v.g0 (ix2 r 0)) 0
    + Scalar.select (IntOp.cmpi .eq (v.i1 (ix2 r 0)) (Scalar.addi (Scalar.muli w 4#32) l)) (v.g1 (ix2 r 0)) 0

/-- The token in slot `s`, at `k`. -/
def xcB (w : BitVec 32) (v : QIn Ideal) (s : Fin 64) (k : Fin 512) : EReal :=
  ∑ r : Fin 256, Scalar.select (selB (mB w v) r s) (v.x (ix2 r k)) 0

/-- The gate, for expert `l`, of the token in slot `s`. -/
def gcB (w : BitVec 32) (l : BitVec 32) (v : QIn Ideal) (s : Fin 64) : EReal :=
  ∑ r : Fin 256, Scalar.select (selB (mB w v) r s) (gB w l v r) 0

/-- The compacted product in slot `s`. -/
def yB (w : BitVec 32) (v : QIn Ideal) (s : Fin 64) (h : Fin 1024) : EReal :=
  (∑ k : Fin 512, xcB w v s k * gcB w 0#32 v s * v.e0 (ix3 0 k h)) + (∑ k : Fin 512, xcB w v s k * gcB w 1#32 v s * v.e1 (ix3 0 k h))
    + (∑ k : Fin 512, xcB w v s k * gcB w 2#32 v s * v.e2 (ix3 0 k h)) + (∑ k : Fin 512, xcB w v s k * gcB w 3#32 v s * v.e3 (ix3 0 k h))

theorem selV_at (w : BitVec 32) (v : QIn Ideal) (r : Fin 256) (s : Fin 64) :
    selV w v (ix2 r s) = Scalar.select (selB (mB w v) r s) 1 0 := by
  unfold selV
  unfold_payloads
  pointwise []
  rfl

theorem ycV_at (w : BitVec 32) (v : QIn Ideal) (s : Fin 64) (h : Fin 1024) : ycV w v (ix3 0 s h) = yB w v s h := by
  unfold ycV selV
  unfold_payloads
  pointwise []
  rfl

theorem row_at (w : BitVec 32) (v : QIn Ideal) (s : Fin 128) :
    rowV w v (ix3 0 0 s) = if h : s.val < 64 then ∑ r : Fin 256, FloatOps.sitofp (F := Ideal) .f32 (IntOp.addi (BitVec.ofNat 32 r.val) 1#32) * selV w v (ix2 r ⟨s.val, h⟩) else 0 := by
  unfold rowV
  generalize selV w v = S
  unfold_payloads
  pointwise []

theorem rowV_at (w : BitVec 32) (v : QIn Ideal) (s : Fin 64) (s' : Fin 128) (hs : s'.val = s.val) :
    rowV w v (ix3 0 0 s') = idB (mB w v) s := by
  rw [row_at, dif_pos (show s'.val < 64 from hs ▸ s.isLt)]
  unfold idB
  refine Finset.sum_congr rfl fun r _ => ?_
  rw [show (⟨s'.val, hs ▸ s.isLt⟩ : Fin 64) = s from Fin.ext hs, selV_at, sel_def, sel_def]
  show (((IntOp.addi (BitVec.ofNat 32 r.val) 1#32).toInt : ℝ) : EReal) * _ = _
  split
  · rw [mul_one]
  · rw [mul_zero]

theorem yoV_at (w : BitVec 32) (v : QIn Ideal) (s : Fin 64) (h : Fin 1024) : yoV w v (ix2 s h) = yB w v s h := by
  unfold yoV
  unfold_payloads
  pointwise []
  rfl

theorem poV_at (w : BitVec 32) (v : QIn Ideal) (r : Fin 256) : poV w v (ix2 r 0) = posB (mB w v) r := by
  unfold poV
  unfold_payloads
  pointwise []
  rfl

/-- A plane's sum at token `g` of a block: the device's own, and three received. -/
def sgB (w b : BitVec 32) (y : FVec Ideal S64x1024 .bf16) (v : GIn Ideal) (g : Fin 64) (h : Fin 1024) : EReal :=
  (∑ s : Fin 64, Scalar.select (IntOp.andi (IntOp.cmpi .eq (BitVec.ofNat 32 s.val) (IntOp.subi (Ideal.fptosi 32 (v.p (ix2 g 0))) 1#32))
      (hitB w (v.i0 (ix2 g 0)) (v.i1 (ix2 g 0)))) (y (ix2 s h)) 0)
    + (∑ s : Fin 64, Scalar.select (IntOp.cmpi .eq (IntOp.addi (IntOp.addi (BitVec.ofNat 32 g.val) b) 1#32) (Ideal.fptosi 32 (v.r0 (ix3 0 0 s)))) (v.y0 (ix3 0 s h)) 0)
    + (∑ s : Fin 64, Scalar.select (IntOp.cmpi .eq (IntOp.addi (IntOp.addi (BitVec.ofNat 32 g.val) b) 1#32) (Ideal.fptosi 32 (v.r1 (ix3 0 0 s)))) (v.y1 (ix3 0 s h)) 0)
    + (∑ s : Fin 64, Scalar.select (IntOp.cmpi .eq (IntOp.addi (IntOp.addi (BitVec.ofNat 32 g.val) b) 1#32) (Ideal.fptosi 32 (v.r2 (ix3 0 0 s)))) (v.y2 (ix3 0 s h)) 0)

theorem segV_at (w b : BitVec 32) (y : FVec Ideal S64x1024 .bf16) (v : GIn Ideal) (g : Fin 64) (h : Fin 1024) :
    segV w b y v (ix2 g h) = sgB w b y v g h := by
  unfold segV
  unfold_payloads
  pointwise []
  rfl

theorem segbV_at (w b : BitVec 32) (y : FVec Ideal S64x1024 .bf16) (v : GIn Ideal) (g : Fin 64) (h : Fin 1024) :
    segbV w b y v (ix2 g h) = sgB w b y v g h := by
  unfold segbV
  unfold_payloads
  pointwise []
  rfl

/-- The score of the expert a token names, as the kernel picks it. -/
def pkB (x : Vec Ideal S1024x512 .bf16) (rw : Vec Ideal S512x64 .bf16) (i : Vec Ideal S1024x1 .i32) (t : Fin 1024) : EReal :=
  ∑ e : Fin 64, Scalar.select (IntOp.cmpi .eq (BitVec.ofNat 32 e.val) (i (ix2 t 0))) (∑ k : Fin 512, x (ix2 t k) * rw (ix2 k e)) 0

/-- A token's first gate from its two scores. -/
def smB (a b c : EReal) : EReal := Ideal.div (Ideal.exp (c - max a b)) (Ideal.exp (a - max a b) + Ideal.exp (b - max a b))

theorem pay7_at (x : Vec Ideal S1024x512 .bf16) (rw : Vec Ideal S512x64 .bf16) (i0 i1 : Vec Ideal S1024x1 .i32) (t : Fin 1024) :
    k0_pay7 x rw i0 i1 (ix2 t 0) = smB (pkB x rw i0 t) (pkB x rw i1 t) (pkB x rw i0 t) := by
  unfold_payloads
  pointwise []
  rfl

theorem pay8_at (x : Vec Ideal S1024x512 .bf16) (rw : Vec Ideal S512x64 .bf16) (i0 i1 : Vec Ideal S1024x1 .i32) (t : Fin 1024) :
    k0_pay8 x rw i0 i1 (ix2 t 0) = smB (pkB x rw i0 t) (pkB x rw i1 t) (pkB x rw i1 t) := by
  unfold_payloads
  pointwise []
  rfl

theorem pay11_at (X : Vec Ideal S1x512x1024 .bf16) (k : Fin 512) (h : Fin 1024) : k0_pay11 X (ix3 0 k h) = X (ix3 0 k h) := by
  unfold_payloads
  pointwise []

theorem fin_at (o : FVec Ideal S64x1024 .f32) (a b c : FVec Ideal S1x64x1024 .bf16) (g : Fin 64) (h : Fin 1024) :
    k0_pay113 (k0_pay112 o a) b c (ix4 0 0 g h) = o (ix2 g h) + a (ix3 0 g h) + b (ix3 0 g h) + c (ix3 0 g h) := by
  unfold_payloads
  pointwise []

end Cert.Moe

end
-- ==== Proof.Parts.lean ====
module

public import proofs.«01_k».proof.Proof.Reads

/-!
# One device's part of the result

A token's part from a device: the products of its row with the device's experts, each by the token's gate for it, where
one of its two experts is the device's, and zero elsewhere. The sums the plane forms are sums of these parts, wherever
the parts were made.
-/

@[expose] public section

set_option maxRecDepth 16384

noncomputable section

namespace Cert.Moe

open Cert.KernelIdeal Cert.KernelIdeal.Gen
open Idealize.ShloMosaic Idealize.ShloMosaic.TcCoe

/-! ## Where the vectors are loaded from -/

theorem load1_eq : ∀ c : Dev nD, ∀ r : Fin 3, ∀ a, k0_off1 c (BitVec.ofNat 32 (1 + r.val)) a = (![256 * (qA (plane r c)).val, 0] : Fin 2 → ℕ) a := by decide +kernel
theorem load2_eq : ∀ c : Dev nD, ∀ r : Fin 3, ∀ a, k0_off2 c (BitVec.ofNat 32 (1 + r.val)) a = (![256 * (qA (plane r c)).val, 1] : Fin 2 → ℕ) a := by decide +kernel
theorem load3_eq : ∀ c : Dev nD, ∀ r : Fin 3, ∀ a, k0_off3 c (BitVec.ofNat 32 (1 + r.val)) a = (![256 * (qA (plane r c)).val, 0] : Fin 2 → ℕ) a := by decide +kernel
theorem load4_eq : ∀ c : Dev nD, ∀ r : Fin 3, ∀ a, k0_off4 c (BitVec.ofNat 32 (1 + r.val)) a = (![256 * (qA (plane r c)).val, 0] : Fin 2 → ℕ) a := by decide +kernel
theorem load5_eq : ∀ c : Dev nD, ∀ a, k0_off5 c a = (![256 * (qA c).val, 0] : Fin 2 → ℕ) a := by decide +kernel
theorem load6_eq : ∀ c : Dev nD, ∀ a, k0_off6 c a = (![256 * (qA c).val, 1] : Fin 2 → ℕ) a := by decide +kernel
theorem load7_eq : ∀ c : Dev nD, ∀ a, k0_off7 c a = (![256 * (qA c).val, 0] : Fin 2 → ℕ) a := by decide +kernel
theorem load8_eq : ∀ c : Dev nD, ∀ a, k0_off8 c a = (![256 * (qA c).val, 0] : Fin 2 → ℕ) a := by decide +kernel
theorem load9_eq : ∀ c : Dev nD, ∀ r : Fin 3, ∀ a, k0_off9 c (BitVec.ofNat 32 (1 + r.val)) a = (![256 * (qA c).val + 64 * (tB (zline r c)).val, 0] : Fin 2 → ℕ) a := by decide +kernel
theorem load10_eq : ∀ c : Dev nD, ∀ r : Fin 3, ∀ a, k0_off10 c (BitVec.ofNat 32 (1 + r.val)) a = (![256 * (qA c).val + 64 * (tB (zline r c)).val, 1] : Fin 2 → ℕ) a := by decide +kernel
theorem load11_eq : ∀ c : Dev nD, ∀ r : Fin 3, ∀ a, k0_off11 c (BitVec.ofNat 32 (1 + r.val)) a = (![64 * (tB (zline r c)).val, 0] : Fin 2 → ℕ) a := by decide +kernel
theorem load14_eq : ∀ c : Dev nD, ∀ a, k0_off14 c a = (![256 * (qA c).val + 64 * (tB c).val, 0] : Fin 2 → ℕ) a := by decide +kernel
theorem load15_eq : ∀ c : Dev nD, ∀ a, k0_off15 c a = (![256 * (qA c).val + 64 * (tB c).val, 1] : Fin 2 → ℕ) a := by decide +kernel
theorem load16_eq : ∀ c : Dev nD, ∀ a, k0_off16 c a = (![64 * (tB c).val, 0] : Fin 2 → ℕ) a := by decide +kernel
theorem load20_eq : ∀ c : Dev nD, ∀ a, k0_off20 c a = (![(qA c).val, 0, 0, 0] : Fin 4 → ℕ) a := by decide +kernel
theorem wB_eq : ∀ c : Dev nD, ∀ r : Fin 3, wB c r = BitVec.ofNat 32 (64 * (tB (zline r c)).val) := by decide +kernel
theorem wO_eq : ∀ c : Dev nD, wO c = BitVec.ofNat 32 (64 * (tB c).val) := by decide +kernel

/-- A quarter's expert column, at a token. -/
theorem rdI256 (X : Vec Ideal S1024x2 .i32) (o : Fin 2 → ℕ) (h : ∀ a, o a + S256x1.size a ≤ S1024x2.size a) (r : Fin 256) (t : Fin 1024) (j : Fin 2)
    (h0 : t.val = o 0 + r.val) (h1 : j.val = o 1) :
    idxM.view.readAt (Elt Ideal) (Rect.unit (s := S1024x2) o S256x1.size h).toLoadRect X (ix2 r 0) = X (ix2 t j) := by
  show X _ = X _
  congr 1
  funext a
  match a with
  | 0 => exact Fin.ext (by rw [show ((ix2 t j : S1024x2.Idx) 0).val = o 0 + 1 * r.val from by rw [one_mul]; exact h0]; rfl)
  | 1 => exact Fin.ext (by rw [show ((ix2 t j : S1024x2.Idx) 1).val = o 1 + 1 * 0 from h1]; rfl)

/-- A block's expert column, at a token. -/
theorem rdI64 (X : Vec Ideal S1024x2 .i32) (o : Fin 2 → ℕ) (h : ∀ a, o a + S64x1.size a ≤ S1024x2.size a) (r : Fin 64) (t : Fin 1024) (j : Fin 2)
    (h0 : t.val = o 0 + r.val) (h1 : j.val = o 1) :
    idxM.view.readAt (Elt Ideal) (Rect.unit (s := S1024x2) o S64x1.size h).toLoadRect X (ix2 r 0) = X (ix2 t j) := by
  show X _ = X _
  congr 1
  funext a
  match a with
  | 0 => exact Fin.ext (by rw [show ((ix2 t j : S1024x2.Idx) 0).val = o 0 + 1 * r.val from by rw [one_mul]; exact h0]; rfl)
  | 1 => exact Fin.ext (by rw [show ((ix2 t j : S1024x2.Idx) 1).val = o 1 + 1 * 0 from h1]; rfl)

/-- A quarter's gates, at a token. -/
theorem rdG0 (X : Vec Ideal S1024x1 .f32) (o : Fin 2 → ℕ) (h : ∀ a, o a + S256x1.size a ≤ S1024x1.size a) (r : Fin 256) (t : Fin 1024)
    (h0 : t.val = o 0 + r.val) (h1 : 0 = o 1) :
    g0M.view.readAt (Elt Ideal) (Rect.unit (s := S1024x1) o S256x1.size h).toLoadRect X (ix2 r 0) = X (ix2 t 0) := by
  show X _ = X _
  congr 1
  funext a
  match a with
  | 0 => exact Fin.ext (by rw [show ((ix2 t 0 : S1024x1.Idx) 0).val = o 0 + 1 * r.val from by rw [one_mul]; exact h0]; rfl)
  | 1 => exact Fin.ext (by rw [show ((ix2 t 0 : S1024x1.Idx) 1).val = o 1 + 1 * 0 from h1]; rfl)

theorem rdG1 (X : Vec Ideal S1024x1 .f32) (o : Fin 2 → ℕ) (h : ∀ a, o a + S256x1.size a ≤ S1024x1.size a) (r : Fin 256) (t : Fin 1024)
    (h0 : t.val = o 0 + r.val) (h1 : 0 = o 1) :
    g1M.view.readAt (Elt Ideal) (Rect.unit (s := S1024x1) o S256x1.size h).toLoadRect X (ix2 r 0) = X (ix2 t 0) := by
  show X _ = X _
  congr 1
  funext a
  match a with
  | 0 => exact Fin.ext (by rw [show ((ix2 t 0 : S1024x1.Idx) 0).val = o 0 + 1 * r.val from by rw [one_mul]; exact h0]; rfl)
  | 1 => exact Fin.ext (by rw [show ((ix2 t 0 : S1024x1.Idx) 1).val = o 1 + 1 * 0 from h1]; rfl)

/-- A block's slot numbers, at a token of the quarter. -/
theorem rdP64 (X : Vec Ideal S256x1 .f32) (o : Fin 2 → ℕ) (h : ∀ a, o a + S64x1.size a ≤ S256x1.size a) (r : Fin 64) (t : Fin 256)
    (h0 : t.val = o 0 + r.val) (h1 : 0 = o 1) :
    posM.view.readAt (Elt Ideal) (Rect.unit (s := S256x1) o S64x1.size h).toLoadRect X (ix2 r 0) = X (ix2 t 0) := by
  show X _ = X _
  congr 1
  funext a
  match a with
  | 0 => exact Fin.ext (by rw [show ((ix2 t 0 : S256x1.Idx) 0).val = o 0 + 1 * r.val from by rw [one_mul]; exact h0]; rfl)
  | 1 => exact Fin.ext (by rw [show ((ix2 t 0 : S256x1.Idx) 1).val = o 1 + 1 * 0 from h1]; rfl)

/-- A quarter's tokens, at a token and a feature. -/
theorem rdX256 (X : Vec Ideal S1024x512 .bf16) (o : Fin 2 → ℕ) (h : ∀ a, o a + S256x512.size a ≤ S1024x512.size a) (r : Fin 256) (k : Fin 512)
    (t : Fin 1024) (h0 : t.val = o 0 + r.val) (h1 : 0 = o 1) :
    xM.view.readAt (Elt Ideal) (Rect.unit (s := S1024x512) o S256x512.size h).toLoadRect X (ix2 r k) = X (ix2 t k) := by
  show X _ = X _
  congr 1
  funext a
  match a with
  | 0 => exact Fin.ext (by rw [show ((ix2 t k : S1024x512.Idx) 0).val = o 0 + 1 * r.val from by rw [one_mul]; exact h0]; rfl)
  | 1 => exact Fin.ext (by rw [show ((ix2 t k : S1024x512.Idx) 1).val = o 1 + 1 * k.val from by rw [← h1, one_mul, zero_add]; rfl]; rfl)

/-- A whole expert column, at a token. -/
theorem rdI1024 (X : Vec Ideal S1024x2 .i32) (o : Fin 2 → ℕ) (h : ∀ a, o a + S1024x1.size a ≤ S1024x2.size a) (t : Fin 1024) (j : Fin 2)
    (h0 : 0 = o 0) (h1 : j.val = o 1) :
    idxM.view.readAt (Elt Ideal) (Rect.unit (s := S1024x2) o S1024x1.size h).toLoadRect X (ix2 t 0) = X (ix2 t j) := by
  show X _ = X _
  congr 1
  funext a
  match a with
  | 0 => exact Fin.ext (by rw [show ((ix2 t j : S1024x2.Idx) 0).val = o 0 + 1 * t.val from by rw [← h0, one_mul, zero_add]; rfl]; rfl)
  | 1 => exact Fin.ext (by rw [show ((ix2 t j : S1024x2.Idx) 1).val = o 1 + 1 * 0 from h1]; rfl)

/-- Expert `l` of a device, at its indices. -/
theorem eV_at (I : Inp Ideal) (c : Dev nD) (l : Fin 4) (k : Fin 512) (h : Fin 1024) : eV I c l (ix3 0 k h) = I.ew c (ix3 l k h) := by
  unfold eV
  rw [pay11_at]
  show I.ew c _ = I.ew c _
  congr 1
  funext a
  match a with
  | 0 => exact Fin.ext (show l.val + 1 * 0 = l.val by omega)
  | 1 => exact Fin.ext (show 0 + 1 * k.val = k.val by omega)
  | 2 => exact Fin.ext (show 0 + 1 * h.val = h.val by omega)

/-! ## A device's part -/

/-- A quarter's part from a device, at a token of the quarter. -/
def prB (w : BitVec 32) (v : QIn Ideal) (r : Fin 256) (h : Fin 1024) : EReal :=
  (∑ k : Fin 512, v.x (ix2 r k) * gB w 0#32 v r * v.e0 (ix3 0 k h)) + (∑ k : Fin 512, v.x (ix2 r k) * gB w 1#32 v r * v.e1 (ix3 0 k h))
    + (∑ k : Fin 512, v.x (ix2 r k) * gB w 2#32 v r * v.e2 (ix3 0 k h)) + (∑ k : Fin 512, v.x (ix2 r k) * gB w 3#32 v r * v.e3 (ix3 0 k h))

/-- The compacted product in a token's slot is the token's. -/
theorem yB_slot {w : BitVec 32} {v : QIn Ideal} (hc : (Finset.univ.filter fun x : Fin 256 => mB w v x = 1#1).card ≤ 64) {r : Fin 256}
    (hm : mB w v r = 1#1) (h : Fin 1024) : yB w v (slot (mB w v) hc r hm) h = prB w v r h := by
  unfold yB prB xcB gcB
  simp only [sum_tokens hc hm]

/-- The own quarter's part, found by the token's slot number. -/
theorem own_part {w : BitVec 32} {v : QIn Ideal} (hc : (Finset.univ.filter fun x : Fin 256 => mB w v x = 1#1).card ≤ 64) (r : Fin 256) (h : Fin 1024) :
    (∑ s : Fin 64, Scalar.select (IntOp.andi (IntOp.cmpi .eq (BitVec.ofNat 32 s.val) (IntOp.subi (Ideal.fptosi 32 (poV w v (ix2 r 0))) 1#32))
      (mB w v r)) (yoV w v (ix2 s h)) 0) = if mB w v r = 1#1 then prB w v r h else 0 := by
  simp only [poV_at, yoV_at]
  have e := sum_slots hc r (fun s => yB w v s h)
  unfold selB at e
  rw [e]
  split
  · rename_i hm; exact yB_slot hc hm h
  · rfl

/-- A received part, found by the token's number. -/
theorem recv_part {w : BitVec 32} {v : QIn Ideal} (hc : (Finset.univ.filter fun x : Fin 256 => mB w v x = 1#1).card ≤ 64) (r : Fin 256) (h : Fin 1024)
    (b : BitVec 32) (hb : b = BitVec.ofNat 32 (r.val + 1)) :
    (∑ s : Fin 64, Scalar.select (IntOp.cmpi .eq b (Ideal.fptosi 32 (cut64 (rowV w v) (ix3 0 0 s)))) (ycV w v (ix3 0 s h)) 0)
      = if mB w v r = 1#1 then prB w v r h else 0 := by
  subst hb
  have e := sum_ids hc r (fun s => yB w v s h)
  rw [show (∑ s : Fin 64, Scalar.select (IntOp.cmpi .eq (BitVec.ofNat 32 (r.val + 1)) (Ideal.fptosi 32 (cut64 (rowV w v) (ix3 0 0 s)))) (ycV w v (ix3 0 s h)) 0)
    = ∑ s : Fin 64, Scalar.select (IntOp.cmpi .eq (BitVec.ofNat 32 (r.val + 1)) (Ideal.fptosi 32 (idB (mB w v) s))) (yB w v s h) 0 from
    Finset.sum_congr rfl fun s _ => by rw [ycV_at, show cut64 (rowV w v) (ix3 0 0 s) = idB (mB w v) s from rowV_at w v s _ rfl], e]
  split
  · rename_i hm; exact yB_slot hc hm h
  · rfl

/-! ## The parts over the whole arrays -/

set_option backward.proofsInPublic true in
/-- Token `r` of quarter `q`. -/
def tokn (q : Fin 4) (r : Fin 256) : Fin 1024 := ⟨256 * q.val + r.val, by omega⟩

/-- Whether token `t` is one of device `c`'s. -/
def hitD (I : Inp Ideal) (c : Dev nD) (t : Fin 1024) : BitVec 1 := hitB (w2 c) (I.idx c (ix2 t 0)) (I.idx c (ix2 t 1))

/-- Token `t`'s gate for expert `l` of device `c`. -/
def gD (I : Inp Ideal) (c : Dev nD) (l : Fin 4) (t : Fin 1024) : EReal :=
  Scalar.select (IntOp.cmpi .eq (I.idx c (ix2 t 0)) (BitVec.ofNat 32 (4 * c.val + l.val))) (G0 I c (ix2 t 0)) 0
    + Scalar.select (IntOp.cmpi .eq (I.idx c (ix2 t 1)) (BitVec.ofNat 32 (4 * c.val + l.val))) (G1 I c (ix2 t 0)) 0

/-- Token `t`'s part from device `c`. -/
def partD (I : Inp Ideal) (c : Dev nD) (t : Fin 1024) (h : Fin 1024) : EReal :=
  if hitD I c t = 1#1 then ∑ l : Fin 4, ∑ k : Fin 512, I.x c (ix2 t k) * gD I c l t * I.ew c (ix3 l k h) else 0

/-- No device has more than 64 of a quarter's tokens. -/
def Fits (I : Inp Ideal) : Prop :=
  ∀ (c : Dev nD) (q : Fin 4), (Finset.univ.filter fun r : Fin 256 => hitD I c (tokn q r) = 1#1).card ≤ 64

theorem word_l : ∀ c : Dev nD, ∀ l : Fin 4, Scalar.addi (Scalar.muli (w2 c) 4#32) (BitVec.ofNat 32 l.val) = BitVec.ofNat 32 (4 * c.val + l.val) := by
  decide +kernel

section Quarter
variable (I : Inp Ideal) (c : Dev nD) (q : Fin 4) (o1 o2 o3 o4 : Fin 2 → ℕ) (h1 : ∀ a, o1 a + S256x1.size a ≤ S1024x2.size a)
    (h2 : ∀ a, o2 a + S256x1.size a ≤ S1024x2.size a) (h3 : ∀ a, o3 a + S256x1.size a ≤ S1024x1.size a)
    (h4 : ∀ a, o4 a + S256x512.size a ≤ S1024x512.size a)
    (e1 : ∀ a, o1 a = (![256 * q.val, 0] : Fin 2 → ℕ) a) (e2 : ∀ a, o2 a = (![256 * q.val, 1] : Fin 2 → ℕ) a)
    (e3 : ∀ a, o3 a = (![256 * q.val, 0] : Fin 2 → ℕ) a) (e4 : ∀ a, o4 a = (![256 * q.val, 0] : Fin 2 → ℕ) a)

include e1 e2 in
theorem mB_q (r : Fin 256) : mB (w2 c) (qInAt I c o1 o2 o3 o4 h1 h2 h3 h4) r = hitD I c (tokn q r) := by
  unfold mB hitD
  rw [show (qInAt I c o1 o2 o3 o4 h1 h2 h3 h4).i0 (ix2 r 0) = I.idx c (ix2 (tokn q r) 0) from
      rdI256 _ _ _ _ _ _ (by rw [e1 0]; rfl) (by rw [e1 1]; rfl),
    show (qInAt I c o1 o2 o3 o4 h1 h2 h3 h4).i1 (ix2 r 0) = I.idx c (ix2 (tokn q r) 1) from
      rdI256 _ _ _ _ _ _ (by rw [e2 0]; rfl) (by rw [e2 1]; rfl)]

include e1 e2 e3 in
theorem gB_q (l : Fin 4) (r : Fin 256) : gB (w2 c) (BitVec.ofNat 32 l.val) (qInAt I c o1 o2 o3 o4 h1 h2 h3 h4) r = gD I c l (tokn q r) := by
  unfold gB gD
  rw [word_l, show (qInAt I c o1 o2 o3 o4 h1 h2 h3 h4).i0 (ix2 r 0) = I.idx c (ix2 (tokn q r) 0) from
      rdI256 _ _ _ _ _ _ (by rw [e1 0]; rfl) (by rw [e1 1]; rfl),
    show (qInAt I c o1 o2 o3 o4 h1 h2 h3 h4).i1 (ix2 r 0) = I.idx c (ix2 (tokn q r) 1) from
      rdI256 _ _ _ _ _ _ (by rw [e2 0]; rfl) (by rw [e2 1]; rfl),
    show (qInAt I c o1 o2 o3 o4 h1 h2 h3 h4).g0 (ix2 r 0) = G0 I c (ix2 (tokn q r) 0) from
      rdG0 (G0 I c) o3 h3 r (tokn q r) (by rw [e3 0]; rfl) (by rw [e3 1]; rfl),
    show (qInAt I c o1 o2 o3 o4 h1 h2 h3 h4).g1 (ix2 r 0) = G1 I c (ix2 (tokn q r) 0) from
      rdG1 (G1 I c) o3 h3 r (tokn q r) (by rw [e3 0]; rfl) (by rw [e3 1]; rfl)]

include e1 e2 e3 e4 in
/-- A quarter's part is the whole arrays' at the quarter's token. -/
theorem part_q (r : Fin 256) (h : Fin 1024) :
    (if mB (w2 c) (qInAt I c o1 o2 o3 o4 h1 h2 h3 h4) r = 1#1 then prB (w2 c) (qInAt I c o1 o2 o3 o4 h1 h2 h3 h4) r h else 0) = partD I c (tokn q r) h := by
  rw [mB_q I c q o1 o2 o3 o4 h1 h2 h3 h4 e1 e2]
  unfold partD
  have hx : ∀ k : Fin 512, (qInAt I c o1 o2 o3 o4 h1 h2 h3 h4).x (ix2 r k) = I.x c (ix2 (tokn q r) k) := fun k =>
    rdX256 _ _ _ _ _ _ (by rw [e4 0]; rfl) (by rw [e4 1]; rfl)
  have hg := fun l => gB_q I c q o1 o2 o3 o4 h1 h2 h3 h4 e1 e2 e3 l r
  split
  · rw [Fin.sum_univ_four]
    unfold prB
    simp only [hx]
    rw [show gB (w2 c) 0#32 (qInAt I c o1 o2 o3 o4 h1 h2 h3 h4) r = _ from hg 0, show gB (w2 c) 1#32 (qInAt I c o1 o2 o3 o4 h1 h2 h3 h4) r = _ from hg 1,
      show gB (w2 c) 2#32 (qInAt I c o1 o2 o3 o4 h1 h2 h3 h4) r = _ from hg 2, show gB (w2 c) 3#32 (qInAt I c o1 o2 o3 o4 h1 h2 h3 h4) r = _ from hg 3]
    simp only [show ∀ k : Fin 512, (qInAt I c o1 o2 o3 o4 h1 h2 h3 h4).e0 (ix3 0 k h) = I.ew c (ix3 0 k h) from fun k => eV_at I c 0 k h,
      show ∀ k : Fin 512, (qInAt I c o1 o2 o3 o4 h1 h2 h3 h4).e1 (ix3 0 k h) = I.ew c (ix3 1 k h) from fun k => eV_at I c 1 k h,
      show ∀ k : Fin 512, (qInAt I c o1 o2 o3 o4 h1 h2 h3 h4).e2 (ix3 0 k h) = I.ew c (ix3 2 k h) from fun k => eV_at I c 2 k h,
      show ∀ k : Fin 512, (qInAt I c o1 o2 o3 o4 h1 h2 h3 h4).e3 (ix3 0 k h) = I.ew c (ix3 3 k h) from fun k => eV_at I c 3 k h]
  · rfl

include e1 e2 in
theorem fits_q (hf : Fits I) : (Finset.univ.filter fun x : Fin 256 => mB (w2 c) (qInAt I c o1 o2 o3 o4 h1 h2 h3 h4) x = 1#1).card ≤ 64 := by
  simp only [mB_q I c q o1 o2 o3 o4 h1 h2 h3 h4 e1 e2]
  exact hf c q

end Quarter

/-- What a device receives from a plane-mate, at a token of its quarter, is the mate's part. -/
theorem mate_part {I : Inp Ideal} (hf : Fits I) (c d : Dev nD) (k : Fin 3) (hd : plane k d = c) (r : Fin 256) (h : Fin 1024) (b : BitVec 32)
    (hb : b = BitVec.ofNat 32 (r.val + 1)) :
    (∑ s : Fin 64, Scalar.select (IntOp.cmpi .eq b (Ideal.fptosi 32 (cut64 (rA I d k) (ix3 0 0 s)))) (yA I d k (ix3 0 s h)) 0)
      = partD I d (tokn (qA c) r) h := by
  subst hd
  unfold rA yA qInA
  rw [recv_part (fits_q I d (qA (plane k d)) _ _ _ _ _ _ _ _ (load1_eq d k) (load2_eq d k) hf) r h b hb,
    part_q I d (qA (plane k d)) _ _ _ _ _ _ _ _ (load1_eq d k) (load2_eq d k) (load3_eq d k) (load4_eq d k)]

/-- A device's own part, at a token of its quarter. -/
theorem self_part {I : Inp Ideal} (hf : Fits I) (c : Dev nD) (r : Fin 256) (h : Fin 1024) (p : EReal) (hp : p = pO I c (ix2 r 0)) (i0 i1 : BitVec 32)
    (hi0 : i0 = I.idx c (ix2 (tokn (qA c) r) 0)) (hi1 : i1 = I.idx c (ix2 (tokn (qA c) r) 1)) :
    (∑ s : Fin 64, Scalar.select (IntOp.andi (IntOp.cmpi .eq (BitVec.ofNat 32 s.val) (IntOp.subi (Ideal.fptosi 32 p) 1#32))
      (hitB (w2 c) i0 i1)) (yO I c (ix2 s h)) 0) = partD I c (tokn (qA c) r) h := by
  subst hp hi0 hi1
  have e := own_part (fits_q I c (qA c) _ _ _ _ _ _ _ _ (load5_eq c) (load6_eq c) hf) r h (v := qInO I c)
  rw [show mB (w2 c) (qInO I c) r = hitD I c (tokn (qA c) r) from mB_q I c (qA c) _ _ _ _ _ _ _ _ (load5_eq c) (load6_eq c) r] at e
  unfold pO yO
  refine (show _ = _ from e).trans ?_
  rw [← show mB (w2 c) (qInO I c) r = hitD I c (tokn (qA c) r) from mB_q I c (qA c) _ _ _ _ _ _ _ _ (load5_eq c) (load6_eq c) r]
  exact part_q I c (qA c) _ _ _ _ _ _ _ _ (load5_eq c) (load6_eq c) (load7_eq c) (load8_eq c) r h

/-- A plane's parts at token `t`, the device's own first. -/
def planeSum (I : Inp Ideal) (c : Dev nD) (t h : Fin 1024) : EReal :=
  partD I c t h + partD I (plane 0 c) t h + partD I (plane 1 c) t h + partD I (plane 2 c) t h

set_option backward.proofsInPublic true in
/-- Token `g` of block `b` of a quarter. -/
def row (b : Fin 4) (g : Fin 64) : Fin 256 := ⟨64 * b.val + g.val, by omega⟩

theorem row_word (b : Fin 4) (g : Fin 64) :
    IntOp.addi (IntOp.addi (BitVec.ofNat 32 g.val) (BitVec.ofNat 32 (64 * b.val))) 1#32 = BitVec.ofNat 32 ((row b g).val + 1) := by
  apply BitVec.eq_of_toNat_eq
  show (BitVec.ofNat 32 g.val + BitVec.ofNat 32 (64 * b.val) + 1#32).toNat = (BitVec.ofNat 32 (64 * b.val + g.val + 1)).toNat
  simp only [BitVec.toNat_add, BitVec.toNat_ofNat]
  omega

theorem sg_plane {I : Inp Ideal} (hf : Fits I) (c : Dev nD) (b : Fin 4) (w : BitVec 32) (hw : w = BitVec.ofNat 32 (64 * b.val)) (o1 o2 o3 : Fin 2 → ℕ)
    (h1 : ∀ a, o1 a + S64x1.size a ≤ S1024x2.size a) (h2 : ∀ a, o2 a + S64x1.size a ≤ S1024x2.size a) (h3 : ∀ a, o3 a + S64x1.size a ≤ S256x1.size a)
    (e1 : ∀ a, o1 a = (![256 * (qA c).val + 64 * b.val, 0] : Fin 2 → ℕ) a) (e2 : ∀ a, o2 a = (![256 * (qA c).val + 64 * b.val, 1] : Fin 2 → ℕ) a)
    (e3 : ∀ a, o3 a = (![64 * b.val, 0] : Fin 2 → ℕ) a) (g : Fin 64) (h : Fin 1024) :
    sgB (w2 c) w (yO I c) (gInAt I c o1 o2 o3 h1 h2 h3) g h = planeSum I c (tokn (qA c) (row b g)) h := by
  subst hw
  unfold sgB planeSum
  rw [row_word]
  have hv : (tokn (qA c) (row b g)).val = 256 * (qA c).val + 64 * b.val + g.val := by
    show 256 * (qA c).val + (64 * b.val + g.val) = _; omega
  refine congrArg₂ _ (congrArg₂ _ (congrArg₂ _ ?_ ?_) ?_) ?_
  · refine self_part hf c (row b g) h _ ?_ _ _ ?_ ?_
    · exact rdP64 (pO I c) o3 h3 g (row b g) (by rw [e3 0]; rfl) (by rw [e3 1]; rfl)
    · exact rdI64 _ _ _ _ _ _ (by rw [e1 0, hv]; rfl) (by rw [e1 1]; rfl)
    · exact rdI64 _ _ _ _ _ _ (by rw [e2 0, hv]; rfl) (by rw [e2 1]; rfl)
  · exact mate_part hf c (plane 0 c) (rev3 0) (plane_rev 0 c) (row b g) h _ rfl
  · exact mate_part hf c (plane 1 c) (rev3 1) (plane_rev 1 c) (row b g) h _ rfl
  · exact mate_part hf c (plane 2 c) (rev3 2) (plane_rev 2 c) (row b g) h _ rfl

/-- The partial sum sent to another plane is the plane's parts at the tokens of the block that plane finishes; -/
theorem sB_at {I : Inp Ideal} (hf : Fits I) (c : Dev nD) (r : Fin 3) (g : Fin 64) (h : Fin 1024) :
    sB I c r (ix2 g h) = planeSum I c (tokn (qA c) (row (tB (zline r c)) g)) h := by
  unfold sB
  rw [segbV_at]
  exact sg_plane hf c (tB (zline r c)) _ (wB_eq c r) _ _ _ _ _ _ (load9_eq c r) (load10_eq c r) (load11_eq c r) g h

/-- the device's own, at those of its own block. -/
theorem sO_at {I : Inp Ideal} (hf : Fits I) (c : Dev nD) (g : Fin 64) (h : Fin 1024) :
    sO I c (ix2 g h) = planeSum I c (tokn (qA c) (row (tB c) g)) h := by
  unfold sO
  rw [segV_at]
  exact sg_plane hf c (tB c) _ (wO_eq c) _ _ _ _ _ _ (load14_eq c) (load15_eq c) (load16_eq c) g h

/-- The sixteen devices, as they are met by the sums a device forms. -/
def allD (c : Dev nD) : Fin 16 → Dev nD :=
  ![c, plane 0 c, plane 1 c, plane 2 c, zline 0 c, plane 0 (zline 0 c), plane 1 (zline 0 c), plane 2 (zline 0 c),
    zline 1 c, plane 0 (zline 1 c), plane 1 (zline 1 c), plane 2 (zline 1 c), zline 2 c, plane 0 (zline 2 c), plane 1 (zline 2 c), plane 2 (zline 2 c)]

theorem allD_inj : ∀ c : Dev nD, ∀ i j : Fin 16, allD c i = allD c j → i = j := by decide +kernel

theorem allD_bij (c : Dev nD) : Function.Bijective (allD c) := (Finite.injective_iff_bijective (α := Fin 16)).mp fun i j => allD_inj c i j

theorem sum16 (Q : Fin 16 → EReal) : ∑ k, Q k = Q 0 + Q 1 + Q 2 + Q 3 + Q 4 + Q 5 + Q 6 + Q 7 + Q 8 + Q 9 + Q 10 + Q 11 + Q 12 + Q 13 + Q 14 + Q 15 := by
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  rfl

/-- The block a device finishes is the sum of all sixteen devices' parts. -/
theorem finV_at {I : Inp Ideal} (hf : Fits I) (c : Dev nD) (g : Fin 64) (h : Fin 1024) :
    finV I c (ix4 0 0 g h) = ∑ d : Dev nD, partD I d (tokn (qA c) (row (tB c) g)) h := by
  unfold finV
  rw [fin_at, sO_at hf]
  rw [show lift1 (sB I (zline 0 c) (rev3 0)) (ix3 0 g h) = _ from sB_at hf (zline 0 c) (rev3 0) g h,
    show lift1 (sB I (zline 1 c) (rev3 1)) (ix3 0 g h) = _ from sB_at hf (zline 1 c) (rev3 1) g h,
    show lift1 (sB I (zline 2 c) (rev3 2)) (ix3 0 g h) = _ from sB_at hf (zline 2 c) (rev3 2) g h]
  simp only [zline_rev, qA_zline]
  generalize tokn (qA c) (row (tB c) g) = t
  unfold planeSum
  generalize hP : (fun d => partD I d t h) = P
  have hP' : ∀ d, partD I d t h = P d := fun d => congrFun hP d
  simp only [hP']
  clear hP hP' hf
  have key : ∀ c : Dev nD, ∀ P : Dev nD → EReal, (P c + P (plane 0 c) + P (plane 1 c) + P (plane 2 c)
      + (P (zline 0 c) + P (plane 0 (zline 0 c)) + P (plane 1 (zline 0 c)) + P (plane 2 (zline 0 c)))
      + (P (zline 1 c) + P (plane 0 (zline 1 c)) + P (plane 1 (zline 1 c)) + P (plane 2 (zline 1 c)))
      + (P (zline 2 c) + P (plane 0 (zline 2 c)) + P (plane 1 (zline 2 c)) + P (plane 2 (zline 2 c)))) = ∑ d : Fin 16, P d := by
    intro c P
    rw [← Function.Bijective.sum_comp (allD_bij c) P, sum16]
    simp only [← add_assoc]
    rfl
  exact key c P

end Cert.Moe

end
-- ==== Proof.Total.lean ====
module

public import proofs.«01_k».proof.Proof.Parts

/-!
# The result as a sum over the devices

Every device's result is, at every token, the sum of the sixteen devices' parts.
-/

@[expose] public section

set_option maxRecDepth 16384

noncomputable section

namespace Cert.Moe

open Cert.KernelIdeal Cert.KernelIdeal.Gen
open Idealize.ShloMosaic Idealize.ShloMosaic.TcCoe

theorem pay126_at (X : Vec Ideal S1x1x64x1024 .bf16) (g : Fin 64) (h : Fin 1024) : k0_pay126 X (ix2 g h) = X (ix4 0 0 g h) := by
  unfold_payloads
  pointwise []
theorem pay114_at (X : Vec Ideal S1x4x64x1024 .bf16) (b : Fin 4) (g : Fin 64) (h : Fin 1024) : k0_pay114 X (ix2 (row b g) h) = X (ix4 0 b g h) := by
  unfold_payloads
  pointwise []
  refine congrArg X ?_
  funext a
  match a with
  | 0 => rfl
  | 1 => exact Fin.ext (by show (64 * b.val + g.val) / 64 = b.val; omega)
  | 2 => exact Fin.ext (by show (64 * b.val + g.val) % 64 = g.val; omega)
  | 3 => rfl

theorem qA_own : ∀ q t : Fin 4, qA (own q t) = q := by decide +kernel
theorem tB_own : ∀ q t : Fin 4, tB (own q t) = t := by decide +kernel

/-- The gathered blocks hold the finished sums. -/
theorem AGv_at {I : Inp Ideal} (hf : Fits I) (q b : Fin 4) (g : Fin 64) (h : Fin 1024) :
    AGv I (ix4 q b g h) = ∑ d : Dev nD, partD I d (tokn q (row b g)) h := by
  show finV I (own q b) (ix4 0 0 g h) = _
  rw [finV_at hf, qA_own, tB_own]

/-- Every device's result. -/
theorem OUT_at {I : Inp Ideal} (hf : Fits I) (c : Dev nD) (t h : Fin 1024) : OUT I c (ix2 t h) = ∑ d : Dev nD, partD I d t h := by
  obtain ⟨q, b, g, rfl⟩ : ∃ (q b : Fin 4) (g : Fin 64), t = tokn q (row b g) :=
    ⟨⟨t.val / 256, by omega⟩, ⟨t.val / 64 % 4, by omega⟩, ⟨t.val % 64, by omega⟩, Fin.ext (by
      show t.val = 256 * (t.val / 256) + (64 * (t.val / 64 % 4) + t.val % 64); omega)⟩
  have hv : (tokn q (row b g)).val = 256 * q.val + (64 * b.val + g.val) := rfl
  unfold OUT
  split
  · rename_i hq
    replace hq : (tokn q (row b g)).val / 256 = (qA c).val := hq
    have hq' : q.val = (qA c).val := by omega
    rw [show (ix2 ⟨((ix2 (tokn q (row b g)) h : S1024x1024.Idx) 0).val % 256, Nat.mod_lt _ (by decide)⟩ ((ix2 (tokn q (row b g)) h : S1024x1024.Idx) 1) : S256x1024.Idx)
      = ix2 (row b g) h from congrArg (fun z => ix2 z h) (Fin.ext (by
        show (tokn q (row b g)).val % 256 = 64 * b.val + g.val; omega)), pay114_at, ← AGv_at hf]
    show AGv I _ = AGv I _
    congr 1
    funext a
    match a with
    | 0 => exact Fin.ext (by rw [show ((ix4 q b g h : S4x4x64x1024.Idx) 0).val = k0_off20 c 0 + 1 * 0 from by rw [load20_eq]; exact hq']; rfl)
    | 1 => exact Fin.ext (by rw [show ((ix4 q b g h : S4x4x64x1024.Idx) 1).val = k0_off20 c 1 + 1 * b.val from by rw [load20_eq, one_mul]; exact (zero_add _).symm]; rfl)
    | 2 => exact Fin.ext (by rw [show ((ix4 q b g h : S4x4x64x1024.Idx) 2).val = k0_off20 c 2 + 1 * g.val from by rw [load20_eq, one_mul]; exact (zero_add _).symm]; rfl)
    | 3 => exact Fin.ext (by rw [show ((ix4 q b g h : S4x4x64x1024.Idx) 3).val = k0_off20 c 3 + 1 * h.val from by rw [load20_eq, one_mul]; exact (zero_add _).symm]; rfl)
  · rw [show (ix2 ⟨((ix2 (tokn q (row b g)) h : S1024x1024.Idx) 0).val % 64, Nat.mod_lt _ (by decide)⟩ ((ix2 (tokn q (row b g)) h : S1024x1024.Idx) 1) : S64x1024.Idx)
      = ix2 g h from congrArg (fun z => ix2 z h) (Fin.ext (by
        show (tokn q (row b g)).val % 64 = g.val; omega)), pay126_at, ← AGv_at hf]
    refine congrArg (AGv I) ?_
    funext a
    match a with
    | 0 => exact Fin.ext (by show (tokn q (row b g)).val / 256 = q.val; omega)
    | 1 => exact Fin.ext (by show (tokn q (row b g)).val / 64 % 4 = b.val; omega)
    | 2 => rfl
    | 3 => rfl

end Cert.Moe

end
-- ==== Proof.Gates.lean ====
module

public import proofs.«01_k».proof.Proof.Total

/-!
# The gates

Where the tokens and the routing weights are finite every score is a number, and a token's two gates are the exponentials
of its two scores over their sum: in the kernel, which takes the softmax of the two scores, and in the reference, which
takes that of all sixty-four and renormalizes the two it picks.
-/

@[expose] public section

set_option maxRecDepth 16384

noncomputable section

namespace Cert.Moe

open Cert.KernelIdeal Cert.KernelIdeal.Gen
open Idealize.ShloMosaic Idealize.ShloMosaic.TcCoe

/-! ## Numbers among the extended ones -/

theorem div_real (x y : ℝ) (h : y ≠ 0) : Ideal.div (x : EReal) (y : EReal) = ((x / y : ℝ) : EReal) := by
  unfold Ideal.div
  rw [if_neg (by exact_mod_cast h), ← EReal.coe_inv, ← EReal.coe_mul, div_eq_mul_inv]

theorem sum_real {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

theorem max_real (a b : ℝ) : max (a : EReal) (b : EReal) = ((max a b : ℝ) : EReal) := (EReal.coe_strictMono.monotone.map_max).symm

theorem fold_max_real {ι : Type} (S : Finset ι) (hS : S.Nonempty) (f : ι → ℝ) :
    ∃ M : ℝ, Finset.fold max (⊥ : EReal) (fun i => (f i : EReal)) S = M := by
  classical
  induction hS using Finset.Nonempty.cons_induction with
  | singleton a => exact ⟨f a, by simp⟩
  | cons a s h hs ih =>
    obtain ⟨M, hM⟩ := ih
    exact ⟨max (f a) M, by rw [Finset.fold_cons, hM, max_real]⟩

theorem exp_sub_real (a b : ℝ) : Ideal.exp ((a : EReal) - (b : EReal)) = ((Real.exp (a - b) : ℝ) : EReal) := by
  rw [← EReal.coe_sub, Ideal.exp_coe]

/-- The gate of a score `a` against a score `b`. -/
def gw (a b : ℝ) : ℝ := Real.exp a / (Real.exp a + Real.exp b)

theorem gw_nonneg (a b : ℝ) : 0 ≤ gw a b := div_nonneg (Real.exp_pos a).le (add_pos (Real.exp_pos a) (Real.exp_pos b)).le

theorem shift_gw (a b M : ℝ) : Real.exp (a - M) / (Real.exp (a - M) + Real.exp (b - M)) = gw a b := by
  unfold gw
  rw [Real.exp_sub, Real.exp_sub, ← add_div, div_div_div_cancel_right₀ (Real.exp_pos M).ne']

/-- The kernel's gates. -/
theorem smB_fst (a b : ℝ) : smB (a : EReal) (b : EReal) (a : EReal) = ((gw a b : ℝ) : EReal) := by
  unfold smB
  rw [max_real, exp_sub_real, exp_sub_real, ← EReal.coe_add,
    div_real _ _ (add_pos (Real.exp_pos _) (Real.exp_pos _)).ne', shift_gw]

theorem smB_snd (a b : ℝ) : smB (a : EReal) (b : EReal) (b : EReal) = ((gw b a : ℝ) : EReal) := by
  unfold smB
  rw [max_real, exp_sub_real, exp_sub_real, ← EReal.coe_add,
    div_real _ _ (add_pos (Real.exp_pos _) (Real.exp_pos _)).ne', add_comm, shift_gw]

/-! ## The reference's -/

/-- The largest of a token's scores. -/
def mxR (s : Fin 64 → EReal) : EReal := Finset.fold max (Ideal.ofBits .f32 4286578688#32) s Finset.univ

/-- The softmax of a token's scores. -/
def prR (s : Fin 64 → EReal) (e : Fin 64) : EReal := Ideal.div (Ideal.exp (s e - mxR s)) (∑ e' : Fin 64, Ideal.exp (s e' - mxR s))

theorem prR_real (s : Fin 64 → ℝ) :
    ∃ M Z : ℝ, 0 < Z ∧ ∀ e, prR (fun e => (s e : EReal)) e = ((Real.exp (s e - M) / Z : ℝ) : EReal) := by
  obtain ⟨M, hM⟩ := fold_max_real (Finset.univ : Finset (Fin 64)) ⟨0, Finset.mem_univ _⟩ s
  have hm : mxR (fun e => (s e : EReal)) = M := by
    unfold mxR
    rw [show Ideal.ofBits .f32 4286578688#32 = (⊥ : EReal) from by simp [Ideal.ofBits, Ideal.ieee]]
    exact hM
  have hZ : 0 < ∑ e : Fin 64, Real.exp (s e - M) := Finset.sum_pos (fun e _ => Real.exp_pos _) ⟨0, Finset.mem_univ _⟩
  refine ⟨M, _, hZ, fun e => ?_⟩
  unfold prR
  rw [hm]
  simp only [exp_sub_real]
  rw [sum_real, div_real _ _ hZ.ne']

theorem prR_gw (s : Fin 64 → ℝ) (a b : Fin 64) :
    Ideal.div (prR (fun e => (s e : EReal)) a) (prR (fun e => (s e : EReal)) a + prR (fun e => (s e : EReal)) b) = ((gw (s a) (s b) : ℝ) : EReal)
    ∧ Ideal.div (prR (fun e => (s e : EReal)) b) (prR (fun e => (s e : EReal)) a + prR (fun e => (s e : EReal)) b) = ((gw (s b) (s a) : ℝ) : EReal) := by
  obtain ⟨M, Z, hZ, h⟩ := prR_real s
  have hp : ∀ e, 0 < Real.exp (s e - M) / Z := fun e => div_pos (Real.exp_pos _) hZ
  rw [h, h, ← EReal.coe_add, div_real _ _ (add_pos (hp a) (hp b)).ne', div_real _ _ (add_pos (hp a) (hp b)).ne']
  rw [← add_div, div_div_div_cancel_right₀ hZ.ne', div_div_div_cancel_right₀ hZ.ne']
  exact ⟨by rw [shift_gw], by rw [add_comm, shift_gw]⟩

/-! ## Sums with nonnegative factors -/

theorem mul_sum_nonneg {ι : Type} (S : Finset ι) (a : ℝ) (ha : 0 ≤ a) (f : ι → EReal) : ∑ i ∈ S, (a : EReal) * f i = (a : EReal) * ∑ i ∈ S, f i := by
  classical
  induction S using Finset.induction_on with
  | empty => simp
  | insert b S hb ih =>
    rw [Finset.sum_insert hb, Finset.sum_insert hb, ih, EReal.left_distrib_of_nonneg_of_ne_top (by exact_mod_cast ha) (EReal.coe_ne_top a)]

/-- A word compared with a number below 64. -/
theorem eq_word (i : BitVec 32) (n : ℕ) (hn : n < 64) (f : EReal) :
    Scalar.select (IntOp.cmpi .eq i (BitVec.ofNat 32 n)) f 0 = if i.toNat = n then f else 0 := by
  rw [sel_def]
  have : IntOp.cmpi .eq i (BitVec.ofNat 32 n) = 1#1 ↔ i.toNat = n := by
    rw [IntOp.cmpi_eq]
    constructor
    · rintro rfl; rw [BitVec.toNat_ofNat]; omega
    · intro h; apply BitVec.eq_of_toNat_eq; rw [BitVec.toNat_ofNat]; omega
  simp only [this]

/-- The score picked by a mask over the experts. -/
theorem pick_word (i : BitVec 32) (hi : i.toNat < 64) (f : Fin 64 → EReal) :
    ∑ e : Fin 64, Scalar.select (IntOp.cmpi .eq (BitVec.ofNat 32 e.val) i) (f e) 0 = f ⟨i.toNat, hi⟩ := by
  have h : ∀ e : Fin 64, Scalar.select (IntOp.cmpi .eq (BitVec.ofNat 32 e.val) i) (f e) 0 = if e = ⟨i.toNat, hi⟩ then f e else 0 := by
    intro e
    rw [sel_def]
    have : IntOp.cmpi .eq (BitVec.ofNat 32 e.val) i = 1#1 ↔ e = ⟨i.toNat, hi⟩ := by
      rw [IntOp.cmpi_eq]
      have := e.isLt
      constructor
      · rintro rfl; apply Fin.ext; show e.val = (BitVec.ofNat 32 e.val).toNat; rw [BitVec.toNat_ofNat]; omega
      · intro h; apply BitVec.eq_of_toNat_eq; rw [BitVec.toNat_ofNat, congrArg Fin.val h]
        show i.toNat % 2 ^ 32 = i.toNat; omega
    simp only [this]
  simp only [h]
  rw [Finset.sum_ite_eq' Finset.univ]
  simp

/-! ## The sum over the devices -/

/-- A token's part from every device, where each holds the tokens, the routing weights and the experts' names whole and
    its own four experts. -/
theorem sum_parts (I : Inp Ideal) (X : Vec Ideal S1024x512 .bf16) (IX : Vec Ideal S1024x2 .i32)
    (W : Fin 64 → Fin 512 → Fin 1024 → EReal) (a b : ℝ) (ha : 0 ≤ a) (hb : 0 ≤ b) (t h : Fin 1024)
    (hx : ∀ d k, I.x d (ix2 t k) = X (ix2 t k)) (hi : ∀ d j, I.idx d (ix2 t j) = IX (ix2 t j))
    (hw : ∀ (d : Dev nD) (l : Fin 4) (k : Fin 512) (e : Fin 64), e.val = 4 * d.val + l.val → I.ew d (ix3 l k h) = W e k h)
    (hg0 : ∀ d, G0 I d (ix2 t 0) = (a : EReal)) (hg1 : ∀ d, G1 I d (ix2 t 0) = (b : EReal))
    (h0 : (IX (ix2 t 0)).toNat < 64) (h1 : (IX (ix2 t 1)).toNat < 64) :
    ∑ d : Dev nD, partD I d t h = (a : EReal) * (∑ k : Fin 512, X (ix2 t k) * W ⟨_, h0⟩ k h) + (b : EReal) * (∑ k : Fin 512, X (ix2 t k) * W ⟨_, h1⟩ k h) := by
  -- a gate for an expert that is neither of the token's two is zero
  let α : Fin 64 → ℝ := fun e => if (IX (ix2 t 0)).toNat = e.val then a else 0
  let β : Fin 64 → ℝ := fun e => if (IX (ix2 t 1)).toNat = e.val then b else 0
  have hα : ∀ e, 0 ≤ α e := fun e => by show 0 ≤ ite _ _ _; split <;> simp [ha]
  have hβ : ∀ e, 0 ≤ β e := fun e => by show 0 ≤ ite _ _ _; split <;> simp [hb]
  let S : Fin 64 → EReal := fun e => ∑ k : Fin 512, X (ix2 t k) * W e k h
  have hgate : ∀ (d : Dev nD) (l : Fin 4) (e : Fin 64), e.val = 4 * d.val + l.val → gD I d l t = (α e : EReal) + (β e : EReal) := by
    intro d l e he
    have hn : nD = 16 := rfl
    have hd := d.isLt
    unfold gD
    rw [hi, hi, hg0, hg1, eq_word _ _ (by omega), eq_word _ _ (by omega), ← he]
    refine congrArg₂ _ ?_ ?_
    · show _ = ((ite _ _ _ : ℝ) : EReal); split <;> simp
    · show _ = ((ite _ _ _ : ℝ) : EReal); split <;> simp
  have hterm : ∀ (d : Dev nD) (l : Fin 4) (e : Fin 64), e.val = 4 * d.val + l.val →
      ∑ k : Fin 512, I.x d (ix2 t k) * gD I d l t * I.ew d (ix3 l k h) = (α e : EReal) * S e + (β e : EReal) * S e := by
    intro d l e he
    rw [← mul_sum_nonneg _ _ (hα e), ← mul_sum_nonneg _ _ (hβ e), ← Finset.sum_add_distrib]
    refine Finset.sum_congr rfl fun k _ => ?_
    rw [hx, hgate d l e he, hw d l k e he, mul_comm (X (ix2 t k)), mul_assoc,
      EReal.right_distrib_of_nonneg (by exact_mod_cast hα e) (by exact_mod_cast hβ e)]
  have hpart : ∀ d : Dev nD, partD I d t h = ∑ l : Fin 4, ∑ k : Fin 512, I.x d (ix2 t k) * gD I d l t * I.ew d (ix3 l k h) := by
    intro d
    unfold partD
    split
    · rfl
    · rename_i hm
      symm
      refine Finset.sum_eq_zero fun l _ => ?_
      have hn : nD = 16 := rfl
      have hd := d.isLt
      have hl := l.isLt
      rw [hterm d l ⟨4 * d.val + l.val, by omega⟩ rfl]
      rw [show hitD I d t = hitB (w2 d) (IX (ix2 t 0)) (IX (ix2 t 1)) from by unfold hitD; rw [hi, hi], hitB_iff d h0 h1] at hm
      rw [show α ⟨4 * d.val + l.val, by omega⟩ = 0 from if_neg (by show ¬ (IX (ix2 t 0)).toNat = 4 * d.val + l.val; omega),
        show β ⟨4 * d.val + l.val, by omega⟩ = 0 from if_neg (by show ¬ (IX (ix2 t 1)).toNat = 4 * d.val + l.val; omega)]
      simp
  have hall : ∑ d : Dev nD, partD I d t h = ∑ e : Fin 64, ((α e : EReal) * S e + (β e : EReal) * S e) := by
    rw [← Equiv.sum_comp (finProdFinEquiv (m := 16) (n := 4)), Fintype.sum_prod_type]
    refine Finset.sum_congr rfl fun d _ => ?_
    rw [hpart]
    refine Finset.sum_congr rfl fun l _ => hterm d l _ ?_
    show l.val + 4 * d.val = 4 * d.val + l.val
    omega
  rw [hall, Finset.sum_add_distrib]
  refine congrArg₂ _ ?_ ?_
  · rw [Finset.sum_eq_single (⟨_, h0⟩ : Fin 64)]
    · show ((ite _ _ _ : ℝ) : EReal) * _ = _; rw [if_pos rfl]
    · intro e _ he
      rw [show α e = 0 from if_neg (fun h => he (Fin.ext h.symm))]; simp
    · intro h; exact absurd (Finset.mem_univ _) h
  · rw [Finset.sum_eq_single (⟨_, h1⟩ : Fin 64)]
    · show ((ite _ _ _ : ℝ) : EReal) * _ = _; rw [if_pos rfl]
    · intro e _ he
      rw [show β e = 0 from if_neg (fun h => he (Fin.ext h.symm))]; simp
    · intro h; exact absurd (Finset.mem_univ _) h

end Cert.Moe

end
-- ==== Proof.Ref.lean ====
module

public import proofs.«01_k».proof.Proof.Gates
public import proofs.«01_k».proof.Proof.Gen.ReferenceIdeal.Run
public import Idealize.ShloMosaic.Lib.Tactic.CleanTypes

/-!
# The reference, index by index

Its result at a token and a feature is each of the token's two experts' product with the token, by that expert's gate.
-/

@[expose] public section

set_option maxRecDepth 16384

noncomputable section

namespace Cert.Moe

open Cert.ReferenceIdeal Cert.ReferenceIdeal.Gen Cert.ReferenceIdeal.Value
open Idealize.ShloMosaic Idealize.ShloMosaic.TcCoe

/-- The gather of the probabilities. -/
abbrev dP := gather_S1024x64_S1024x2x1_S1024x2_n_1_0_0_1_2_11
/-- The gather of the experts. -/
abbrev dW := gather_S64x512x1024_S1024x1_S1024x512x1024_12_0_n_n_0_1_15121024

/-- The picked probabilities: each token's, at its experts' names. -/
theorem gatherP_at {α : Type} (x : S1024x64.Idx → α) (idx : IVec S1024x2x1 32) (t : Fin 1024) (j : Fin 2) :
    Host.gather dP x idx (ix2 t j) = x (ix2 t ⟨min (idx (ix3 t j 0)).toInt.toNat 63, by omega⟩) := by
  unfold Host.gather
  congr 1
  funext a
  refine Fin.ext ?_
  show dP.start (ix2 t j) idx a + dP.batchCoord (ix2 t j) a + dP.offCoord (ix2 t j) a = _
  match a with
  | 0 =>
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ dP.operandBatchingDims from List.mem_singleton.mpr rfl)]
    rfl
  | 1 =>
    rw [GatherDims.batchCoord_eq_zero _ _ _ (fun h => by simp [dP, gather_S1024x64_S1024x2x1_S1024x2_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ dP.startIndexMap from List.mem_singleton.mpr rfl)]
    have hsi : dP.siIdx (ix2 t j) ⟨List.idxOf (1 : Fin 2) dP.startIndexMap,
        List.idxOf_lt_length_iff.2 (List.mem_singleton.mpr rfl)⟩ = ix3 t j 0 := by
      funext b; refine Fin.ext ?_
      match b with
      | ⟨0, _⟩ => rfl
      | ⟨1, _⟩ => rfl
      | ⟨2, _⟩ => rfl
    rw [hsi]
    rfl

/-- The picked experts' weights, a token's whole. -/
theorem gatherW_at {α : Type} (x : S64x512x1024.Idx → α) (idx : IVec S1024x1 32) (t : Fin 1024) (k : Fin 512) (h : Fin 1024) :
    Host.gather dW x idx (ix3 t k h) = x (ix3 ⟨min (idx (ix2 t 0)).toInt.toNat 63, by omega⟩ k h) := by
  unfold Host.gather
  congr 1
  funext a
  refine Fin.ext ?_
  show dW.start (ix3 t k h) idx a + dW.batchCoord (ix3 t k h) a + dW.offCoord (ix3 t k h) a = _
  have hb : dW.batchCoord (ix3 t k h) a = 0 := GatherDims.batchCoord_eq_zero _ _ _ (fun h => by simp [dW, gather_S64x512x1024_S1024x1_S1024x512x1024_12_0_n_n_0_1_15121024] at h)
  rw [hb]
  simp only [Nat.add_zero]
  match a with
  | 0 =>
    rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ dW.startIndexMap from List.mem_singleton.mpr rfl)]
    have hsi : dW.siIdx (ix3 t k h) ⟨List.idxOf (0 : Fin 3) dW.startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    rfl
  | 1 =>
    unfold GatherDims.start
    rw [dif_neg (by decide)]
    rw [Nat.zero_add]
    unfold GatherDims.offCoord
    rw [dif_pos (by decide)]
    rfl
  | 2 =>
    unfold GatherDims.start
    rw [dif_neg (by decide)]
    rw [Nat.zero_add]
    unfold GatherDims.offCoord
    rw [dif_pos (by decide)]
    rfl

/-- A token's scores. -/
def scR (x : S1024x512.Idx → EReal) (rw : S512x64.Idx → EReal) (t : Fin 1024) (e : Fin 64) : EReal := ∑ k : Fin 512, x (ix2 t k) * rw (ix2 k e)

set_option backward.proofsInPublic true in
/-- The probability's column an expert's name picks: a negative name counts from the end. -/
def atR (i : BitVec 32) : Fin 64 :=
  ⟨min (Scalar.select (IntOp.cmpi .slt i 0#32) (IntOp.addi i 64#32) i).toInt.toNat 63, by omega⟩

set_option backward.proofsInPublic true in
/-- The expert a name picks. -/
def atW (i : BitVec 32) : Fin 64 := ⟨min i.toInt.toNat 63, by omega⟩

/-- The reference's result at a token and a feature. -/
def refB (x : S1024x512.Idx → EReal) (rw : S512x64.Idx → EReal) (idx : S1024x2.Idx → BitVec 32) (ew : S64x512x1024.Idx → EReal) (t h : Fin 1024) : EReal :=
  Ideal.div (prR (scR x rw t) (atR (idx (ix2 t 0)))) (prR (scR x rw t) (atR (idx (ix2 t 0))) + prR (scR x rw t) (atR (idx (ix2 t 1))))
      * (∑ k : Fin 512, x (ix2 t k) * ew (ix3 (atW (idx (ix2 t 0))) k h))
    + Ideal.div (prR (scR x rw t) (atR (idx (ix2 t 1)))) (prR (scR x rw t) (atR (idx (ix2 t 0))) + prR (scR x rw t) (atR (idx (ix2 t 1))))
      * (∑ k : Fin 512, x (ix2 t k) * ew (ix3 (atW (idx (ix2 t 1))) k h))

theorem res_at (m : (ℓ : Loc nD τ sig) → Buf (Elt Ideal) ℓ) (c : Dev nD) (t h : Fin 1024) :
    res_main_v28 (F := Ideal) m c (ix2 t h) = refB (m (c.tc.loc main_arg0)) (m (c.tc.loc main_arg1)) (m (c.tc.loc main_arg2)) (m (c.tc.loc main_arg3)) t h := by
  unfold res_main_v28
  clean_types
  generalize (m (c.tc.loc main_arg0)) = x
  generalize (m (c.tc.loc main_arg1)) = rw
  generalize (m (c.tc.loc main_arg2)) = idx
  generalize (m (c.tc.loc main_arg3)) = ew
  pointwise []
  simp only [gatherP_at, gatherW_at]
  pointwise []
  rfl

theorem toInt_small (i : BitVec 32) (h : i.toNat < 64) : i.toInt = i.toNat := by
  rw [BitVec.toInt_eq_toNat_cond, if_pos (by omega)]

theorem atW_small (i : BitVec 32) (h : i.toNat < 64) : atW i = ⟨i.toNat, h⟩ := by
  apply Fin.ext
  show min i.toInt.toNat 63 = i.toNat
  rw [toInt_small i h]; omega

theorem atR_small (i : BitVec 32) (h : i.toNat < 64) : atR i = ⟨i.toNat, h⟩ := by
  apply Fin.ext
  show min (Scalar.select (IntOp.cmpi .slt i 0#32) (IntOp.addi i 64#32) i).toInt.toNat 63 = i.toNat
  rw [sel_def, if_neg (by
    rw [IntOp.cmpi_slt, toInt_small i h]
    simp), toInt_small i h]
  omega

/-- The reference where the scores are numbers and the names are experts'. -/
theorem refB_real (x : S1024x512.Idx → EReal) (rw : S512x64.Idx → EReal) (idx : S1024x2.Idx → BitVec 32) (ew : S64x512x1024.Idx → EReal) (t h : Fin 1024)
    (s : Fin 64 → ℝ) (hs : ∀ e, scR x rw t e = (s e : EReal)) (h0 : (idx (ix2 t 0)).toNat < 64) (h1 : (idx (ix2 t 1)).toNat < 64) :
    refB x rw idx ew t h = ((gw (s ⟨_, h0⟩) (s ⟨_, h1⟩) : ℝ) : EReal) * (∑ k : Fin 512, x (ix2 t k) * ew (ix3 ⟨_, h0⟩ k h))
      + ((gw (s ⟨_, h1⟩) (s ⟨_, h0⟩) : ℝ) : EReal) * (∑ k : Fin 512, x (ix2 t k) * ew (ix3 ⟨_, h1⟩ k h)) := by
  unfold refB
  rw [show scR x rw t = fun e => (s e : EReal) from funext hs, atR_small _ h0, atR_small _ h1, atW_small _ h0, atW_small _ h1,
    (prR_gw s _ _).1, (prR_gw s _ _).2]

end Cert.Moe

end
-- ==== Proof.Pre.lean ====
module

public import proofs.«01_k».proof.Proof.Ref
public import proofs.«01_k».proof.Proof.Gen.Pre_routed_KernelIdeal
public import Idealize.ShloMosaic.Lib.IndicatorCount

/-!
# What the precondition gives

Every name is an expert's, no device has more than 64 tokens of a quarter, and the tokens and routing weights are numbers.
-/

@[expose] public section

set_option maxRecDepth 16384

noncomputable section

namespace Cert.Moe

open Cert.KernelIdeal Cert.KernelIdeal.Gen
open Idealize.ShloMosaic Idealize.ShloMosaic.TcCoe

/-- A conjunction of bits is one only where every bit is. -/
theorem fold_andi_one {ι : Type} (S : Finset ι) (f : ι → BitVec 1) (h : S.fold IntOp.andi 1#1 f = 1#1) : ∀ k ∈ S, f k = 1#1 := by
  classical
  induction S using Finset.induction_on with
  | empty => intro k hk; exact absurd hk (Finset.notMem_empty k)
  | insert a S ha ih =>
    rw [Finset.fold_insert ha, IntOp.andi_eq_one] at h
    intro k hk
    rcases Finset.mem_insert.mp hk with rfl | hk
    · exact h.1
    · exact ih h.2 k hk

/-- An extended number whose size is finite is a number. -/
theorem real_of_abs (x : EReal) (h : (BitVec.ofBool (decide (FloatOps.absf (F := Ideal) (φ := .f32) x < Ideal.ofBits .f32 2139095040#32)) : BitVec 1) = 1#1) :
    ∃ r : ℝ, x = (r : EReal) := by
  have ht : Ideal.ofBits .f32 2139095040#32 = (⊤ : EReal) := by simp [Ideal.ofBits, Ideal.ieee]
  rw [ht] at h
  induction x using EReal.rec with
  | coe r => exact ⟨r, rfl⟩
  | bot =>
    exfalso
    have : FloatOps.absf (F := Ideal) (φ := .f32) (⊥ : EReal) = (⊤ : EReal) := by
      show max (⊥ : EReal) (-⊥) = ⊤
      simp
    rw [this] at h
    simp at h
  | top =>
    exfalso
    have : FloatOps.absf (F := Ideal) (φ := .f32) (⊤ : EReal) = (⊤ : EReal) := by
      show max (⊤ : EReal) (-⊤) = ⊤
      simp
    rw [this] at h
    simp at h

/-- The first name of device `c`'s and the first past them, as words. -/
theorem first_word : ∀ c : Fin 16, (IntOp.muli (4#32) (BitVec.ofNat 32 c.val)).toInt = 4 * (c.val : ℤ)
    ∧ (IntOp.addi (IntOp.muli (4#32) (BitVec.ofNat 32 c.val)) 4#32).toInt = 4 * (c.val : ℤ) + 4 := by decide +kernel

/-- A name between those is one of device `c`'s. -/
theorem held_word (c : Fin 16) (i : BitVec 32) (hi : i.toNat < 64) :
    IntOp.andi (IntOp.cmpi .sle (IntOp.muli (4#32) (BitVec.ofNat 32 c.val)) i)
      (IntOp.cmpi .slt i (IntOp.addi (IntOp.muli (4#32) (BitVec.ofNat 32 c.val)) 4#32)) = 1#1 ↔ i.toNat / 4 = c.val := by
  rw [IntOp.andi_eq_one, IntOp.cmpi_sle, IntOp.cmpi_slt, (first_word c).1, (first_word c).2, toInt_small i hi]
  omega

/-- What the proof uses of the precondition. -/
def Routed (x : Vec Ideal S1024x512 .bf16) (rw : Vec Ideal S512x64 .bf16) (idx : Vec Ideal S1024x2 .i32) : Prop :=
    (∀ t j, (idx (ix2 t j)).toNat < 64)
    ∧ (∀ (c : Dev nD) (q : Fin 4), (Finset.univ.filter fun r : Fin 256 =>
        hitB (w2 c) (idx (ix2 (tokn q r) 0)) (idx (ix2 (tokn q r) 1)) = 1#1).card ≤ 64)
    ∧ (∀ t k, ∃ r : ℝ, x (ix2 t k) = (r : EReal)) ∧ (∀ k e, ∃ r : ℝ, rw (ix2 k e) = (r : EReal))

/-- The precondition, of one device's copies. -/
theorem routed_gives (x : Vec Ideal S1024x512 .bf16) (rw : Vec Ideal S512x64 .bf16) (idx : Vec Ideal S1024x2 .i32) (ew : Vec Ideal S4x512x1024 .bf16)
    (h : Cert.Pre_routed_KernelIdeal.fn (F := Ideal) x rw idx ew = fun _ => 1#1) : Routed x rw idx := by
  replace h := congrFun h (fun a => a.elim0)
  revert h
  unfold Cert.Pre_routed_KernelIdeal.fn Cert.Pre_routed_KernelIdeal.fn_part1 Cert.Pre_routed_KernelIdeal.fn_part2
  dsimp only
  pointwise []
  intro h
  rw [IntOp.andi_eq_one, IntOp.andi_eq_one, IntOp.andi_eq_one] at h
  obtain ⟨⟨hi, hc⟩, hx, hr⟩ := h
  have hsmall : ∀ t j, (idx (ix2 t j)).toNat < 64 := by
    intro t j
    have e := fold_andi_one _ _ hi (t, j) (Finset.mem_univ _)
    dsimp only at e
    rw [IntOp.andi_eq_one, IntOp.cmpi_sge, IntOp.cmpi_slt] at e
    obtain ⟨e1, e2⟩ := e
    generalize idx (ix2 t j) = w at e1 e2
    have hz : (0#32).toInt = 0 := rfl
    have h64 : (64#32).toInt = 64 := rfl
    rw [hz] at e1
    rw [h64] at e2
    rw [BitVec.toInt_eq_toNat_cond] at e1 e2
    split at e1 <;> omega
  refine ⟨hsmall, fun c q => ?_, fun t k => ?_, fun k e => ?_⟩
  · have e := fold_andi_one _ _ hc (q, c) (Finset.mem_univ _)
    dsimp only at e
    rw [IndicatorCount.fold_addi_setWidth_eq_card, IntOp.cmpi_sle] at e
    have hcard : (Finset.univ.filter fun r : Fin 256 => hitB (w2 c) (idx (ix2 (tokn q r) 0)) (idx (ix2 (tokn q r) 1)) = 1#1).card ≤ 256 :=
      (Finset.card_le_univ _).trans (by simp)
    have hsame : ∀ r : Fin 256, (IntOp.ori (IntOp.andi (IntOp.cmpi .sle (IntOp.muli (4#32) (BitVec.ofNat 32 c.val)) (idx (ix2 ⟨q.val * 256 + r.val, by omega⟩ 0)))
            (IntOp.cmpi .slt (idx (ix2 ⟨q.val * 256 + r.val, by omega⟩ 0)) (IntOp.addi (IntOp.muli (4#32) (BitVec.ofNat 32 c.val)) 4#32)))
          (IntOp.andi (IntOp.cmpi .sle (IntOp.muli (4#32) (BitVec.ofNat 32 c.val)) (idx (ix2 ⟨q.val * 256 + r.val, by omega⟩ 1)))
            (IntOp.cmpi .slt (idx (ix2 ⟨q.val * 256 + r.val, by omega⟩ 1)) (IntOp.addi (IntOp.muli (4#32) (BitVec.ofNat 32 c.val)) 4#32))) = 1#1)
        ↔ hitB (w2 c) (idx (ix2 (tokn q r) 0)) (idx (ix2 (tokn q r) 1)) = 1#1 := by
      intro r
      rw [hitB_iff c (hsmall _ _) (hsmall _ _), IntOp.ori_eq_one, held_word c _ (hsmall _ _), held_word c _ (hsmall _ _),
        show (⟨q.val * 256 + r.val, by omega⟩ : Fin 1024) = tokn q r from Fin.ext (by show q.val * 256 + r.val = 256 * q.val + r.val; omega)]
    rw [Finset.filter_congr fun r _ => hsame r] at e
    generalize (Finset.univ.filter fun r : Fin 256 => hitB (w2 c) (idx (ix2 (tokn q r) 0)) (idx (ix2 (tokn q r) 1)) = 1#1).card = n at e hcard ⊢
    have h64 : (64#32).toInt = 64 := rfl
    rw [h64, BitVec.toInt_eq_toNat_cond, BitVec.toNat_ofNat] at e
    rw [Nat.mod_eq_of_lt (by omega), if_pos (by omega)] at e
    omega
  · exact real_of_abs _ (fold_andi_one _ _ hx (t, k) (Finset.mem_univ _))
  · exact real_of_abs _ (fold_andi_one _ _ hr (k, e) (Finset.mem_univ _))

end Cert.Moe

end
-- ==== Proof.Value.lean ====
module

public import proofs.«01_k».proof.Proof.Launch
public import proofs.«01_k».proof.Proof.Pre
public import Idealize.ShloMosaic.Lib.Layout
public import Idealize.ShloMosaic.Lib.Pipeline.ValueKit.Geometry

/-!
# The kernel's result is the reference's

What each device's result array ends holding, as a function of the arguments, and its equality with the reference's.
-/

@[expose] public section

set_option maxRecDepth 16384

noncomputable section

namespace Cert.Moe

open Cert.KernelIdeal Cert.KernelIdeal.Gen
open Idealize.ShloMosaic Idealize.ShloMosaic.TcCoe
open Idealize.SL Idealize.SL.Sem

section Arrays
variable {F : FTy → Type} [FloatOps F] (m : (ℓ : Loc nD τ sig) → Buf (Elt F) ℓ)

/-- The result is written back once, and whole. -/
theorem whole_out : win0_4.WholeAt (0 : Fin 1) :=
  ⟨by decide +kernel, fun t _ => Fin.eq_of_val_eq (by have := t.isLt; have : grid0.N = 1 := rfl; show t.val = 0; omega),
    fun a => ⟨by fin_cases a <;> rfl, by fin_cases a <;> rfl⟩⟩

/-- The result's array ends holding what the body left in its window. -/
theorem finalA_out (c : Dev nD) : finalA m c (4 : Fin 5) = OUT (inputs m) c := by
  unfold finalA
  refine (dats m 0 c).arrAt_eq_of_after_last (4 : Fin 5) (0 : Fin 1) whole_out (OUT (inputs m) c) fun j => ?_
  rfl

/-- The arguments as staged are the arguments. -/
theorem inputs_x (c : Dev nD) : (inputs m).x c = m ((c : Thread nD τ).loc main_arg0) := by
  funext i
  refine congrArg (m ((c : Thread nD τ).loc main_arg0)) ?_
  funext a
  exact Fin.ext (Pipeline.Window.rect_emb_val_of_index_zero win0_0 (0 : Fin 1) a rfl i)
theorem inputs_rw (c : Dev nD) : (inputs m).rw c = m ((c : Thread nD τ).loc main_arg1) := by
  funext i
  refine congrArg (m ((c : Thread nD τ).loc main_arg1)) ?_
  funext a
  exact Fin.ext (Pipeline.Window.rect_emb_val_of_index_zero win0_1 (0 : Fin 1) a rfl i)
theorem inputs_idx (c : Dev nD) : (inputs m).idx c = m ((c : Thread nD τ).loc main_arg2) := by
  funext i
  refine congrArg (m ((c : Thread nD τ).loc main_arg2)) ?_
  funext a
  exact Fin.ext (Pipeline.Window.rect_emb_val_of_index_zero win0_2 (0 : Fin 1) a rfl i)
theorem inputs_ew (c : Dev nD) : (inputs m).ew c = m ((c : Thread nD τ).loc main_arg3) := by
  funext i
  refine congrArg (m ((c : Thread nD τ).loc main_arg3)) ?_
  funext a
  exact Fin.ext (Pipeline.Window.rect_emb_val_of_index_zero win0_3 (0 : Fin 1) a rfl i)
end Arrays

/-- An expert of a device's block is the whole array's. -/
theorem block_at (c : Dev nD) (E : Cert.ReferenceIdeal.S64x512x1024.Idx → EReal) (l : Fin 4) (k : Fin 512) (h : Fin 1024) (e : Fin 64) (he : e.val = 4 * c.val + l.val) :
    Layout.block ⟨3, ![4, 512, 1024]⟩ ⟨3, ![64, 512, 1024]⟩ 0 16 c E (by decide) (ix3 l k h) = E (ix3 e k h) := by
  rw [Layout.block_apply]
  refine congrArg E ?_
  funext a
  refine Fin.ext ?_
  rw [Layout.Tiles.idx_val]
  match a with
  | 0 => show c.val * 4 + l.val = e.val; omega
  | 1 => rfl
  | 2 => rfl

/-- A token's score for an expert, where the tokens and routing weights are numbers. -/
theorem sc_real (x : S1024x512.Idx → EReal) (rw : S512x64.Idx → EReal) (hx : ∀ t k, ∃ r : ℝ, x (ix2 t k) = (r : EReal))
    (hr : ∀ k e, ∃ r : ℝ, rw (ix2 k e) = (r : EReal)) (t : Fin 1024) : ∃ s : Fin 64 → ℝ, ∀ e, scR x rw t e = (s e : EReal) := by
  choose X hX using hx
  choose R hR using hr
  refine ⟨fun e => ∑ k : Fin 512, X t k * R k e, fun e => ?_⟩
  unfold scR
  rw [← sum_real]
  exact Finset.sum_congr rfl fun k _ => by rw [hX, hR, EReal.coe_mul]

/-- The score a device picks for a name. -/
theorem pkB_at (x : Vec Ideal S1024x512 .bf16) (rw : Vec Ideal S512x64 .bf16) (i : Vec Ideal S1024x1 .i32) (t : Fin 1024) (w : BitVec 32)
    (hw : i (ix2 t 0) = w) (h : w.toNat < 64) : pkB x rw i t = scR x rw t ⟨_, h⟩ := by
  unfold pkB
  rw [hw]
  exact pick_word w h (scR x rw t)

/-- Every device's result is the reference's, where each device holds the arguments as the claim says and the precondition
    holds. -/
theorem OUT_ref (I : Inp Ideal) (x : Vec Ideal S1024x512 .bf16) (rw : Vec Ideal S512x64 .bf16) (idx : Vec Ideal S1024x2 .i32)
    (E : Cert.ReferenceIdeal.S64x512x1024.Idx → EReal) (hr : Routed x rw idx)
    (hx : ∀ d, I.x d = x) (hrw : ∀ d, I.rw d = rw) (hi : ∀ d, I.idx d = idx)
    (hw : ∀ d, I.ew d = Layout.block ⟨3, ![4, 512, 1024]⟩ ⟨3, ![64, 512, 1024]⟩ 0 16 d E (by decide)) (c : Dev nD) :
    OUT I c = fun i => refB x rw idx E (i 0) (i 1) := by
  obtain ⟨h64, hcap, hxr, hrr⟩ := hr
  have hf : Fits I := fun d q => by
    unfold hitD
    rw [hi]
    exact hcap d q
  suffices key : ∀ t h : Fin 1024, OUT I c (ix2 t h) = refB x rw idx E t h from
    funext fun i => (congrArg (OUT I c) (eq_ix2 i)).trans (key (i 0) (i 1))
  intro t h
  obtain ⟨s, hs⟩ := sc_real x rw hxr hrr t
  have h0 := h64 t 0
  have h1 := h64 t 1
  have e0 : ∀ d : Dev nD, ∀ (o : ∀ a, (![0, 0] : Fin 2 → ℕ) a + S1024x1.size a ≤ S1024x2.size a),
      idxM.view.readAt (Elt Ideal) (Rect.unit (s := S1024x2) ![0, 0] S1024x1.size o).toLoadRect (I.idx d) (ix2 t 0) = idx (ix2 t 0) :=
    fun d o => (rdI1024 _ _ o t 0 rfl rfl).trans (by rw [hi])
  have e1 : ∀ d : Dev nD, ∀ (o : ∀ a, (![0, 1] : Fin 2 → ℕ) a + S1024x1.size a ≤ S1024x2.size a),
      idxM.view.readAt (Elt Ideal) (Rect.unit (s := S1024x2) ![0, 1] S1024x1.size o).toLoadRect (I.idx d) (ix2 t 0) = idx (ix2 t 1) :=
    fun d o => (rdI1024 _ _ o t 1 rfl rfl).trans (by rw [hi])
  rw [OUT_at hf, refB_real x rw idx E t h s hs h0 h1]
  refine sum_parts I x idx (fun e k h => E (ix3 e k h)) _ _ (gw_nonneg _ _) (gw_nonneg _ _) t h (fun d k => by rw [hx]) (fun d j => by rw [hi]) ?_ ?_ ?_ h0 h1
  · intro d l k e he
    rw [hw]
    exact block_at d E l k h e he
  · intro d
    unfold G0
    rw [pay7_at, hx, hrw, pkB_at _ _ _ _ _ (e0 d _) h0, pkB_at _ _ _ _ _ (e1 d _) h1, hs, hs, smB_fst]
  · intro d
    unfold G1
    rw [pay8_at, hx, hrw, pkB_at _ _ _ _ _ (e0 d _) h0, pkB_at _ _ _ _ _ (e1 d _) h1, hs, hs, smB_snd]

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_routed_KernelIdeal
public import proofs.«01_k».proof.Proof.Gen.Pre_routed_ReferenceIdeal
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

set_option maxRecDepth 100000 in
/-- The two prints have the same body. -/
theorem same_body : @Cert.Kernel.cc0_body Bits _ Cert.Kernel.Gen.facts = @Cert.KernelIdeal.cc0_body Bits _ Cert.KernelIdeal.Gen.facts := rfl

set_option maxRecDepth 100000 in
/-- So they have the same table of bodies. -/
theorem same_bodies : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l p
  match l, p with
  | ⟨0, _⟩, (t, s) =>
    dsimp only
    rw [same_body]

set_option maxRecDepth 100000 in
/-- And the same table of labels. -/
theorem same_table : @Cert.Kernel.defs Bits _ Cert.Kernel.Gen.facts = @Cert.KernelIdeal.defs Bits _ Cert.KernelIdeal.Gen.facts :=
  congrArg (Pipeline.defs (Cert.KernelIdeal.pcfgs (F := Bits))) same_bodies

/-- The kernel as compiled: it runs, leaves its arguments, and ends quiescent. -/
theorem frame_kernel : Cert.quiescent_Kernel := fun m ρ _ => by
  have h := (θ_run Cert.KernelIdeal.defs _ _).mono (fun r h => Cert.Moe.quiet (F := Bits) m r h) (Cert.Moe.run_main (F := Bits) m ρ)
  rw [← same_table] at h
  exact h

/-- The same text read over the extended reals. -/
theorem frame_ideal : Cert.quiescent_KernelIdeal := fun m ρ _ =>
  (θ_run Cert.KernelIdeal.defs _ _).mono (fun r h => Cert.Moe.quiet (F := Ideal) m r h) (Cert.Moe.run_main (F := Ideal) m ρ)

/-- The same, under the precondition, which it does not need. -/
theorem frame_ideal_pre : Cert.quiescent_KernelIdeal_pre_routed_KernelIdeal := fun m ρ _ =>
  (θ_run Cert.KernelIdeal.defs _ _).mono (fun r h => Cert.Moe.quiet (F := Ideal) m r h) (Cert.Moe.run_main (F := Ideal) m ρ)

/-- The reference has no counters, so none is ever raised. -/
theorem reference_sems (s : MemSt Cert.ReferenceIdeal.nD Cert.ReferenceIdeal.τ Cert.ReferenceIdeal.sig (Elt Ideal)) : s.sem = fun _ => 0 :=
  sem_eq_zero_of_no_sems (by decide) s

/-- The reference runs, leaves its arguments, and ends quiescent. -/
theorem frame_reference : Cert.quiescent_ReferenceIdeal := fun m ρ _ =>
  (θ_run Cert.ReferenceIdeal.defs _ _).mono (fun r h => ⟨fun c => (h c).2, reference_sems r.2⟩) (Cert.ReferenceIdeal.Value.run (F := Ideal) m ρ)

/-- The same, under the precondition, which it does not need. -/
theorem frame_reference_pre : Cert.quiescent_ReferenceIdeal_pre_routed_ReferenceIdeal := fun m ρ _ =>
  (θ_run Cert.ReferenceIdeal.defs _ _).mono (fun r h => ⟨fun c => (h c).2, reference_sems r.2⟩) (Cert.ReferenceIdeal.Value.run (F := Ideal) m ρ)

/-- Every device ends holding what the reference computes of the whole arrays. -/
theorem algebraic : Cert.algebraic_KernelIdeal_ReferenceIdeal_pre_routed_KernelIdeal := fun m ρ m' ρ' hpre hargs => by
  have hr := Cert.Moe.routed_gives _ _ _ _ (hpre 0)
  rw [(hargs 0).1, (hargs 0).2.1, (hargs 0).2.2.1] at hr
  have hout : ∀ c, Cert.Moe.finalA m c (4 : Fin 5) = Cert.ReferenceIdeal.Value.res_main_v28 m' 0 := fun c => by
    refine (Cert.Moe.finalA_out m c).trans ?_
    refine (Cert.Moe.OUT_ref (Cert.Moe.inputs m) _ _ _ (m' (((0 : Dev Cert.ReferenceIdeal.nD).tc : Thread Cert.ReferenceIdeal.nD Cert.ReferenceIdeal.τ).loc Cert.ReferenceIdeal.main_arg3)) hr
      (fun d => (Cert.Moe.inputs_x m d).trans (hargs d).1) (fun d => (Cert.Moe.inputs_rw m d).trans (hargs d).2.1)
      (fun d => (Cert.Moe.inputs_idx m d).trans (hargs d).2.2.1) (fun d => (Cert.Moe.inputs_ew m d).trans (hargs d).2.2.2) c).trans ?_
    funext i
    exact (Cert.Moe.res_at m' 0 (i 0) (i 1)).symm.trans (congrArg (Cert.ReferenceIdeal.Value.res_main_v28 m' 0) (eq_ix2 i).symm)
  refine ⟨Cert.ReferenceIdeal.Value.res_main_v28 m' 0,
    (θ_run Cert.KernelIdeal.defs _ _).mono (fun r h c => ⟨(h.1 c (4 : Fin 5)).trans (hout c), (Cert.Moe.quiet (F := Ideal) m r h).1 c⟩)
      (Cert.Moe.run_main (F := Ideal) m ρ),
    (θ_run Cert.ReferenceIdeal.defs _ _).mono (fun r h => h 0) (Cert.ReferenceIdeal.Value.run (F := Ideal) m' ρ')⟩

/-- Everything claimed. -/
theorem claim : Cert.Claim :=
  ⟨Cert.Kernel.Gen.facts, Cert.KernelIdeal.Gen.facts, Cert.ReferenceIdeal.Gen.facts, Cert.Pre_routed_KernelIdeal.Gen.facts,
    Cert.Pre_routed_ReferenceIdeal.Gen.facts, frame_kernel, frame_ideal, frame_ideal_pre, frame_reference, frame_reference_pre, trivial, algebraic⟩

end Cert.Proof

end
